-- ==== Defs.lean ====
def Pre_Kernel [hPre_pos_in_rows : Cert.Pre_pos_in_rows.Facts] (m : (ℓ : Loc Cert.Kernel.nD Cert.Kernel.τ Cert.Kernel.sig) → Buf (Elt Bits) ℓ) : Prop :=
  ∀ c : Dev Cert.Kernel.nD,
    (Cert.Pre_pos_in_rows.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_pos_in_rows : Cert.Pre_pos_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_pos_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pos_in_rows [hPre_pos_in_rows : Cert.Pre_pos_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pos_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_pos_in_rows : Cert.Pre_pos_in_rows.Facts] (m : (ℓ : Loc Cert.Reference.nD Cert.Reference.τ Cert.Reference.sig) → Buf (Elt Bits) ℓ) : Prop :=
  ∀ c : Dev Cert.Reference.nD,
    (Cert.Pre_pos_in_rows.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_tables_of_segments : Cert.Pre_tables_of_segments.Facts] (m : (ℓ : Loc Cert.Kernel2.nD Cert.Kernel2.τ Cert.Kernel2.sig) → Buf (Elt Bits) ℓ) : Prop :=
  ∀ c : Dev Cert.Kernel2.nD,
    (Cert.Pre_tables_of_segments.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8)) (m ((c.tc : Thread Cert.Kernel2.nD Cert.Kernel2.τ).loc Cert.Kernel2.main_arg9)) (m ((c.tc : Thread Cert.Kernel2.nD Cert.Kernel2.τ).loc Cert.Kernel2.main_arg10)) (m ((c.tc : Thread Cert.Kernel2.nD Cert.Kernel2.τ).loc Cert.Kernel2.main_arg11)) (m ((c.tc : Thread Cert.Kernel2.nD Cert.Kernel2.τ).loc Cert.Kernel2.main_arg12)) (m ((c.tc : Thread Cert.Kernel2.nD Cert.Kernel2.τ).loc Cert.Kernel2.main_arg13))) = (fun _ => 1#1)

def Pre_Kernel2Ideal [hPre_tables_of_segments : Cert.Pre_tables_of_segments.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables_of_segments.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables_of_segments [hPre_tables_of_segments : Cert.Pre_tables_of_segments.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables_of_segments.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))) = (fun _ => 1#1)

def quiescent_Kernel [hKernel : Cert.Kernel.Facts] [hPre_pos_in_rows : Cert.Pre_pos_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_pos_in_rows : Cert.Pre_pos_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pos_in_rows [hReferenceIdeal : Cert.ReferenceIdeal.Facts] [hPre_pos_in_rows : Cert.Pre_pos_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pos_in_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_pos_in_rows : Cert.Pre_pos_in_rows.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_tables_of_segments : Cert.Pre_tables_of_segments.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] [hPre_tables_of_segments : Cert.Pre_tables_of_segments.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Reference2Ideal_pre_tables_of_segments [hReference2Ideal : Cert.Reference2Ideal.Facts] [hPre_tables_of_segments : Cert.Pre_tables_of_segments.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables_of_segments m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pos_in_rows : Cert.Pre_pos_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_pos_in_rows : Cert.Pre_pos_in_rows.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v7) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Kernel2_Kernel2Ideal : Prop :=
  True

def algebraic_Kernel2Ideal_Reference2Ideal [hKernel2Ideal : Cert.Kernel2Ideal.Facts] [hReference2Ideal : Cert.Reference2Ideal.Facts] [hPre_tables_of_segments : Cert.Pre_tables_of_segments.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v67) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hPre_pos_in_rows : Cert.Pre_pos_in_rows.Facts) (hPre_tables_of_segments : Cert.Pre_tables_of_segments.Facts),
    quiescent_Kernel (hKernel := hKernel) (hPre_pos_in_rows := hPre_pos_in_rows)
    ∧ quiescent_KernelIdeal (hKernelIdeal := hKernelIdeal) (hPre_pos_in_rows := hPre_pos_in_rows)
    ∧ quiescent_ReferenceIdeal (hReferenceIdeal := hReferenceIdeal)
    ∧ quiescent_ReferenceIdeal_pre_pos_in_rows (hReferenceIdeal := hReferenceIdeal) (hPre_pos_in_rows := hPre_pos_in_rows)
    ∧ quiescent_Reference (hReference := hReference) (hPre_pos_in_rows := hPre_pos_in_rows)
    ∧ quiescent_Kernel2 (hKernel2 := hKernel2) (hPre_tables_of_segments := hPre_tables_of_segments)
    ∧ quiescent_Kernel2Ideal (hKernel2Ideal := hKernel2Ideal) (hPre_tables_of_segments := hPre_tables_of_segments)
    ∧ quiescent_Reference2Ideal (hReference2Ideal := hReference2Ideal)
    ∧ quiescent_Reference2Ideal_pre_tables_of_segments (hReference2Ideal := hReference2Ideal) (hPre_tables_of_segments := hPre_tables_of_segments)
    ∧ preserves_Kernel_KernelIdeal
    ∧ algebraic_KernelIdeal_ReferenceIdeal (hKernelIdeal := hKernelIdeal) (hReferenceIdeal := hReferenceIdeal) (hPre_pos_in_rows := hPre_pos_in_rows)
    ∧ bitexact_Kernel_Reference (hKernel := hKernel) (hReference := hReference) (hPre_pos_in_rows := hPre_pos_in_rows)
    ∧ preserves_Kernel2_Kernel2Ideal
    ∧ algebraic_Kernel2Ideal_Reference2Ideal (hKernel2Ideal := hKernel2Ideal) (hReference2Ideal := hReference2Ideal) (hPre_tables_of_segments := hPre_tables_of_segments)
-- ==== Pre_pos_in_rows.lean ====
abbrev S65536 : Shape := ⟨1, ![65536]⟩
abbrev S65536x1024 : Shape := ⟨2, ![65536, 1024]⟩
abbrev S_ : Shape := ⟨0, ![]⟩

class Facts : Prop where
  bcast_S_S65536 : S_.BroadcastsInDim S65536 (![] : Fin 0 → Fin S65536.rank)

variable [Facts]

def fn {F : FTy → Type} [FloatOps F] (main_arg0 : IVec S65536 32) (main_arg1 : FVec F S65536x1024 .f32) : IVec S65536 1 :=
  let main_c : IVec S_ 32 := constantI S_ 32 0#32
  let main_v0 : IVec S65536 32 := broadcastInDim S65536 ![] bcast_S_S65536 main_c
  let main_v1 : IVec S65536 1 := cmpi .sge main_arg0 main_v0
  let main_c_0 : IVec S_ 32 := constantI S_ 32 65536#32
  let main_v2 : IVec S65536 32 := broadcastInDim S65536 ![] bcast_S_S65536 main_c_0
  let main_v3 : IVec S65536 1 := cmpi .slt main_arg0 main_v2
  let main_v4 : IVec S65536 1 := andi main_v1 main_v3
  main_v4
-- ==== Pre_tables_of_segments.lean ====
abbrev S65536 : Shape := ⟨1, ![65536]⟩
abbrev S367 : Shape := ⟨1, ![367]⟩
abbrev S65536x1152 : Shape := ⟨2, ![65536, 1152]⟩
abbrev S32x1024x512 : Shape := ⟨3, ![32, 1024, 512]⟩
abbrev S32x512x1024 : Shape := ⟨3, ![32, 512, 1024]⟩
abbrev S1x1024 : Shape := ⟨2, ![1, 1024]⟩
abbrev S1024 : Shape := ⟨1, ![1024]⟩
abbrev S366 : Shape := ⟨1, ![366]⟩
abbrev S1 : Shape := ⟨1, ![1]⟩
abbrev S_ : Shape := ⟨0, ![]⟩
abbrev S1x65536 : Shape := ⟨2, ![1, 65536]⟩
abbrev S367x1 : Shape := ⟨2, ![367, 1]⟩
abbrev S367x65536 : Shape := ⟨2, ![367, 65536]⟩

class Facts : Prop where
  slices_S367_S366_1 : S367.Slices ![1] S366
  slices_S367_S1_366 : S367.Slices ![366] S1
  concatenates_S366_S1_S367_d0 : Shape.Concatenates [S366, S1] S367 0
  slices_S367_S1_0 : S367.Slices ![0] S1
  slices_S367_S366_0 : S367.Slices ![0] S366
  concatenates_S1_S366_S367_d0 : Shape.Concatenates [S1, S366] S367 0
  bcast_S_S367 : S_.BroadcastsInDim S367 (![] : Fin 0 → Fin S367.rank)
  bcast_S65536_S1x65536_1 : S65536.BroadcastsInDim S1x65536 (![1] : Fin 1 → Fin S1x65536.rank)
  bcast_S367_S367x1_0 : S367.BroadcastsInDim S367x1 (![0] : Fin 1 → Fin S367x1.rank)
  bcast_S1x65536_S367x65536_0_1 : S1x65536.BroadcastsInDim S367x65536 (![0, 1] : Fin 2 → Fin S367x65536.rank)
  bcast_S367x1_S367x65536_0_1 : S367x1.BroadcastsInDim S367x65536 (![0, 1] : Fin 2 → Fin S367x65536.rank)
  bcast_S_S65536 : S_.BroadcastsInDim S65536 (![] : Fin 0 → Fin S65536.rank)

variable [Facts]

def fn_where {F : FTy → Type} [FloatOps F] (arg0 : IVec S367 1) (arg1 : IVec S367 1) (arg2 : IVec S367 1) : IVec S367 1 :=
  let v0 : IVec S367 1 := select arg0 arg1 arg2
  v0

def fn_part4 {F : FTy → Type} [FloatOps F] (main_arg0 : IVec S65536 32) (main_v0 : IVec S367 32) (main_v64 : IVec S367 1) (main_v77 : IVec S367x65536 1) (main_v80 : IVec S367x65536 1) : IVec S367x65536 1 :=
  let main_v81 : IVec S367x65536 1 := andi main_v77 main_v80
  let main_c_14 : IVec S_ 32 := constantI S_ 32 0#32
  let main_v82 : IVec S65536 32 := broadcastInDim S65536 ![] bcast_S_S65536 main_c_14
  let main_v83 : IVec S65536 1 := cmpi .sge main_arg0 main_v82
  let main_c_15 : IVec S_ 32 := constantI S_ 32 367#32
  let main_v84 : IVec S65536 32 := broadcastInDim S65536 ![] bcast_S_S65536 main_c_15
  let main_v85 : IVec S65536 1 := cmpi .slt main_arg0 main_v84
  let main_v86 : IVec S65536 1 := andi main_v83 main_v85
  let main_v87 : IVec S367x1 1 := broadcastInDim S367x1 ![0] bcast_S367_S367x1_0 main_v64
  let main_v88 : IVec S1x65536 1 := broadcastInDim S1x65536 ![1] bcast_S65536_S1x65536_1 main_v86
  let main_v89 : IVec S367x65536 1 := broadcastInDim S367x65536 ![0, 1] bcast_S367x1_S367x65536_0_1 main_v87
  let main_v90 : IVec S367x65536 1 := broadcastInDim S367x65536 ![0, 1] bcast_S1x65536_S367x65536_0_1 main_v88
  let main_v91 : IVec S367x65536 1 := andi main_v89 main_v90
  let main_v92 : IVec S1x65536 32 := broadcastInDim S1x65536 ![1] bcast_S65536_S1x65536_1 main_arg0
  let main_v93 : IVec S367x1 32 := broadcastInDim S367x1 ![0] bcast_S367_S367x1_0 main_v0
  let main_v94 : IVec S367x65536 32 := broadcastInDim S367x65536 ![0, 1] bcast_S1x65536_S367x65536_0_1 main_v92
  let main_v95 : IVec S367x65536 32 := broadcastInDim S367x65536 ![0, 1] bcast_S367x1_S367x65536_0_1 main_v93
  let main_v96 : IVec S367x65536 1 := cmpi .eq main_v94 main_v95
  let main_v97 : IVec S367x65536 1 := cmpi .eq main_v81 main_v96
  let main_v98 : IVec S367x65536 1 := andi main_v91 main_v97
  main_v98

def fn_part3 {F : FTy → Type} [FloatOps F] (main_arg0 : IVec S65536 32) (main_arg1 : IVec S367 32) (main_arg4 : IVec S367 32) (main_arg5 : IVec S367 32) (main_v0 : IVec S367 32) (main_v3 : IVec S367 32) (main_v10 : IVec S367 1) (main_v53 : IVec S367 1) (main_v57 : IVec S367 1) (main_v58 : IVec S367 32) : IVec S367x65536 1 :=
  let main_v59 : IVec S367 1 := cmpi .slt main_v0 main_v58
  let main_v60 : IVec S367 1 := andi main_v59 main_v10
  let main_v61 : IVec S367 1 := cmpi .eq main_arg1 main_v3
  let main_v62 : IVec S367 1 := andi main_v60 main_v61
  let main_v63 : IVec S367 1 := ori main_v57 main_v62
  let main_v64 : IVec S367 1 := andi main_v53 main_v63
  let main_v65 : IVec S65536 32 := iotaInDim S65536 32 0
  let main_v66 : IVec S1x65536 32 := broadcastInDim S1x65536 ![1] bcast_S65536_S1x65536_1 main_v65
  let main_c_12 : IVec S_ 32 := constantI S_ 32 256#32
  let main_v67 : IVec S367 32 := broadcastInDim S367 ![] bcast_S_S367 main_c_12
  let main_v68 : IVec S367 32 := muli main_arg1 main_v67
  let main_v69 : IVec S367 32 := addi main_v68 main_arg4
  let main_v70 : IVec S367x1 32 := broadcastInDim S367x1 ![0] bcast_S367_S367x1_0 main_v69
  let main_c_13 : IVec S_ 32 := constantI S_ 32 256#32
  let main_v71 : IVec S367 32 := broadcastInDim S367 ![] bcast_S_S367 main_c_13
  let main_v72 : IVec S367 32 := muli main_arg1 main_v71
  let main_v73 : IVec S367 32 := addi main_v72 main_arg5
  let main_v74 : IVec S367x1 32 := broadcastInDim S367x1 ![0] bcast_S367_S367x1_0 main_v73
  let main_v75 : IVec S367x65536 32 := broadcastInDim S367x65536 ![0, 1] bcast_S1x65536_S367x65536_0_1 main_v66
  let main_v76 : IVec S367x65536 32 := broadcastInDim S367x65536 ![0, 1] bcast_S367x1_S367x65536_0_1 main_v70
  let main_v77 : IVec S367x65536 1 := cmpi .sge main_v75 main_v76
  let main_v78 : IVec S367x65536 32 := broadcastInDim S367x65536 ![0, 1] bcast_S1x65536_S367x65536_0_1 main_v66
  let main_v79 : IVec S367x65536 32 := broadcastInDim S367x65536 ![0, 1] bcast_S367x1_S367x65536_0_1 main_v74
  let main_v80 : IVec S367x65536 1 := cmpi .slt main_v78 main_v79
  fn_part4 (F := F) main_arg0 main_v0 main_v64 main_v77 main_v80

def fn_part2 {F : FTy → Type} [FloatOps F] (main_arg0 : IVec S65536 32) (main_arg1 : IVec S367 32) (main_arg4 : IVec S367 32) (main_arg5 : IVec S367 32) (main_arg6 : IVec S367 32) (main_arg7 : IVec S367 32) (main_v0 : IVec S367 32) (main_v3 : IVec S367 32) (main_v6 : IVec S367 32) (main_v7 : IVec S367 1) (main_v10 : IVec S367 1) (main_v38 : IVec S367 1) : IVec S367x65536 1 :=
  let main_v39 : IVec S367 1 := cmpi .sle main_arg1 main_v3
  let main_v40 : IVec S367 1 := cmpi .eq main_arg1 main_v3
  let main_v41 : IVec S367 1 := fn_where (F := F) main_v10 main_v7 main_v40
  let main_v42 : IVec S367 1 := andi main_v39 main_v41
  let main_v43 : IVec S367 1 := andi main_v38 main_v42
  let main_v44 : IVec S367 1 := noti main_v7
  let main_c_8 : IVec S_ 32 := constantI S_ 32 1#32
  let main_v45 : IVec S367 32 := broadcastInDim S367 ![] bcast_S_S367 main_c_8
  let main_v46 : IVec S367 1 := cmpi .eq main_arg6 main_v45
  let main_c_9 : IVec S_ 32 := constantI S_ 32 0#32
  let main_v47 : IVec S367 32 := broadcastInDim S367 ![] bcast_S_S367 main_c_9
  let main_v48 : IVec S367 1 := cmpi .eq main_v0 main_v47
  let main_v49 : IVec S367 1 := cmpi .ne main_arg1 main_v6
  let main_v50 : IVec S367 1 := ori main_v48 main_v49
  let main_v51 : IVec S367 1 := cmpi .eq main_v46 main_v50
  let main_v52 : IVec S367 1 := ori main_v44 main_v51
  let main_v53 : IVec S367 1 := andi main_v43 main_v52
  let main_v54 : IVec S367 1 := noti main_v7
  let main_c_10 : IVec S_ 32 := constantI S_ 32 1#32
  let main_v55 : IVec S367 32 := broadcastInDim S367 ![] bcast_S_S367 main_c_10
  let main_v56 : IVec S367 1 := cmpi .eq main_arg7 main_v55
  let main_v57 : IVec S367 1 := ori main_v54 main_v56
  let main_c_11 : IVec S_ 32 := constantI S_ 32 366#32
  let main_v58 : IVec S367 32 := broadcastInDim S367 ![] bcast_S_S367 main_c_11
  fn_part3 (F := F) main_arg0 main_arg1 main_arg4 main_arg5 main_v0 main_v3 main_v10 main_v53 main_v57 main_v58

def fn_part1 {F : FTy → Type} [FloatOps F] (main_arg0 : IVec S65536 32) (main_arg1 : IVec S367 32) (main_arg2 : IVec S367 32) (main_arg3 : IVec S367 32) (main_arg4 : IVec S367 32) (main_arg5 : IVec S367 32) (main_arg6 : IVec S367 32) (main_arg7 : IVec S367 32) (main_v0 : IVec S367 32) (main_v3 : IVec S367 32) (main_v6 : IVec S367 32) (main_v7 : IVec S367 1) (main_v10 : IVec S367 1) (main_v18 : IVec S367 1) (main_v19 : IVec S367 32) : IVec S367x65536 1 :=
  let main_v20 : IVec S367 1 := cmpi .sle main_arg4 main_v19
  let main_v21 : IVec S367 1 := andi main_v18 main_v20
  let main_c_3 : IVec S_ 32 := constantI S_ 32 256#32
  let main_v22 : IVec S367 32 := broadcastInDim S367 ![] bcast_S_S367 main_c_3
  let main_v23 : IVec S367 1 := cmpi .sle main_arg5 main_v22
  let main_v24 : IVec S367 1 := andi main_v21 main_v23
  let main_c_4 : IVec S_ 32 := constantI S_ 32 0#32
  let main_v25 : IVec S367 32 := broadcastInDim S367 ![] bcast_S_S367 main_c_4
  let main_v26 : IVec S367 1 := cmpi .sge main_arg2 main_v25
  let main_c_5 : IVec S_ 32 := constantI S_ 32 32#32
  let main_v27 : IVec S367 32 := broadcastInDim S367 ![] bcast_S_S367 main_c_5
  let main_v28 : IVec S367 1 := cmpi .slt main_arg2 main_v27
  let main_v29 : IVec S367 1 := andi main_v26 main_v28
  let main_c_6 : IVec S_ 32 := constantI S_ 32 0#32
  let main_v30 : IVec S367 32 := broadcastInDim S367 ![] bcast_S_S367 main_c_6
  let main_v31 : IVec S367 1 := cmpi .sge main_arg3 main_v30
  let main_v32 : IVec S367 1 := andi main_v29 main_v31
  let main_c_7 : IVec S_ 32 := constantI S_ 32 32#32
  let main_v33 : IVec S367 32 := broadcastInDim S367 ![] bcast_S_S367 main_c_7
  let main_v34 : IVec S367 1 := cmpi .slt main_arg3 main_v33
  let main_v35 : IVec S367 1 := andi main_v32 main_v34
  let main_v36 : IVec S367 1 := cmpi .ne main_arg2 main_arg3
  let main_v37 : IVec S367 1 := andi main_v35 main_v36
  let main_v38 : IVec S367 1 := andi main_v24 main_v37
  fn_part2 (F := F) main_arg0 main_arg1 main_arg4 main_arg5 main_arg6 main_arg7 main_v0 main_v3 main_v6 main_v7 main_v10 main_v38

def fn {F : FTy → Type} [FloatOps F] (main_arg0 : IVec S65536 32) (main_arg1 : IVec S367 32) (main_arg2 : IVec S367 32) (main_arg3 : IVec S367 32) (main_arg4 : IVec S367 32) (main_arg5 : IVec S367 32) (main_arg6 : IVec S367 32) (main_arg7 : IVec S367 32) (main_arg8 : FVec F S65536x1152 .f32) (main_arg9 : FVec F S32x1024x512 .f32) (main_arg10 : FVec F S32x1024x512 .f32) (main_arg11 : FVec F S32x512x1024 .f32) (main_arg12 : FVec F S1x1024 .f32) (main_arg13 : FVec F S1024 .f32) : IVec S367x65536 1 :=
  let main_v0 : IVec S367 32 := iotaInDim S367 32 0
  let main_v1 : IVec S366 32 := (extractStridedSlice S366 ![1] · slices_S367_S366_1) main_arg1
  let main_v2 : IVec S1 32 := (extractStridedSlice S1 ![366] · slices_S367_S1_366) main_arg1
  let main_v3 : IVec S367 32 := (fun a b => concatenate S367 0 [⟨S366, a⟩, ⟨S1, b⟩] concatenates_S366_S1_S367_d0) main_v1 main_v2
  let main_v4 : IVec S1 32 := (extractStridedSlice S1 ![0] · slices_S367_S1_0) main_arg1
  let main_v5 : IVec S366 32 := (extractStridedSlice S366 ![0] · slices_S367_S366_0) main_arg1
  let main_v6 : IVec S367 32 := (fun a b => concatenate S367 0 [⟨S1, a⟩, ⟨S366, b⟩] concatenates_S1_S366_S367_d0) main_v4 main_v5
  let main_v7 : IVec S367 1 := cmpi .slt main_arg4 main_arg5
  let main_v8 : IVec S366 1 := (extractStridedSlice S366 ![1] · slices_S367_S366_1) main_v7
  let main_v9 : IVec S1 1 := (extractStridedSlice S1 ![366] · slices_S367_S1_366) main_v7
  let main_v10 : IVec S367 1 := (fun a b => concatenate S367 0 [⟨S366, a⟩, ⟨S1, b⟩] concatenates_S366_S1_S367_d0) main_v8 main_v9
  let main_c : IVec S_ 32 := constantI S_ 32 0#32
  let main_v11 : IVec S367 32 := broadcastInDim S367 ![] bcast_S_S367 main_c
  let main_v12 : IVec S367 1 := cmpi .sge main_arg1 main_v11
  let main_c_0 : IVec S_ 32 := constantI S_ 32 256#32
  let main_v13 : IVec S367 32 := broadcastInDim S367 ![] bcast_S_S367 main_c_0
  let main_v14 : IVec S367 1 := cmpi .slt main_arg1 main_v13
  let main_v15 : IVec S367 1 := andi main_v12 main_v14
  let main_c_1 : IVec S_ 32 := constantI S_ 32 0#32
  let main_v16 : IVec S367 32 := broadcastInDim S367 ![] bcast_S_S367 main_c_1
  let main_v17 : IVec S367 1 := cmpi .sge main_arg4 main_v16
  let main_v18 : IVec S367 1 := andi main_v15 main_v17
  let main_c_2 : IVec S_ 32 := constantI S_ 32 256#32
  let main_v19 : IVec S367 32 := broadcastInDim S367 ![] bcast_S_S367 main_c_2
  fn_part1 (F := F) main_arg0 main_arg1 main_arg2 main_arg3 main_arg4 main_arg5 main_arg6 main_arg7 main_v0 main_v3 main_v6 main_v7 main_v10 main_v18 main_v19
-- ==== Kernel.lean ====
abbrev S65536 : Shape := ⟨1, ![65536]⟩
abbrev S65536x1024 : Shape := ⟨2, ![65536, 1024]⟩
abbrev S2048x32 : Shape := ⟨2, ![2048, 32]⟩
abbrev S_ : Shape := ⟨0, ![]⟩
abbrev S2048x128 : Shape := ⟨2, ![2048, 128]⟩
abbrev S2x1x128 : Shape := ⟨3, ![2, 1, 128]⟩
abbrev S2 : Shape := ⟨1, ![2]⟩
abbrev S2x32x1024 : Shape := ⟨3, ![2, 32, 1024]⟩
abbrev S1x1x128 : Shape := ⟨3, ![1, 1, 128]⟩
abbrev S1x128 : Shape := ⟨2, ![1, 128]⟩
abbrev S1 : Shape := ⟨1, ![1]⟩
abbrev S1x32x1024 : Shape := ⟨3, ![1, 32, 1024]⟩
abbrev S32x1024 : Shape := ⟨2, ![32, 1024]⟩
abbrev S32x128 : Shape := ⟨2, ![32, 128]⟩
abbrev S1x32 : Shape := ⟨2, ![1, 32]⟩
abbrev S32 : Shape := ⟨1, ![32]⟩
abbrev S65536x128 : Shape := ⟨2, ![65536, 128]⟩
abbrev S8x8192x1024 : Shape := ⟨3, ![8, 8192, 1024]⟩

abbrev nBuf : Table → Nat
  | .hbm => 8
  | .local .scVector .vmem => 2
  | _ => 0

abbrev bufTy : (tb : Table) → Fin (nBuf tb) → BufTy
  | .hbm, ⟨0, _⟩ => ⟨S65536, .i32⟩
  | .hbm, ⟨1, _⟩ => ⟨S65536x1024, .f32⟩
  | .hbm, ⟨2, _⟩ => ⟨S2048x32, .i32⟩
  | .hbm, ⟨3, _⟩ => ⟨S_, .i32⟩
  | .hbm, ⟨4, _⟩ => ⟨S_, .i32⟩
  | .hbm, ⟨5, _⟩ => ⟨S2048x128, .i32⟩
  | .hbm, ⟨6, _⟩ => ⟨S65536x1024, .f32⟩
  | .hbm, ⟨7, _⟩ => ⟨S8x8192x1024, .f32⟩
  | .local .scVector .vmem, ⟨0, _⟩ => ⟨S2x1x128, .i32⟩
  | .local .scVector .vmem, ⟨1, _⟩ => ⟨S2x32x1024, .f32⟩
  | _, _ => ⟨S65536, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1_scv : Ref sig .scVector := ⟨.hbm, 1, rfl⟩
abbrev main_v1_scv : Ref sig .scVector := ⟨.hbm, 5, rfl⟩
abbrev main_v2_scv : Ref sig .scVector := ⟨.hbm, 6, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_15_r0 : BitVec 32 := 0#32
  let c0_i32_16_r0 : BitVec 32 := 0#32
  ![v21_r0.toNat, 0, 0]
def k0_off2 (i : grid0.Coords) : Fin 2 → Nat :=
  let c1_i32_14_r0 : BitVec 32 := 1#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v7_r0 : BitVec 32 := Scalar.addi c0_i32_1_r0 v4
  let v22_r0 : BitVec 32 := Scalar.muli c1_i32_14_r0 v7_r0
  let c0_i32_17_r0 : BitVec 32 := 0#32
  ![v22_r0.toNat, 0]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_27_r0 : BitVec 32 := 0#32
  let c64_i32_28_r0 : BitVec 32 := 64#32
  let v32_r0 : BitVec 32 := Scalar.addi c0_i32_27_r0 c64_i32_28_r0
  let c1_i32_29_r0 : BitVec 32 := 1#32
  ⟨c0_i32_27_r0, v32_r0, c1_i32_29_r0⟩
def k0_off4 (arg6_r0 : BitVec 32) : Fin 3 → Nat :=
  let c2_i32_106_r0 : BitVec 32 := 2#32
  let v144_r0 : BitVec 32 := Scalar.remui arg6_r0 c2_i32_106_r0
  let c0_i32_108_r0 : BitVec 32 := 0#32
  let c0_i32_109_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c63_i32_68_r0 : BitVec 32 := 63#32
  let v83_r0 : BitVec 1 := Scalar.cmpi .sge arg5_r0 c63_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c1_i32_107_r0 : BitVec 32 := 1#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v76_r0 : BitVec 32 := Scalar.addi v75_r0 v4
  let v145_r0 : BitVec 32 := Scalar.muli c1_i32_107_r0 v76_r0
  let c0_i32_110_r0 : BitVec 32 := 0#32
  ![v145_r0.toNat, 0]
def k0_off6 (arg6_r0 : BitVec 32) : Fin 1 → Nat :=
  let c2_i32_106_r0 : BitVec 32 := 2#32
  let v144_r0 : BitVec 32 := Scalar.remui arg6_r0 c2_i32_106_r0
  ![v144_r0.toNat]
def k0_off7 (arg7_r0 : BitVec 32) : Fin 3 → Nat :=
  let c2_i32_107_r0 : BitVec 32 := 2#32
  let v145_r0 : BitVec 32 := Scalar.remui arg7_r0 c2_i32_107_r0
  let c0_i32_108_r0 : BitVec 32 := 0#32
  let c0_i32_109_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let v71_r0 : BitVec 32 := Scalar.addi v70_r0 v4
  let v96_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c1_i32_106_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let v144_r0 : BitVec 32 := Scalar.muli c1_i32_106_r0 v66_r0
  let c0_i32_110_r0 : BitVec 32 := 0#32
  ![v144_r0.toNat, 0]
def k0_off9 (arg7_r0 : BitVec 32) : Fin 1 → Nat :=
  let c2_i32_107_r0 : BitVec 32 := 2#32
  let v145_r0 : BitVec 32 := Scalar.remui arg7_r0 c2_i32_107_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_106_r1 : BitVec 32 := 0#32
  let c0_i32_107_r1 : BitVec 32 := 0#32
  ![v109_r0.toNat, 0, 0]

def k0_chk2 (arg8_r0 : BitVec 32) : Prop :=
  (∀ a, (k0_off10 arg8_r0) a + S1x32x1024.size a ≤ S2x32x1024.size a)
theorem k0_off10_inb : ∀ (arg8_r0 : BitVec 32) (k0_hw2 : k0_chk2 arg8_r0), ∀ a, (k0_off10 arg8_r0) a + S1x32x1024.size a ≤ S2x32x1024.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_110_r1 : BitVec 32 := 0#32
  let c0_i32_111_r1 : BitVec 32 := 0#32
  ![v108_r0.toNat, 0, 0]

def k0_chk3 (arg7_r0 : BitVec 32) : Prop :=
  (∀ a, (k0_off11 arg7_r0) a + S1x1x128.size a ≤ S2x1x128.size a)
theorem k0_off11_inb : ∀ (arg7_r0 : BitVec 32) (k0_hw3 : k0_chk3 arg7_r0), ∀ a, (k0_off11 arg7_r0) a + S1x1x128.size a ≤ S2x1x128.size a := fun arg7_r0 k0_hw3 => k0_hw3

def k0_off12 (arg8_r0 : BitVec 32) : Fin 3 → Nat :=
  let c2_i32_106_r0 : BitVec 32 := 2#32
  let v144_r0 : BitVec 32 := Scalar.remui arg8_r0 c2_i32_106_r0
  let c0_i32_108_r0 : BitVec 32 := 0#32
  let c0_i32_109_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c64_i32_62_r0 : BitVec 32 := 64#32
  let v74_r0 : BitVec 1 := Scalar.cmpi .eq v73_r0 c64_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_27_r0 : BitVec 32 := 0#32
  let c1_i32_29_r0 : BitVec 32 := 1#32
  let arg5_r0 : BitVec 32 := Scf.iv c0_i32_27_r0 c1_i32_29_r0 k0_t1
  let c63_i32_55_r0 : BitVec 32 := 63#32
  let v65_r0 : BitVec 1 := Scalar.cmpi .eq arg5_r0 c63_i32_55_r0
  let v116_r0 : BitVec 1 := Scalar.ori v115_r0 v65_r0
  let v117_r0 : BitVec 32 := Scalar.extui v116_r0
  let c0_i32_91_r0 : BitVec 32 := 0#32
  let v118_r0 : BitVec 1 := Scalar.cmpi .ne v117_r0 c0_i32_91_r0
  v118_r0

def k0_off13 (i : grid0.Coords) (arg10_r0 : BitVec 32) : Fin 2 → Nat :=
  let c32_i32_107_r0 : BitVec 32 := 32#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let v145_r0 : BitVec 32 := Scalar.muli c32_i32_107_r0 v66_r0
  let c0_i32_110_r0 : BitVec 32 := 0#32
  ![v145_r0.toNat, 0]
def k0_off14 (arg8_r0 : BitVec 32) : Fin 1 → Nat :=
  let c2_i32_106_r0 : BitVec 32 := 2#32
  let v144_r0 : BitVec 32 := Scalar.remui arg8_r0 c2_i32_106_r0
  ![v144_r0.toNat]
def k0_off15 (arg9_r0 : BitVec 32) : Fin 3 → Nat :=
  let c2_i32_106_r0 : BitVec 32 := 2#32
  let v144_r0 : BitVec 32 := Scalar.remui arg9_r0 c2_i32_106_r0
  let c0_i32_108_r0 : BitVec 32 := 0#32
  let c0_i32_109_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let v71_r0 : BitVec 32 := Scalar.addi v70_r0 v4
  let v128_r0 : BitVec 1 := Scalar.cmpi .ne v66_r0 v71_r0
  let c0_i32_27_r0 : BitVec 32 := 0#32
  let c1_i32_29_r0 : BitVec 32 := 1#32
  let arg5_r0 : BitVec 32 := Scf.iv c0_i32_27_r0 c1_i32_29_r0 k0_t1
  let c0_i32_54_r0 : BitVec 32 := 0#32
  let v64_r0 : BitVec 1 := Scalar.cmpi .eq arg5_r0 c0_i32_54_r0
  let true_97_r0 : BitVec 1 := 1#1
  let v129_r0 : BitVec 1 := Scalar.xori v64_r0 true_97_r0
  let v130_r0 : BitVec 1 := Scalar.andi v128_r0 v129_r0
  let v131_r0 : BitVec 32 := Scalar.extui v130_r0
  let c0_i32_98_r0 : BitVec 32 := 0#32
  let v132_r0 : BitVec 1 := Scalar.cmpi .ne v131_r0 c0_i32_98_r0
  v132_r0

def k0_off16 (i : grid0.Coords) (arg10_r0 : BitVec 32) : Fin 2 → Nat :=
  let c32_i32_107_r0 : BitVec 32 := 32#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c63_i32_59_r0 : BitVec 32 := 63#32
  let v70_r0 : BitVec 32 := Scalar.select v69_r0 c63_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v71_r0 : BitVec 32 := Scalar.addi v70_r0 v4
  let v145_r0 : BitVec 32 := Scalar.muli c32_i32_107_r0 v71_r0
  let c0_i32_110_r0 : BitVec 32 := 0#32
  ![v145_r0.toNat, 0]
def k0_off17 (arg9_r0 : BitVec 32) : Fin 1 → Nat :=
  let c2_i32_106_r0 : BitVec 32 := 2#32
  let v144_r0 : BitVec 32 := Scalar.remui arg9_r0 c2_i32_106_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x128.size a ≤ S2x1x128.size a) ∧
  (∀ (k0_h1 : k0_cond1 i k0_t1 arg10_r0 = 1#1), ∀ a, (k0_off5 i arg10_r0) a + S1x128.size a ≤ S2048x128.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x128.size a ≤ S2x1x128.size a) ∧
  (∀ (k0_h2 : k0_cond2 i k0_t1 arg10_r0 = 1#1), ∀ a, (k0_off8 i arg10_r0) a + S1x128.size a ≤ S2048x128.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x32x1024.size a ≤ S2x32x1024.size a) ∧
  (∀ (k0_h5 : k0_cond5 i k0_t1 arg10_r0 = 1#1), ∀ a, (k0_off13 i arg10_r0) a + S32x1024.size a ≤ S65536x1024.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x32x1024.size a ≤ S2x32x1024.size a) ∧
  (∀ (k0_h7 : k0_cond7 i k0_t1 arg10_r0 = 1#1), ∀ a, (k0_off16 i arg10_r0) a + S32x1024.size a ≤ S65536x1024.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x128.size a ≤ S2x1x128.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x128.size a ≤ S2048x128.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x128.size a ≤ S2x1x128.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x128.size a ≤ S2048x128.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x32x1024.size a ≤ S2x32x1024.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S32x1024.size a ≤ S65536x1024.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x32x1024.size a ≤ S2x32x1024.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S32x1024.size a ≤ S65536x1024.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_47_r0 : BitVec 32 := 2#32
  let v54_r0 : BitVec 32 := Scalar.remui v33_3_r0 c2_i32_47_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c32_i32_r0 : BitVec 32 := 32#32
  let true_32_r0 : BitVec 1 := 1#1
  let c1_i32_31_r0 : BitVec 32 := 1#32
  let v34_r0 : BitVec 32 := Scalar.subi v33_4_r0 c1_i32_31_r0
  let v35_r0 : BitVec 32 := Scalar.select true_32_r0 v34_r0 v33_4_r0
  let c_m1_i32_33_r0 : BitVec 32 := 4294967295#32
  let v36_r0 : BitVec 1 := Scalar.cmpi .eq v35_r0 c_m1_i32_33_r0
  let c63_i32_34_r0 : BitVec 32 := 63#32
  let v37_r0 : BitVec 32 := Scalar.select v36_r0 c63_i32_34_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c64_i32 : BitVec 32 := 64#32
  let v4 : BitVec 32 := Scalar.muli v3 c64_i32
  let v38_r0 : BitVec 32 := Scalar.addi v37_r0 v4
  let v55_r0 : BitVec 32 := Scalar.muli c32_i32_r0 v38_r0
  let c0_i32_50_r0 : BitVec 32 := 0#32
  ![v55_r0.toNat, 0]

def k0_chk5 (i : grid0.Coords) (v33_4_r0 : BitVec 32) : Prop :=
  (∀ a, (k0_off19 i v33_4_r0) a + S32x1024.size a ≤ S65536x1024.size a)
theorem k0_off19_inb : ∀ (i : grid0.Coords) (v33_4_r0 : BitVec 32) (k0_hw5 : k0_chk5 i v33_4_r0), ∀ a, (k0_off19 i v33_4_r0) a + S32x1024.size a ≤ S65536x1024.size a := fun i v33_4_r0 k0_hw5 => k0_hw5

def k0_off20 (v33_3_r0 : BitVec 32) : Fin 1 → Nat :=
  let c2_i32_47_r0 : BitVec 32 := 2#32
  let v54_r0 : BitVec 32 := Scalar.remui v33_3_r0 c2_i32_47_r0
  ![v54_r0.toNat]
def k0_off21 (v33_3_r0 : BitVec 32) : Fin 3 → Nat :=
  let c2_i32_47_r0 : BitVec 32 := 2#32
  let v54_r0 : BitVec 32 := Scalar.remui v33_3_r0 c2_i32_47_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x32x1024.size a ≤ S2x32x1024.size a) ∧
  (∀ a, (k0_off20 v33_3_r0) a + S1.size a ≤ S2.size a) ∧
  (∀ a, (k0_off21 v33_3_r0) a + S1x32x1024.size a ≤ S2x32x1024.size a)
theorem k0_off18_inb : ∀ (v33_3_r0 : BitVec 32) (k0_hw4 : k0_chk4 v33_3_r0), ∀ a, (k0_off18 v33_3_r0) a + S1x32x1024.size a ≤ S2x32x1024.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x32x1024.size a ≤ S2x32x1024.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S65536 : Shape := ⟨1, ![65536]⟩
abbrev S65536x1024 : Shape := ⟨2, ![65536, 1024]⟩
abbrev S_ : Shape := ⟨0, ![]⟩
abbrev S65536x1 : Shape := ⟨2, ![65536, 1]⟩
abbrev S8x8192x1024 : Shape := ⟨3, ![8, 8192, 1024]⟩

abbrev nBuf : Space → Nat
  | .hbm => 12
  | .vmem => 0
  | .smem => 0
  | _ => 0

abbrev bufTy : (tb : Table) → Fin (tcTables nBuf tb) → BufTy
  | .hbm, ⟨0, _⟩ => ⟨S65536, .i32⟩
  | .hbm, ⟨1, _⟩ => ⟨S65536x1024, .f32⟩
  | .hbm, ⟨2, _⟩ => ⟨S_, .i32⟩
  | .hbm, ⟨3, _⟩ => ⟨S65536, .i32⟩
  | .hbm, ⟨4, _⟩ => ⟨S65536, .i1⟩
  | .hbm, ⟨5, _⟩ => ⟨S_, .i32⟩
  | .hbm, ⟨6, _⟩ => ⟨S65536, .i32⟩
  | .hbm, ⟨7, _⟩ => ⟨S65536, .i32⟩
  | .hbm, ⟨8, _⟩ => ⟨S65536, .i32⟩
  | .hbm, ⟨9, _⟩ => ⟨S65536x1, .i32⟩
  | .hbm, ⟨10, _⟩ => ⟨S65536x1024, .f32⟩
  | .hbm, ⟨11, _⟩ => ⟨S8x8192x1024, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel2.lean ====
abbrev S65536 : Shape := ⟨1, ![65536]⟩
abbrev S367 : Shape := ⟨1, ![367]⟩
abbrev S65536x1152 : Shape := ⟨2, ![65536, 1152]⟩
abbrev S32x1024x512 : Shape := ⟨3, ![32, 1024, 512]⟩
abbrev S32x512x1024 : Shape := ⟨3, ![32, 512, 1024]⟩
abbrev S1x1024 : Shape := ⟨2, ![1, 1024]⟩
abbrev S1024 : Shape := ⟨1, ![1024]⟩
abbrev S65536x1024 : Shape := ⟨2, ![65536, 1024]⟩
abbrev S256x1152 : Shape := ⟨2, ![256, 1152]⟩
abbrev S1 : Shape := ⟨1, ![1]⟩
abbrev S1x1024x512 : Shape := ⟨3, ![1, 1024, 512]⟩
abbrev S1x512x1024 : Shape := ⟨3, ![1, 512, 1024]⟩
abbrev S256x1024 : Shape := ⟨2, ![256, 1024]⟩
abbrev S256x1 : Shape := ⟨2, ![256, 1]⟩
abbrev S256 : Shape := ⟨1, ![256]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 12
  | .vmem => 19
  | .smem => 7
  | _ => 0

abbrev bufTy : (tb : Table) → Fin (tcTables nBuf tb) → BufTy
  | .hbm, ⟨0, _⟩ => ⟨S65536, .i32⟩
  | .hbm, ⟨1, _⟩ => ⟨S65536x1152, .f32⟩
  | .hbm, ⟨2, _⟩ => ⟨S32x1024x512, .f32⟩
  | .hbm, ⟨3, _⟩ => ⟨S32x1024x512, .f32⟩
  | .hbm, ⟨4, _⟩ => ⟨S32x512x1024, .f32⟩
  | .hbm, ⟨5, _⟩ => ⟨S1x1024, .f32⟩
  | .hbm, ⟨6, _⟩ => ⟨S1024, .f32⟩
  | .hbm, ⟨7, _⟩ => ⟨S32x1024x512, .bf16⟩
  | .hbm, ⟨8, _⟩ => ⟨S32x1024x512, .bf16⟩
  | .hbm, ⟨9, _⟩ => ⟨S32x512x1024, .bf16⟩
  | .hbm, ⟨10, _⟩ => ⟨S1x1024, .f32⟩
  | .hbm, ⟨11, _⟩ => ⟨S65536x1024, .f32⟩
  | .local _ .vmem, ⟨0, _⟩ => ⟨S256x1152, .f32⟩
  | .local _ .vmem, ⟨1, _⟩ => ⟨S256x1152, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .smem, ⟨0, _⟩ => ⟨S367, .i32⟩
  | .local _ .smem, ⟨1, _⟩ => ⟨S367, .i32⟩
  | .local _ .smem, ⟨2, _⟩ => ⟨S367, .i32⟩
  | .local _ .smem, ⟨3, _⟩ => ⟨S367, .i32⟩
  | .local _ .smem, ⟨4, _⟩ => ⟨S367, .i32⟩
  | .local _ .smem, ⟨5, _⟩ => ⟨S367, .i32⟩
  | .local _ .smem, ⟨6, _⟩ => ⟨S367, .i32⟩
  | _, _ => ⟨S65536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg8 : Ref sig .tc := ⟨.hbm, 1, rfl⟩
abbrev main_arg9 : Ref sig .tc := ⟨.hbm, 2, rfl⟩
abbrev main_arg10 : Ref sig .tc := ⟨.hbm, 3, rfl⟩
abbrev main_arg11 : Ref sig .tc := ⟨.hbm, 4, rfl⟩
abbrev main_arg12 : Ref sig .tc := ⟨.hbm, 5, rfl⟩
abbrev main_arg13 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_arg1 : Ref sig .tc := ⟨.smem, 0, rfl⟩
abbrev main_arg2 : Ref sig .tc := ⟨.smem, 1, rfl⟩
abbrev main_arg3 : Ref sig .tc := ⟨.smem, 2, rfl⟩
abbrev main_arg4 : Ref sig .tc := ⟨.smem, 3, rfl⟩
abbrev main_arg5 : Ref sig .tc := ⟨.smem, 4, rfl⟩
abbrev main_arg6 : Ref sig .tc := ⟨.smem, 5, rfl⟩
abbrev main_arg7 : Ref sig .tc := ⟨.smem, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![367], ![false]⟩

abbrev pre0 : Pipeline.Prefetch sig := ⟨7, ![main_arg1.idx, main_arg2.idx, main_arg3.idx, main_arg4.idx, main_arg5.idx, main_arg6.idx, main_arg7.idx], fun | 0 => main_arg1.names | 1 => main_arg2.names | 2 => main_arg3.names | 3 => main_arg4.names | 4 => main_arg5.names | 5 => main_arg6.names | 6 => main_arg7.names | ⟨_ + 7, h⟩ => absurd h (Nat.not_lt.2 (Nat.le_add_left _ _)), fun | 0 => rfl | 1 => rfl | 2 => rfl | 3 => rfl | 4 => rfl | 5 => rfl | 6 => rfl | ⟨_ + 7, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v80 : Index := Scalar.indexCast arg0
  ![v80.toNat]
def k0_cond2 (v1 : BitVec 32) (v3 : BitVec 32) : BitVec 1 :=
  let v7 : BitVec 1 := Scalar.cmpi .sgt v3 v1
  let v8 : BitVec 32 := Scalar.extui v7
  let c0_i32_1 : BitVec 32 := 0#32
  let v9 : BitVec 1 := Scalar.cmpi .ne v8 c0_i32_1
  v9

def k0_cond3 (v91 : BitVec 32) : BitVec 1 :=
  let c1_i32_46 : BitVec 32 := 1#32
  let v92 : BitVec 1 := Scalar.cmpi .eq v91 c1_i32_46
  let v93 : BitVec 32 := Scalar.extui v92
  let c0_i32_47 : BitVec 32 := 0#32
  let v94 : BitVec 1 := Scalar.cmpi .ne v93 c0_i32_47
  v94

def cc0_transform_0 (k0_off1_inb : ∀ i : grid0.Coords, ∀ a, (k0_off1 i) a + S1.size a ≤ S367.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S367) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S367.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S367) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S367.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S367) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S367.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S367) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S367.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S367) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S367.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S367) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S367.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 2 (Rect.unit (s := S367) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (k0_off1_inb : ∀ i : grid0.Coords, ∀ a, (k0_off1 i) a + S1.size a ≤ S367.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S367) ![v0.toNat] S1.size (k0_off1_inb i)) numel1_S1
  let c0_i32 : BitVec 32 := 0#32
  let c0_i32_0 : BitVec 32 := 0#32
  ![v1.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S65536 : Shape := ⟨1, ![65536]⟩
abbrev S367 : Shape := ⟨1, ![367]⟩
abbrev S65536x1152 : Shape := ⟨2, ![65536, 1152]⟩
abbrev S32x1024x512 : Shape := ⟨3, ![32, 1024, 512]⟩
abbrev S32x512x1024 : Shape := ⟨3, ![32, 512, 1024]⟩
abbrev S1x1024 : Shape := ⟨2, ![1, 1024]⟩
abbrev S1024 : Shape := ⟨1, ![1024]⟩
abbrev S65536x1024 : Shape := ⟨2, ![65536, 1024]⟩
abbrev S_ : Shape := ⟨0, ![]⟩
abbrev S65536x1 : Shape := ⟨2, ![65536, 1]⟩
abbrev S32 : Shape := ⟨1, ![32]⟩
abbrev S1x32 : Shape := ⟨2, ![1, 32]⟩
abbrev S65536x32 : Shape := ⟨2, ![65536, 32]⟩
abbrev S32x512x65536 : Shape := ⟨3, ![32, 512, 65536]⟩
abbrev S32x65536x512 : Shape := ⟨3, ![32, 65536, 512]⟩
abbrev S32x65536x1024 : Shape := ⟨3, ![32, 65536, 1024]⟩
abbrev S32x65536 : Shape := ⟨2, ![32, 65536]⟩
abbrev S32x65536x1 : Shape := ⟨3, ![32, 65536, 1]⟩

abbrev nBuf : Space → Nat
  | .hbm => 109
  | .vmem => 0
  | .smem => 0
  | _ => 0

abbrev bufTy : (tb : Table) → Fin (tcTables nBuf tb) → BufTy
  | .hbm, ⟨0, _⟩ => ⟨S65536, .i32⟩
  | .hbm, ⟨1, _⟩ => ⟨S367, .i32⟩
  | .hbm, ⟨2, _⟩ => ⟨S367, .i32⟩
  | .hbm, ⟨3, _⟩ => ⟨S367, .i32⟩
  | .hbm, ⟨4, _⟩ => ⟨S367, .i32⟩
  | .hbm, ⟨5, _⟩ => ⟨S367, .i32⟩
  | .hbm, ⟨6, _⟩ => ⟨S367, .i32⟩
  | .hbm, ⟨7, _⟩ => ⟨S367, .i32⟩
  | .hbm, ⟨8, _⟩ => ⟨S65536x1152, .f32⟩
  | .hbm, ⟨9, _⟩ => ⟨S32x1024x512, .f32⟩
  | .hbm, ⟨10, _⟩ => ⟨S32x1024x512, .f32⟩
  | .hbm, ⟨11, _⟩ => ⟨S32x512x1024, .f32⟩
  | .hbm, ⟨12, _⟩ => ⟨S1x1024, .f32⟩
  | .hbm, ⟨13, _⟩ => ⟨S1024, .f32⟩
  | .hbm, ⟨14, _⟩ => ⟨S65536x1024, .f32⟩
  | .hbm, ⟨15, _⟩ => ⟨S65536x1024, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S65536x1, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S65536x1024, .f32⟩
  | .hbm, ⟨30, _⟩ => ⟨S32, .i32⟩
  | .hbm, ⟨31, _⟩ => ⟨S1x32, .i32⟩
  | .hbm, ⟨32, _⟩ => ⟨S_, .i32⟩
  | .hbm, ⟨33, _⟩ => ⟨S65536, .i32⟩
  | .hbm, ⟨34, _⟩ => ⟨S65536, .i1⟩
  | .hbm, ⟨35, _⟩ => ⟨S_, .i32⟩
  | .hbm, ⟨36, _⟩ => ⟨S65536, .i32⟩
  | .hbm, ⟨37, _⟩ => ⟨S65536, .i32⟩
  | .hbm, ⟨38, _⟩ => ⟨S65536, .i32⟩
  | .hbm, ⟨39, _⟩ => ⟨S65536x1, .i32⟩
  | .hbm, ⟨40, _⟩ => ⟨S65536, .i32⟩
  | .hbm, ⟨41, _⟩ => ⟨S65536x1, .i32⟩
  | .hbm, ⟨42, _⟩ => ⟨S65536x32, .i32⟩
  | .hbm, ⟨43, _⟩ => ⟨S65536x32, .i32⟩
  | .hbm, ⟨44, _⟩ => ⟨S65536x32, .i1⟩
  | .hbm, ⟨45, _⟩ => ⟨S65536x1, .f32⟩
  | .hbm, ⟨46, _⟩ => ⟨S_, .f32⟩
  | .hbm, ⟨47, _⟩ => ⟨S_, .f32⟩
  | .hbm, ⟨48, _⟩ => ⟨S65536x32, .f32⟩
  | .hbm, ⟨49, _⟩ => ⟨S65536x32, .f32⟩
  | .hbm, ⟨50, _⟩ => ⟨S65536x32, .f32⟩
  | .hbm, ⟨51, _⟩ => ⟨S_, .i32⟩
  | .hbm, ⟨52, _⟩ => ⟨S65536, .i32⟩
  | .hbm, ⟨53, _⟩ => ⟨S65536, .i1⟩
  | .hbm, ⟨54, _⟩ => ⟨S_, .i32⟩
  | .hbm, ⟨55, _⟩ => ⟨S65536, .i32⟩
  | .hbm, ⟨56, _⟩ => ⟨S65536, .i32⟩
  | .hbm, ⟨57, _⟩ => ⟨S65536, .i32⟩
  | .hbm, ⟨58, _⟩ => ⟨S65536x1, .i32⟩
  | .hbm, ⟨59, _⟩ => ⟨S65536, .i32⟩
  | .hbm, ⟨60, _⟩ => ⟨S65536x1, .i32⟩
  | .hbm, ⟨61, _⟩ => ⟨S65536x32, .i32⟩
  | .hbm, ⟨62, _⟩ => ⟨S65536x32, .i32⟩
  | .hbm, ⟨63, _⟩ => ⟨S65536x32, .i1⟩
  | .hbm, ⟨64, _⟩ => ⟨S65536x1, .f32⟩
  | .hbm, ⟨65, _⟩ => ⟨S_, .f32⟩
  | .hbm, ⟨66, _⟩ => ⟨S_, .f32⟩
  | .hbm, ⟨67, _⟩ => ⟨S65536x32, .f32⟩
  | .hbm, ⟨68, _⟩ => ⟨S65536x32, .f32⟩
  | .hbm, ⟨69, _⟩ => ⟨S65536x32, .f32⟩
  | .hbm, ⟨70, _⟩ => ⟨S65536x32, .f32⟩
  | .hbm, ⟨71, _⟩ => ⟨S32x512x65536, .f32⟩
  | .hbm, ⟨72, _⟩ => ⟨S32x65536x512, .f32⟩
  | .hbm, ⟨73, _⟩ => ⟨S32x65536x512, .f32⟩
  | .hbm, ⟨74, _⟩ => ⟨S32x65536x512, .f32⟩
  | .hbm, ⟨75, _⟩ => ⟨S_, .f32⟩
  | .hbm, ⟨76, _⟩ => ⟨S32x65536x512, .f32⟩
  | .hbm, ⟨77, _⟩ => ⟨S32x65536x512, .f32⟩
  | .hbm, ⟨78, _⟩ => ⟨S_, .f32⟩
  | .hbm, ⟨79, _⟩ => ⟨S32x65536x512, .f32⟩
  | .hbm, ⟨80, _⟩ => ⟨S32x65536x512, .f32⟩
  | .hbm, ⟨81, _⟩ => ⟨S32x65536x512, .f32⟩
  | .hbm, ⟨82, _⟩ => ⟨S32x512x65536, .f32⟩
  | .hbm, ⟨83, _⟩ => ⟨S32x65536x512, .f32⟩
  | .hbm, ⟨84, _⟩ => ⟨S32x65536x512, .f32⟩
  | .hbm, ⟨85, _⟩ => ⟨S32x65536x1024, .f32⟩
  | .hbm, ⟨86, _⟩ => ⟨S32x65536, .f32⟩
  | .hbm, ⟨87, _⟩ => ⟨S32x65536x1, .f32⟩
  | .hbm, ⟨88, _⟩ => ⟨S32x65536x1024, .f32⟩
  | .hbm, ⟨89, _⟩ => ⟨S32x65536x1024, .f32⟩
  | .hbm, ⟨90, _⟩ => ⟨S_, .f32⟩
  | .hbm, ⟨91, _⟩ => ⟨S65536x1024, .f32⟩
  | .hbm, ⟨92, _⟩ => ⟨S65536x1024, .f32⟩
  | .hbm, ⟨93, _⟩ => ⟨S65536x1024, .f32⟩
  | .hbm, ⟨94, _⟩ => ⟨S_, .f32⟩
  | .hbm, ⟨95, _⟩ => ⟨S65536, .f32⟩
  | .hbm, ⟨96, _⟩ => ⟨S65536x1, .f32⟩
  | .hbm, ⟨97, _⟩ => ⟨S_, .f32⟩
  | .hbm, ⟨98, _⟩ => ⟨S65536x1, .f32⟩
  | .hbm, ⟨99, _⟩ => ⟨S65536x1, .f32⟩
  | .hbm, ⟨100, _⟩ => ⟨S_, .f32⟩
  | .hbm, ⟨101, _⟩ => ⟨S65536x1, .f32⟩
  | .hbm, ⟨102, _⟩ => ⟨S65536x1, .f32⟩
  | .hbm, ⟨103, _⟩ => ⟨S65536x1, .f32⟩
  | .hbm, ⟨104, _⟩ => ⟨S65536x1024, .f32⟩
  | .hbm, ⟨105, _⟩ => ⟨S65536x1024, .f32⟩
  | .hbm, ⟨106, _⟩ => ⟨S1x1024, .f32⟩
  | .hbm, ⟨107, _⟩ => ⟨S65536x1024, .f32⟩
  | .hbm, ⟨108, _⟩ => ⟨S65536x1024, .f32⟩
  | _, _ => ⟨S65536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v27 : Ref sig .tc := ⟨.hbm, 50, rfl⟩
abbrev main_c_4 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_6 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_call2_v0 : Ref sig .tc := ⟨.hbm, 73, rfl⟩
abbrev main_call2_v1 : Ref sig .tc := ⟨.hbm, 74, rfl⟩
abbrev main_call2_cst : Ref sig .tc := ⟨.hbm, 75, rfl⟩
abbrev main_call2_v2 : Ref sig .tc := ⟨.hbm, 76, rfl⟩
abbrev main_call2_v3 : Ref sig .tc := ⟨.hbm, 77, rfl⟩
abbrev main_call2_cst_0 : Ref sig .tc := ⟨.hbm, 78, rfl⟩
abbrev main_call2_v4 : Ref sig .tc := ⟨.hbm, 79, rfl⟩
abbrev main_call2_v5 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_7 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_8 : Ref sig .tc := ⟨.hbm, 94, rfl⟩
abbrev main_v56 : Ref sig .tc := ⟨.hbm, 95, rfl⟩
abbrev main_v57 : Ref sig .tc := ⟨.hbm, 96, rfl⟩
abbrev main_cst_9 : Ref sig .tc := ⟨.hbm, 97, rfl⟩
abbrev main_v58 : Ref sig .tc := ⟨.hbm, 98, rfl⟩
abbrev main_v59 : Ref sig .tc := ⟨.hbm, 99, rfl⟩
abbrev main_cst_10 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩

abbrev nD : Nat := 1
abbrev τ : Topo := Topo.v7x

variable {F : FTy → Type} [FloatOps F]
-- ==== Proof.Trip.lean ====
/-
  The task's pipeline in closed form: the offsets, the conditions and the carried words of its trips.
-/
module

public import proofs.«01_k».proof.Defs
public import proofs.«01_k».proof.Proof.Gen.KernelIdeal
public import proofs.«01_k».proof.Proof.Gen.KernelIdeal.Skeleton

@[expose] public section

namespace Cert.Proof.Gather

open Cert.KernelIdeal Cert.KernelIdeal.Gen
open Idealize.ShloMosaic

/-- The words carried into trip `t`: the index blocks started, the index blocks waited for, the row blocks filled, the
    row blocks waited for, the block of the trip. -/
abbrev A6 (t : ℕ) : BitVec 32 := BitVec.ofNat 32 (min (t + 1) 64)
abbrev A7 (t : ℕ) : BitVec 32 := BitVec.ofNat 32 t
abbrev A9 (t : ℕ) : BitVec 32 := BitVec.ofNat 32 (t - 1)
abbrev A10 (t : ℕ) : BitVec 32 := BitVec.ofNat 32 (t % 64)

/-- The number of the block subcore `i` works on at trip `t`. -/
abbrev blk (i : grid0.Coords) (t : ℕ) : ℕ := 64 * (i 1).val + 1024 * (i 0).val + t

theorem trips_eq : k0_t1_loop.trips = 64 := by decide +kernel

theorem off4_eq : ∀ t : Fin 64, t.val < 63 → k0_off4 (A6 t.val) = ![(t.val + 1) % 2, 0, 0] := by decide +kernel
theorem off6_eq : ∀ t : Fin 64, t.val < 63 → k0_off6 (A6 t.val) = ![(t.val + 1) % 2] := by decide +kernel
theorem off5_eq : ∀ i : grid0.Coords, ∀ t : Fin 64, t.val < 63 → k0_off5 i (A10 t.val) = ![blk i (t.val + 1), 0] := by decide +kernel
theorem off7_eq : ∀ t : Fin 64, k0_off7 (A7 t.val) = ![t.val % 2, 0, 0] := by decide +kernel
theorem off9_eq : ∀ t : Fin 64, k0_off9 (A7 t.val) = ![t.val % 2] := by decide +kernel
theorem off8_eq : ∀ i : grid0.Coords, ∀ t : Fin 64, k0_off8 i (A10 t.val) = ![blk i t.val, 0] := by decide +kernel
theorem off10_eq : ∀ t : Fin 64, k0_off10 (A7 t.val) = ![t.val % 2, 0, 0] := by decide +kernel
theorem off11_eq : ∀ t : Fin 64, k0_off11 (A7 t.val) = ![t.val % 2, 0, 0] := by decide +kernel
theorem off12_eq : ∀ t : Fin 64, k0_off12 (A7 t.val) = ![t.val % 2, 0, 0] := by decide +kernel
theorem off13_eq : ∀ i : grid0.Coords, ∀ t : Fin 64, k0_off13 i (A10 t.val) = ![32 * blk i t.val, 0] := by decide +kernel
theorem off14_eq : ∀ t : Fin 64, k0_off14 (A7 t.val) = ![t.val % 2] := by decide +kernel
theorem off15_eq : ∀ t : Fin 64, 0 < t.val → k0_off15 (A9 t.val) = ![(t.val + 1) % 2, 0, 0] := by decide +kernel
theorem off16_eq : ∀ i : grid0.Coords, ∀ t : Fin 64, 0 < t.val → k0_off16 i (A10 t.val) = ![32 * blk i (t.val - 1), 0] := by decide +kernel
theorem off17_eq : ∀ t : Fin 64, 0 < t.val → k0_off17 (A9 t.val) = ![(t.val + 1) % 2] := by decide +kernel
theorem off19_eq : ∀ i : grid0.Coords, k0_off19 i (A10 64) = ![32 * blk i 63, 0] := by decide +kernel
theorem off20_eq : k0_off20 (A9 64) = ![1] := by decide +kernel
theorem off21_eq : k0_off21 (A9 64) = ![1, 0, 0] := by decide +kernel

theorem cond1_iff : ∀ i : grid0.Coords, ∀ t : Fin k0_t1_loop.trips, k0_cond1 i t (A10 t.val) = 1#1 ↔ t.val < 63 := by decide +kernel
theorem cond2_one : ∀ i : grid0.Coords, ∀ t : Fin k0_t1_loop.trips, k0_cond2 i t (A10 t.val) = 1#1 := by decide +kernel
theorem cond5_one : ∀ i : grid0.Coords, ∀ t : Fin k0_t1_loop.trips, k0_cond5 i t (A10 t.val) = 1#1 := by decide +kernel
theorem cond7_iff : ∀ i : grid0.Coords, ∀ t : Fin k0_t1_loop.trips, k0_cond7 i t (A10 t.val) = 1#1 ↔ 0 < t.val := by decide +kernel

theorem chk1_ok : ∀ i : grid0.Coords, ∀ t : Fin k0_t1_loop.trips, k0_chk1 i t (A6 t.val) (A7 t.val) (A7 t.val) (A9 t.val) (A10 t.val) := by decide +kernel
theorem chk2_ok : ∀ t : Fin 64, k0_chk2 (A7 t.val) := by decide +kernel
theorem chk3_ok : ∀ t : Fin 64, k0_chk3 (A7 t.val) := by decide +kernel
theorem chk4_ok : k0_chk4 (A9 64) := by decide +kernel
theorem chk5_ok : ∀ i : grid0.Coords, k0_chk5 i (A10 64) := by decide +kernel

end Cert.Proof.Gather
-- ==== Proof.Views.lean ====
/-
  What a vector subcore addresses: the slots of its two scratch buffers, the blocks of the index array and of the result,
  the eight column pieces of a row slot; which elements each is, and what a transfer leaves in it.
-/
module

public import proofs.«01_k».proof.Proof.Trip
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueLayout
public import Idealize.ShloMosaic.Lib.ViewIndex

@[expose] public section

noncomputable section

namespace Cert.Proof.Gather

open Cert.KernelIdeal Cert.KernelIdeal.Gen
open Idealize.ShloMosaic
open Idealize.ShloMosaic.SparseCore (gatherPayload rows)
open Idealize.ShloMosaic.ValueIdx

variable {F : FTy → Type}

local notation "xV" => (Memref.whole Cert.KernelIdeal.main_arg1_scv : Memref Cert.KernelIdeal.sig Kind.scVector Space.hbm Cert.KernelIdeal.S65536x1024 EltTy.f32)
local notation "iV" => (Memref.whole Cert.KernelIdeal.main_v1_scv : Memref Cert.KernelIdeal.sig Kind.scVector Space.hbm Cert.KernelIdeal.S2048x128 EltTy.i32)
local notation "oV" => (Memref.whole Cert.KernelIdeal.main_v2_scv : Memref Cert.KernelIdeal.sig Kind.scVector Space.hbm Cert.KernelIdeal.S65536x1024 EltTy.f32)
local notation "aV" => (Memref.whole Cert.KernelIdeal.cc0_scoped0 : Memref Cert.KernelIdeal.sig Kind.scVector Space.vmem Cert.KernelIdeal.S2x1x128 EltTy.i32)
local notation "rV" => (Memref.whole Cert.KernelIdeal.cc0_scoped2 : Memref Cert.KernelIdeal.sig Kind.scVector Space.vmem Cert.KernelIdeal.S2x32x1024 EltTy.f32)

/-! ## The addressed memrefs -/

abbrev iSlot (off : Fin 3 → ℕ) (h : ∀ a, off a + S1x1x128.size a ≤ S2x1x128.size a) : Memref sig .scVector .vmem S1x128 .i32 :=
  ((aV).slice (Rect.unit (s := S2x1x128) off S1x1x128.size h) (fun _ => rfl)).squeeze S1x128 squeezes_S1x1x128_S1x128
abbrev rSlot (off : Fin 3 → ℕ) (h : ∀ a, off a + S1x32x1024.size a ≤ S2x32x1024.size a) : Memref sig .scVector .vmem S32x1024 .f32 :=
  ((rV).slice (Rect.unit (s := S2x32x1024) off S1x32x1024.size h) (fun _ => rfl)).squeeze S32x1024 squeezes_S1x32x1024_S32x1024
abbrev iBlk (off : Fin 2 → ℕ) (h : ∀ a, off a + S1x128.size a ≤ S2048x128.size a) : Memref sig .scVector .hbm S1x128 .i32 :=
  (iV).slice (Rect.unit (s := S2048x128) off S1x128.size h) (fun _ => rfl)
abbrev oBlk (off : Fin 2 → ℕ) (h : ∀ a, off a + S32x1024.size a ≤ S65536x1024.size a) : Memref sig .scVector .hbm S32x1024 .f32 :=
  (oV).slice (Rect.unit (s := S65536x1024) off S32x1024.size h) (fun _ => rfl)
abbrev rPiece (off : Fin 3 → ℕ) (h : ∀ a, off a + S1x32x1024.size a ≤ S2x32x1024.size a)
    (o : Fin 2 → ℕ) (ho : ∀ a, o a + S32x128.size a ≤ S32x1024.size a) : Memref sig .scVector .vmem S32x128 .f32 :=
  (rSlot off h).slice (Rect.unit (s := S32x1024) o S32x128.size ho) (fun _ => rfl)
abbrev offs (off : Fin 3 → ℕ) (h : ∀ a, off a + S1x1x128.size a ≤ S2x1x128.size a) : Memref sig .scVector .vmem S32 .i32 :=
  ((iSlot off h).slice (Rect.unit (s := S1x128) ![0, 0] S1x32.size inb_S1x128_S1x32_0_0) (fun _ => rfl)).squeeze S32 squeezes_S1x32_S32
abbrev xPiece (o : Fin 2 → ℕ) (ho : ∀ a, o a + S65536x128.size a ≤ S65536x1024.size a) : Memref sig .scVector .hbm S65536x128 .f32 :=
  (xV).slice (Rect.unit (s := S65536x1024) o S65536x128.size ho) (fun _ => rfl)

theorem inbI (sl : Fin 2) : ∀ a, (![sl.val, 0, 0] : Fin 3 → ℕ) a + S1x1x128.size a ≤ S2x1x128.size a := by revert sl; decide
theorem inbR (sl : Fin 2) : ∀ a, (![sl.val, 0, 0] : Fin 3 → ℕ) a + S1x32x1024.size a ≤ S2x32x1024.size a := by revert sl; decide
theorem inbIB (b : Fin 2048) : ∀ a, (![b.val, 0] : Fin 2 → ℕ) a + S1x128.size a ≤ S2048x128.size a := by
  intro a; match a with
  | 0 => have := b.isLt; show b.val + 1 ≤ 2048; omega
  | 1 => exact le_refl 128
theorem inbOB (b : Fin 2048) : ∀ a, (![32 * b.val, 0] : Fin 2 → ℕ) a + S32x1024.size a ≤ S65536x1024.size a := by
  intro a; match a with
  | 0 => have := b.isLt; show 32 * b.val + 32 ≤ 65536; omega
  | 1 => exact le_refl 1024

/-! ## Where an index of each lies in its buffer -/

theorem iSlot_emb (sl : Fin 2) (y : S1x128.Idx) :
    (iSlot ![sl.val, 0, 0] (inbI sl)).view.emb y = (ix3 sl (0 : Fin 1) (y 1 : Fin 128) : S2x1x128.Idx) := by
  have hy : y = ix2 (0 : Fin 1) (y 1 : Fin 128) := funext fun a => by
    match a with
    | 0 => exact Subsingleton.elim (α := Fin 1) _ _
    | 1 => rfl
  show (Rect.unit (s := S2x1x128) ![sl.val, 0, 0] S1x1x128.size (inbI sl)).emb (Shape.reshapeEquiv _ y) = _
  refine (congrArg (Rect.unit (s := S2x1x128) ![sl.val, 0, 0] S1x1x128.size (inbI sl)).emb
    ((congrArg (Shape.reshapeEquiv squeezes_S1x1x128_S1x128.numel_eq) hy).trans (reshapeEquiv_ix2_1ab (a := 1) (b := 128) _ _ _))).trans ?_
  refine Shape.idx3_ext ?_ ?_ ?_
  · show sl.val + 1 * 0 = sl.val; omega
  · show 0 + 1 * 0 = 0; omega
  · show 0 + 1 * (y 1).val = (y 1).val; omega

theorem rSlot_emb (sl : Fin 2) (y : S32x1024.Idx) :
    (rSlot ![sl.val, 0, 0] (inbR sl)).view.emb y = (ix3 sl (y 0 : Fin 32) (y 1 : Fin 1024) : S2x32x1024.Idx) := by
  have hy : y = ix2 (y 0 : Fin 32) (y 1 : Fin 1024) := funext fun a => by
    match a with
    | 0 => rfl
    | 1 => rfl
  show (Rect.unit (s := S2x32x1024) ![sl.val, 0, 0] S1x32x1024.size (inbR sl)).emb (Shape.reshapeEquiv _ y) = _
  refine (congrArg (Rect.unit (s := S2x32x1024) ![sl.val, 0, 0] S1x32x1024.size (inbR sl)).emb
    ((congrArg (Shape.reshapeEquiv squeezes_S1x32x1024_S32x1024.numel_eq) hy).trans (reshapeEquiv_ix2_1ab (a := 32) (b := 1024) _ _ _))).trans ?_
  refine Shape.idx3_ext ?_ ?_ ?_
  · show sl.val + 1 * 0 = sl.val; omega
  · show 0 + 1 * (y 0).val = (y 0).val; omega
  · show 0 + 1 * (y 1).val = (y 1).val; omega

theorem iBlk_emb (b : Fin 2048) (y : S1x128.Idx) :
    (iBlk ![b.val, 0] (inbIB b)).view.emb y = (ix2 b (y 1 : Fin 128) : S2048x128.Idx) := by
  have h0 : (y 0).val = 0 := Nat.lt_one_iff.mp (y 0).isLt
  refine funext fun a => Fin.ext ?_
  match a with
  | 0 => show b.val + 1 * (y 0).val = b.val; omega
  | 1 => show 0 + 1 * (y 1).val = (y 1).val; omega

/-- Row `r` of block `b`. -/
abbrev rowOfBlk (b : Fin 2048) (r : Fin 32) : Fin 65536 := ⟨32 * b.val + r.val, by omega⟩

theorem oBlk_emb (b : Fin 2048) (y : S32x1024.Idx) :
    (oBlk ![32 * b.val, 0] (inbOB b)).view.emb y = (ix2 (rowOfBlk b (y 0 : Fin 32)) (y 1 : Fin 1024) : S65536x1024.Idx) := by
  refine funext fun a => Fin.ext ?_
  match a with
  | 0 => show 32 * b.val + 1 * (y 0).val = 32 * b.val + (y 0).val; omega
  | 1 => show 0 + 1 * (y 1).val = (y 1).val; omega

theorem inbRP (c : Fin 8) : ∀ a, (![0, 128 * c.val] : Fin 2 → ℕ) a + S32x128.size a ≤ S32x1024.size a := by revert c; decide
theorem inbXP (c : Fin 8) : ∀ a, (![0, 128 * c.val] : Fin 2 → ℕ) a + S65536x128.size a ≤ S65536x1024.size a := by
  intro a; match a with
  | 0 => exact le_refl 65536
  | 1 => have := c.isLt; show 128 * c.val + 128 ≤ 1024; omega

/-- Column `k` of piece `c`. -/
abbrev colOf (c : Fin 8) (k : Fin 128) : Fin 1024 := ⟨128 * c.val + k.val, by omega⟩

theorem rPiece_emb (sl : Fin 2) (c : Fin 8) (y : S32x128.Idx) :
    (rPiece ![sl.val, 0, 0] (inbR sl) ![0, 128 * c.val] (inbRP c)).view.emb y
      = (ix3 sl (y 0 : Fin 32) (colOf c (y 1 : Fin 128)) : S2x32x1024.Idx) := by
  show (rSlot ![sl.val, 0, 0] (inbR sl)).view.emb ((Rect.unit (s := S32x1024) ![0, 128 * c.val] S32x128.size (inbRP c)).emb y) = _
  rw [rSlot_emb]
  refine Shape.idx3_ext rfl ?_ ?_
  · show 0 + 1 * (y 0).val = (y 0).val; omega
  · show 128 * c.val + 1 * (y 1).val = 128 * c.val + (y 1).val; omega

theorem xPiece_emb (c : Fin 8) (y : S65536x128.Idx) :
    (xPiece ![0, 128 * c.val] (inbXP c)).view.emb y = (ix2 (y 0 : Fin 65536) (colOf c (y 1 : Fin 128)) : S65536x1024.Idx) := by
  refine funext fun a => Fin.ext ?_
  match a with
  | 0 => show 0 + 1 * (y 0).val = (y 0).val; omega
  | 1 => show 128 * c.val + 1 * (y 1).val = 128 * c.val + (y 1).val; omega

abbrev lane (k : Fin 32) : Fin 128 := ⟨k.val, by omega⟩

theorem offs_emb (sl : Fin 2) (y : S32.Idx) :
    (offs ![sl.val, 0, 0] (inbI sl)).view.emb y = (ix3 sl (0 : Fin 1) (lane (y 0 : Fin 32)) : S2x1x128.Idx) := by
  show (iSlot ![sl.val, 0, 0] (inbI sl)).view.emb ((Rect.unit (s := S1x128) ![0, 0] S1x32.size inb_S1x128_S1x32_0_0).emb (Shape.reshapeEquiv _ y)) = _
  rw [iSlot_emb, show Shape.reshapeEquiv squeezes_S1x32_S32.numel_eq y = (ix2 (0 : Fin 1) (y 0 : Fin 32) : S1x32.Idx) from
    Shape.reshapeEquiv_eq_of_rowMajor _ (by
      refine (Shape.rowMajor_val_two (d := ![1, 32]) _).trans (Eq.trans ?_ (Shape.rowMajor_val_one (d := ![32]) y).symm)
      show 0 * 32 + (y 0).val = (y 0).val; omega)]
  refine Shape.idx3_ext rfl rfl ?_
  show 0 + 1 * (y 0).val = (y 0).val; omega

/-! ## The elements of each -/

abbrev iSet (sl : Fin 2) : Finset S2x1x128.Idx := (iSlot ![sl.val, 0, 0] (inbI sl)).view.set
abbrev rSet (sl : Fin 2) : Finset S2x32x1024.Idx := (rSlot ![sl.val, 0, 0] (inbR sl)).view.set
abbrev ibSet (b : Fin 2048) : Finset S2048x128.Idx := (iBlk ![b.val, 0] (inbIB b)).view.set
abbrev obSet (b : Fin 2048) : Finset S65536x1024.Idx := (oBlk ![32 * b.val, 0] (inbOB b)).view.set
abbrev rpSet (sl : Fin 2) (c : Fin 8) : Finset S2x32x1024.Idx := (rPiece ![sl.val, 0, 0] (inbR sl) ![0, 128 * c.val] (inbRP c)).view.set
abbrev xpSet (c : Fin 8) : Finset S65536x1024.Idx := (xPiece ![0, 128 * c.val] (inbXP c)).view.set
abbrev ofSet (sl : Fin 2) : Finset S2x1x128.Idx := (offs ![sl.val, 0, 0] (inbI sl)).view.set

theorem mem_iSet {sl : Fin 2} {x : S2x1x128.Idx} (h : x ∈ iSet sl) : ∃ y : S1x128.Idx, (iSlot ![sl.val, 0, 0] (inbI sl)).view.emb y = x := by
  obtain ⟨y, -, e⟩ := Finset.mem_map.mp h; exact ⟨y, e⟩
theorem mem_rSet {sl : Fin 2} {x : S2x32x1024.Idx} (h : x ∈ rSet sl) : ∃ y : S32x1024.Idx, (rSlot ![sl.val, 0, 0] (inbR sl)).view.emb y = x := by
  obtain ⟨y, -, e⟩ := Finset.mem_map.mp h; exact ⟨y, e⟩
theorem mem_obSet {b : Fin 2048} {x : S65536x1024.Idx} (h : x ∈ obSet b) : ∃ y : S32x1024.Idx, (oBlk ![32 * b.val, 0] (inbOB b)).view.emb y = x := by
  obtain ⟨y, -, e⟩ := Finset.mem_map.mp h; exact ⟨y, e⟩
theorem mem_rpSet {sl : Fin 2} {c : Fin 8} {x : S2x32x1024.Idx} (h : x ∈ rpSet sl c) :
    ∃ y : S32x128.Idx, (rPiece ![sl.val, 0, 0] (inbR sl) ![0, 128 * c.val] (inbRP c)).view.emb y = x := by
  obtain ⟨y, -, e⟩ := Finset.mem_map.mp h; exact ⟨y, e⟩
theorem rpSet_subset (sl : Fin 2) (c : Fin 8) : rpSet sl c ⊆ rSet sl := View.set_slice_subset _ _
theorem ofSet_subset (sl : Fin 2) : ofSet sl ⊆ iSet sl := by
  refine (Finset.Subset.antisymm_iff.mp (View.set_reshape _ _)).1.trans ?_
  exact View.set_slice_subset _ _
/-- An element of a row slot whose column lies in piece `c` is the piece's. -/
theorem mem_rpSet_of {sl : Fin 2} {c : Fin 8} {x : S2x32x1024.Idx} (h : x ∈ rSet sl)
    (h1 : 128 * c.val ≤ (x 2).val) (h2 : (x 2).val < 128 * c.val + 128) : x ∈ rpSet sl c := by
  obtain ⟨y, rfl⟩ := mem_rSet h
  rw [rSlot_emb] at h1 h2 ⊢
  have h1' : 128 * c.val ≤ (y 1).val := h1
  have h2' : (y 1).val < 128 * c.val + 128 := h2
  have := View.emb_mem_set (rPiece ![sl.val, 0, 0] (inbR sl) ![0, 128 * c.val] (inbRP c)).view
    (ix2 (y 0 : Fin 32) (⟨(y 1).val - 128 * c.val, by omega⟩ : Fin 128) : S32x128.Idx)
  rw [rPiece_emb] at this
  have e : (ix3 sl (y 0 : Fin 32) (colOf c (⟨(y 1).val - 128 * c.val, by omega⟩ : Fin 128)) : S2x32x1024.Idx)
      = ix3 sl (y 0 : Fin 32) (y 1 : Fin 1024) := Shape.idx3_ext rfl rfl (by
    show 128 * c.val + ((y 1).val - 128 * c.val) = (y 1).val; omega)
  exact e ▸ this

theorem emb_fst_iBlk (b : Fin 2048) (x : S2048x128.Idx) : x ∈ ibSet b ↔ (x 0).val = b.val := by
  constructor
  · intro h; obtain ⟨y, -, rfl⟩ := Finset.mem_map.mp h; rw [iBlk_emb]
  · intro h
    have := View.emb_mem_set (iBlk ![b.val, 0] (inbIB b)).view (ix2 (0 : Fin 1) (x 1 : Fin 128) : S1x128.Idx)
    rw [iBlk_emb] at this
    refine (congrArg (· ∈ ibSet b) (funext fun a => Fin.ext ?_)).mp this
    match a with
    | 0 => exact h.symm
    | 1 => rfl
theorem emb_fst_oBlk (b : Fin 2048) (x : S65536x1024.Idx) : x ∈ obSet b ↔ (x 0).val / 32 = b.val := by
  constructor
  · intro h; obtain ⟨y, rfl⟩ := mem_obSet h; rw [oBlk_emb]
    have h32 : (y 0).val < 32 := (y 0).isLt
    show (32 * b.val + (y 0).val) / 32 = b.val; omega
  · intro h
    have := View.emb_mem_set (oBlk ![32 * b.val, 0] (inbOB b)).view
      (ix2 (⟨(x 0).val % 32, Nat.mod_lt _ (by decide)⟩ : Fin 32) (x 1 : Fin 1024) : S32x1024.Idx)
    rw [oBlk_emb] at this
    refine (congrArg (· ∈ obSet b) (funext fun a => Fin.ext ?_)).mp this
    match a with
    | 0 => show 32 * b.val + (x 0).val % 32 = (x 0).val; omega
    | 1 => rfl

/-! ## The values -/

variable (I : S2048x128.Idx → Elt F .i32) (X : S65536x1024.Idx → Elt F .f32)

/-- Every index in use names a row. -/
def InRows : Prop := ∀ (b : Fin 2048) (r : Fin 32), (I (ix2 b (lane r))).toNat < 65536

variable {I} in
/-- The row named by index `r` of block `b`. -/
def rowAt (hI : InRows I) (b : Fin 2048) (r : Fin 32) : Fin 65536 := ⟨(I (ix2 b (lane r))).toNat, hI b r⟩

/-- The gathered array: row `32 b + r` is the row of `X` that index `r` of block `b` names. -/
def OUT (hI : InRows I) : S65536x1024.Idx → Elt F .f32 := fun x =>
  X (ix2 (rowAt hI ⟨(x 0).val / 32, by have : (x 0).val < 65536 := (x 0).isLt; omega⟩ ⟨(x 0).val % 32, Nat.mod_lt _ (by decide)⟩) (x 1 : Fin 1024))

/-- Block `b` of the indices as a slot holds it; -/
def IB (b : Fin 2048) : S2x1x128.Idx → Elt F .i32 := fun x => I (ix2 b (x 2 : Fin 128))
/-- the gathered rows of block `b` as a slot holds them; -/
def RB (hI : InRows I) (b : Fin 2048) : S2x32x1024.Idx → Elt F .f32 := fun x => X (ix2 (rowAt hI b (x 1 : Fin 32)) (x 2 : Fin 1024))
/-- a slot whose first `n` pieces are gathered. -/
def PB (hI : InRows I) (b : Fin 2048) (f : S2x32x1024.Idx → Elt F .f32) (n : ℕ) : S2x32x1024.Idx → Elt F .f32 := fun x =>
  if (x 2).val < 128 * n then RB I X hI b x else f x

theorem PB_zero (hI : InRows I) (b : Fin 2048) (f : S2x32x1024.Idx → Elt F .f32) : PB I X hI b f 0 = f := by
  funext x; unfold PB; rw [if_neg (by omega)]
theorem PB_eight (hI : InRows I) (b : Fin 2048) (f : S2x32x1024.Idx → Elt F .f32) : PB I X hI b f 8 = RB I X hI b := by
  funext x; unfold PB; rw [if_pos (by have : (x 2).val < 1024 := (x 2).isLt; omega)]

theorem OUT_row (hI : InRows I) (b : Fin 2048) (r : Fin 32) (k : Fin 1024) :
    OUT I X hI (ix2 (rowOfBlk b r) k) = X (ix2 (rowAt hI b r) k) := by
  have e1 : (⟨(32 * b.val + r.val) / 32, by omega⟩ : Fin 2048) = b := Fin.ext (by show (32 * b.val + r.val) / 32 = b.val; omega)
  have e2 : (⟨(32 * b.val + r.val) % 32, Nat.mod_lt _ (by decide)⟩ : Fin 32) = r := Fin.ext (by show (32 * b.val + r.val) % 32 = r.val; omega)
  show X (ix2 (rowAt hI ⟨(32 * b.val + r.val) / 32, _⟩ ⟨(32 * b.val + r.val) % 32, _⟩) k) = _
  rw [e1, e2]

/-- What the copy of index block `b` leaves in slot `sl`. -/
theorem iSlot_written (sl : Fin 2) (b : Fin 2048) (f : S2x1x128.Idx → Elt F .i32) (x : S2x1x128.Idx) (hx : x ∈ iSet sl) :
    (iSlot ![sl.val, 0, 0] (inbI sl)).view.write (Elt F) f ((iBlk ![b.val, 0] (inbIB b)).view.read (Elt F) I) Finset.univ x = IB I b x := by
  obtain ⟨y, rfl⟩ := mem_iSet hx
  refine (View.write_emb_of_mem _ _ (Finset.mem_univ y)).trans ?_
  rw [View.read_apply, iBlk_emb, iSlot_emb]; rfl

/-- What the copy of a filled slot leaves in the result's block. -/
theorem oBlk_written (hI : InRows I) (sl : Fin 2) (b : Fin 2048) (f : S65536x1024.Idx → Elt F .f32) (x : S65536x1024.Idx) (hx : x ∈ obSet b) :
    (oBlk ![32 * b.val, 0] (inbOB b)).view.write (Elt F) f ((rSlot ![sl.val, 0, 0] (inbR sl)).view.read (Elt F) (RB I X hI b)) Finset.univ x
      = OUT I X hI x := by
  obtain ⟨y, rfl⟩ := mem_obSet hx
  refine (View.write_emb_of_mem _ _ (Finset.mem_univ y)).trans ?_
  rw [View.read_apply, oBlk_emb, rSlot_emb]
  exact (OUT_row I X hI b (y 0) (y 1)).symm

/-- The words a gather reads off the slot holding block `b`. -/
theorem offs_read (sl : Fin 2) (b : Fin 2048) (y : S32.Idx) :
    (offs ![sl.val, 0, 0] (inbI sl)).view.read (Elt F) (IB I b) y = I (ix2 b (lane (y 0 : Fin 32))) := by
  rw [View.read_apply, offs_emb]; rfl

theorem offs_inRows (hI : InRows I) (sl : Fin 2) (b : Fin 2048) :
    ∀ y, ((offs ![sl.val, 0, 0] (inbI sl)).view.read (Elt F) (IB I b) y).toNat < S65536x128.size gathers_S65536x128_S32x128.axis := by
  intro y; rw [offs_read]; exact hI b _

/-- What gathering piece `c` leaves in the slot. -/
theorem rPiece_written (hI : InRows I) (sl : Fin 2) (b : Fin 2048) (c : Fin 8) (f g : S2x32x1024.Idx → Elt F .f32)
    (hin : ∀ y, ((offs ![sl.val, 0, 0] (inbI sl)).view.read (Elt F) (IB I b) y).toNat < S65536x128.size gathers_S65536x128_S32x128.axis)
    (x : S2x32x1024.Idx) (hx : x ∈ rpSet sl c) :
    (rPiece ![sl.val, 0, 0] (inbR sl) ![0, 128 * c.val] (inbRP c)).view.write (Elt F) g
        (gatherPayload gathers_S65536x128_S32x128 ((xPiece ![0, 128 * c.val] (inbXP c)).view.read (Elt F) X)
          (rows ((offs ![sl.val, 0, 0] (inbI sl)).view.read (Elt F) (IB I b)) rfl hin)) Finset.univ x
      = PB I X hI b f (c.val + 1) x := by
  obtain ⟨y, rfl⟩ := mem_rpSet hx
  refine (View.write_emb_of_mem _ _ (Finset.mem_univ y)).trans ?_
  have hy1 : (y 1).val < 128 := (y 1).isLt
  unfold gatherPayload
  rw [View.read_apply, xPiece_emb, rPiece_emb]
  unfold PB
  rw [if_pos (show 128 * c.val + (y 1).val < 128 * (c.val + 1) by omega)]
  show X _ = X _
  congr 1
  refine funext fun a => Fin.ext ?_
  match a with
  | 0 =>
    refine (congrArg Fin.val (Shape.Gathers.idx_axis gathers_S65536x128_S32x128 _ y)).trans ?_
    refine (congrArg BitVec.toNat (offs_read I sl b _)).trans ?_
    refine congrArg (fun k : Fin 32 => (I (ix2 b (lane k))).toNat) (Fin.ext ?_)
    refine (Shape.rowMajor_val_one (d := ![32]) (S32.rowMajor.symm (Fin.cast (rfl : 32 = S32.numel) (y 0)))).symm.trans ?_
    exact congrArg Fin.val (Equiv.apply_symm_apply S32.rowMajor _)
  | 1 =>
    refine congrArg (128 * c.val + ·) ?_
    exact Shape.Gathers.idx_of_ne gathers_S65536x128_S32x128 _ y (1 : Fin 2) (by decide)

/-- Off the piece nothing changes. -/
theorem PB_off (hI : InRows I) (sl : Fin 2) (b : Fin 2048) (c : Fin 8) (f : S2x32x1024.Idx → Elt F .f32)
    (x : S2x32x1024.Idx) (hx : x ∈ rSet sl \ rpSet sl c) : PB I X hI b f c.val x = PB I X hI b f (c.val + 1) x := by
  obtain ⟨h1, h2⟩ := Finset.mem_sdiff.mp hx
  have hn : ¬ (128 * c.val ≤ (x 2).val ∧ (x 2).val < 128 * c.val + 128) := fun h => h2 (mem_rpSet_of h1 h.1 h.2)
  unfold PB
  by_cases h : (x 2).val < 128 * c.val
  · rw [if_pos h, if_pos (by omega)]
  · rw [if_neg h, if_neg (by omega)]

end Cert.Proof.Gather
-- ==== Proof.Ops.lean ====
/-
  The transfers of the task, each as one rule over the pieces it moves: an index block into a slot and its wait, one column
  piece of a gather with its wait, a filled slot into the result's block and its wait.
-/
module

public import proofs.«01_k».proof.Proof.Views

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem takes it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

abbrev xLoc (d : Dev nD) : Loc nD τ sig := (SparseCore.T d).loc main_arg1
abbrev iLoc (d : Dev nD) : Loc nD τ sig := (SparseCore.T d).loc main_v1
abbrev oLoc (d : Dev nD) : Loc nD τ sig := (SparseCore.T d).loc main_v2

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## The cells -/

theorem inbS (sl : Fin 2) : ∀ a, (![sl.val] : Fin 1 → ℕ) a + S1.size a ≤ S2.size a := by revert sl; decide
abbrev semAt (v : DmaSems sig S2) (off : Fin 1 → ℕ) (h : ∀ a, off a + S1.size a ≤ S2.size a) : DmaSem sig :=
  ((v.slice (Rect.unit (s := S2) off S1.size h)).squeeze S_ squeezes_S1_S_).sem
abbrev iCell (sl : Fin 2) : DmaSem sig := semAt cc0_scoped1 ![sl.val] (inbS sl)
abbrev oCell (sl : Fin 2) : DmaSem sig := semAt cc0_scoped3 ![sl.val] (inbS sl)

/-! ## The pieces -/

section Pieces

variable (d : Dev nD) (L : grid0.Coords)

/-- Block `b` of the indices; -/
abbrev ibPts (b : Fin 2048) (I : Buf (Elt F) (iLoc d)) : sProp 𝕄 := iLoc d ↦[ibSet b]{fullShare} I
/-- block `b` of the result; -/
abbrev obPts (b : Fin 2048) (f : Buf (Elt F) (oLoc d)) : sProp 𝕄 := oLoc d ↦[obSet b]{fullShare} f
/-- a share of the rows' source; -/
abbrev xPts (q : PosShare TreeShare) (X : Buf (Elt F) (xLoc d)) : sProp 𝕄 := xLoc d ↦{q} X
/-- slot `sl` of the indices' scratch, -/
abbrev iPts (sl : Fin 2) (f : Buf (Elt F) ((thr d L).loc cc0_scoped0)) : sProp 𝕄 := (thr d L).loc cc0_scoped0 ↦[iSet sl]{fullShare} f
/-- and of the rows'. -/
abbrev rPts (sl : Fin 2) (f : Buf (Elt F) ((thr d L).loc cc0_scoped2)) : sProp 𝕄 := (thr d L).loc cc0_scoped2 ↦[rSet sl]{fullShare} f

abbrev Ni : ℕ := (iSlot ![0, 0, 0] (inbI 0)).view.dmaCredit
abbrev No : ℕ := (oBlk ![0, 0] (inbOB 0)).view.dmaCredit

variable (I : Buf (Elt F) (iLoc d)) (X : Buf (Elt F) (xLoc d)) (hI : InRows (F := F) I)

/-- Block `b` of the indices on its way into slot `sl`; -/
abbrev iFl (sl : Fin 2) (b : Fin 2048) : sProp 𝕄 :=
  Transfers.Flight countersEmb (thr d L) (.dma (iCell sl)) (default : HIx 1) Ni iprop(iPts d L sl (IB (F := F) I b) ∗ ibPts d b I)
/-- slot `sl` on its way into block `b` of the result. -/
abbrev oFl (sl : Fin 2) (b : Fin 2048) : sProp 𝕄 :=
  Transfers.Flight countersEmb (thr d L) (.dma (oCell sl)) (default : HIx 1) No iprop(obPts d b (OUT (F := F) I X hI) ∗ rPts d L sl (RB (F := F) I X hI b))

/-- The waits recorded so far are at no call's index. -/
abbrev owing (O : CellTallies nD τ sig (HIx 1)) (W : Waits sig (HIx 1)) : sProp 𝕄 :=
  iprop(∃ W', ⌜∀ p ∈ W', p ∈ W ∨ p.2 = none⌝ ∗ owes (thr d L) O W')

end Pieces

/-! ## The rules -/

section Rules

variable [FloatOps F] (d : Dev nD) (L : grid0.Coords)
variable (I : Buf (Elt F) (iLoc d)) (X : Buf (Elt F) (xLoc d)) (hI : InRows (F := F) I)
variable (O : CellTallies nD τ sig (HIx 1)) (W : Waits sig (HIx 1)) (hO : ∀ g, O g none = 0)

theorem wp_iStart {α : Type} (sl : Fin 2) (b : Fin 2048) (o4 : Fin 3 → ℕ) (o5 : Fin 2 → ℕ) (o6 : Fin 1 → ℕ)
    (h4 : ∀ a, o4 a + S1x1x128.size a ≤ S2x1x128.size a) (h5 : ∀ a, o5 a + S1x128.size a ≤ S2048x128.size a) (h6 : ∀ a, o6 a + S1.size a ≤ S2.size a)
    (e4 : o4 = ![sl.val, 0, 0]) (e5 : o5 = ![b.val, 0]) (e6 : o6 = ![sl.val])
    (f : Buf (Elt F) ((thr d L).loc cc0_scoped0))
    {hsrc : (iBlk o5 h5).view.WordExact} {hdst : (iSlot o4 h4).view.WordExact}
    {hsem : DmaTarget.Typed (nD := nD) (p := .scVector (cV L) (jV L)) Space.hbm (SemLoc.dma (semAt cc0_scoped1 o6 h6)) (.here (iSlot o4 h4))}
    {k : PUnit → Prog (TpuEff nD τ sig (Elt F) Λ₀ (.scVector (cV L) (jV L))) α} {Q : α → sProp 𝕄} :
    iprop(ibPts d b I ∗ iPts d L sl f ∗ semVal ((thr d L), .dma (iCell sl)) 0)
      ⊢ iprop((iFl d L I sl b -∗ wp frame (wpE (defs₀ (F := F)) 𝒱₀ (thr d L) none) Set.univ (k ⟨⟩) Q)
          -∗ wp frame (wpE (defs₀ (F := F)) 𝒱₀ (thr d L) none) Set.univ
              (.op (.enqueueDma (iBlk o5 h5) (.here (iSlot o4 h4)) (.dma (semAt cc0_scoped1 o6 h6)) hsrc hdst hsem) k) Q) := by
  subst e4 e5 e6
  iintro ⟨Hb, Hs, Hv⟩ Hk
  iapply (Transfers.wp_dmaLocal (defs := defs₀ (F := F)) (k := k) (Q := Q) countersEmb 𝒱₀ (thr d L) none (src := iBlk ![b.val, 0] h5) (dst := iSlot ![sl.val, 0, 0] h4)
    (Sd := iSet sl) (q := fullShare) (fs := I) (fd := f) (default : HIx 1) Ni rfl (by decide) (Finset.Subset.refl _)) $$ [Hb Hs Hv]
  · isplitl [Hb]; · iexact Hb
    isplitl [Hs]; · iexact Hs
    iexact Hv
  iintro Hf
  iapply Hk
  iapply (Transfers.Flight_mono countersEmb (thr d L) ?_) $$ Hf
  iintro ⟨Hs, Hb⟩
  isplitl [Hs]
  · iapply (Entails.of_eq (pointsTo_congr fun x hx => iSlot_written (F := F) I sl b f x hx)); iexact Hs
  iexact Hb

theorem mayWaits (hO : ∀ g, O g none = 0) :
    levAts (K (F := F)).L (K (F := F)).lev ⊢ (Transfers.MayWaits (thr d L) (default : HIx 1) O : sProp 𝕄) :=
  (K (F := F)).mayWaits_none (thr := thr d L) hO

omit [FloatOps F] in
theorem owing_insert {sm : SemLoc sig} {W' : Waits sig (HIx 1)} (h : ∀ p ∈ W', p ∈ W ∨ p.2 = none) :
    ∀ p ∈ insert (sm, (default : HIx 1)) W', p ∈ W ∨ p.2 = none := by
  intro p hp
  rcases Finset.mem_insert.mp hp with rfl | hp
  · exact .inr rfl
  · exact h p hp

theorem wp_iWait {α : Type} (hO : ∀ g, O g none = 0) (sl : Fin 2) (b : Fin 2048) (o6 : Fin 1 → ℕ) (h6 : ∀ a, o6 a + S1.size a ≤ S2.size a)
    (e6 : o6 = ![sl.val])
    (src : Memref sig .scVector .hbm S1x128 .i32) (o4 : Fin 3 → ℕ) (h4 : ∀ a, o4 a + S1x1x128.size a ≤ S2x1x128.size a)
    {hsrc : src.view.WordExact} {hdst : (iSlot o4 h4).view.WordExact}
    {k : PUnit → Prog (TpuEff nD τ sig (Elt F) Λ₀ (.scVector (cV L) (jV L))) α} {Q : α → sProp 𝕄} :
    iprop(levAts (K (F := F)).L (K (F := F)).lev ∗ owing d L O W ∗ iFl d L I sl b)
      ⊢ iprop((iprop(owing d L O W ∗ iPts d L sl (IB (F := F) I b) ∗ ibPts d b I ∗ semVal ((thr d L), .dma (iCell sl)) 0)
            -∗ wp frame (wpE (defs₀ (F := F)) 𝒱₀ (thr d L) none) Set.univ (k ⟨⟩) Q)
          -∗ wp frame (wpE (defs₀ (F := F)) 𝒱₀ (thr d L) none) Set.univ
              (.op (.waitDma2 (semAt cc0_scoped1 o6 h6) src (iSlot o4 h4) hsrc hdst) k) Q) := by
  subst e6
  iintro ⟨Hlv, ⟨%W', %hW', HO⟩, Hf⟩ Hk
  ihave Hmw := (mayWaits (F := F) d L O hO) $$ Hlv
  iapply (Transfers.wp_waitLocalO (defs := defs₀ (F := F)) (k := k) (Q := Q) countersEmb 𝒱₀ (thr d L) none (default : HIx 1) (N := Ni)
    (dstw := iSlot o4 h4) rfl) $$ [Hf HO Hmw]
  · isplitl [Hf]; · iexact Hf
    isplitl [HO]; · iexact HO
    iapply (Transfers.MayWaits.elim (SemLoc.dma (iCell sl))) $$ Hmw
  iintro ⟨⟨Hs, Hb⟩, Hv, HO⟩
  iapply Hk
  isplitl [HO]
  · iexists _; isplitr
    swap; · iexact HO
    ipureintro; exact owing_insert W hW'
  isplitl [Hs]; · iexact Hs
  isplitl [Hb]; · iexact Hb
  iexact Hv

theorem wp_oStart {α : Type} (sl : Fin 2) (b : Fin 2048) (o4 : Fin 3 → ℕ) (o5 : Fin 2 → ℕ) (o6 : Fin 1 → ℕ)
    (h4 : ∀ a, o4 a + S1x32x1024.size a ≤ S2x32x1024.size a) (h5 : ∀ a, o5 a + S32x1024.size a ≤ S65536x1024.size a) (h6 : ∀ a, o6 a + S1.size a ≤ S2.size a)
    (e4 : o4 = ![sl.val, 0, 0]) (e5 : o5 = ![32 * b.val, 0]) (e6 : o6 = ![sl.val])
    (f : Buf (Elt F) (oLoc d))
    {hsrc : (rSlot o4 h4).view.WordExact} {hdst : (oBlk o5 h5).view.WordExact}
    {hsem : DmaTarget.Typed (nD := nD) (p := .scVector (cV L) (jV L)) Space.vmem (SemLoc.dma (semAt cc0_scoped3 o6 h6)) (.here (oBlk o5 h5))}
    {k : PUnit → Prog (TpuEff nD τ sig (Elt F) Λ₀ (.scVector (cV L) (jV L))) α} {Q : α → sProp 𝕄} :
    iprop(rPts d L sl (RB (F := F) I X hI b) ∗ obPts d b f ∗ semVal ((thr d L), .dma (oCell sl)) 0)
      ⊢ iprop((oFl d L I X hI sl b -∗ wp frame (wpE (defs₀ (F := F)) 𝒱₀ (thr d L) none) Set.univ (k ⟨⟩) Q)
          -∗ wp frame (wpE (defs₀ (F := F)) 𝒱₀ (thr d L) none) Set.univ
              (.op (.enqueueDma (rSlot o4 h4) (.here (oBlk o5 h5)) (.dma (semAt cc0_scoped3 o6 h6)) hsrc hdst hsem) k) Q) := by
  subst e4 e5 e6
  iintro ⟨Hs, Hb, Hv⟩ Hk
  iapply (Transfers.wp_dmaLocal (defs := defs₀ (F := F)) (k := k) (Q := Q) countersEmb 𝒱₀ (thr d L) none (src := rSlot ![sl.val, 0, 0] h4) (dst := oBlk ![32 * b.val, 0] h5)
    (Sd := obSet b) (q := fullShare) (fs := RB (F := F) I X hI b) (fd := f) (default : HIx 1) No rfl (by decide) (Finset.Subset.refl _)) $$ [Hb Hs Hv]
  · isplitl [Hs]; · iexact Hs
    isplitl [Hb]; · iexact Hb
    iexact Hv
  iintro Hf
  iapply Hk
  iapply (Transfers.Flight_mono countersEmb (thr d L) ?_) $$ Hf
  iintro ⟨Hb, Hs⟩
  isplitl [Hb]
  · iapply (Entails.of_eq (pointsTo_congr fun x hx => oBlk_written (F := F) I X hI sl b f x hx)); iexact Hb
  iexact Hs

theorem wp_oWait {α : Type} (hO : ∀ g, O g none = 0) (sl : Fin 2) (b : Fin 2048) (o6 : Fin 1 → ℕ) (h6 : ∀ a, o6 a + S1.size a ≤ S2.size a)
    (e6 : o6 = ![sl.val])
    (src : Memref sig .scVector .vmem S32x1024 .f32) (o5 : Fin 2 → ℕ) (h5 : ∀ a, o5 a + S32x1024.size a ≤ S65536x1024.size a)
    {hsrc : src.view.WordExact} {hdst : (oBlk o5 h5).view.WordExact}
    {k : PUnit → Prog (TpuEff nD τ sig (Elt F) Λ₀ (.scVector (cV L) (jV L))) α} {Q : α → sProp 𝕄} :
    iprop(levAts (K (F := F)).L (K (F := F)).lev ∗ owing d L O W ∗ oFl d L I X hI sl b)
      ⊢ iprop((iprop(owing d L O W ∗ obPts d b (OUT (F := F) I X hI) ∗ rPts d L sl (RB (F := F) I X hI b) ∗ semVal ((thr d L), .dma (oCell sl)) 0)
            -∗ wp frame (wpE (defs₀ (F := F)) 𝒱₀ (thr d L) none) Set.univ (k ⟨⟩) Q)
          -∗ wp frame (wpE (defs₀ (F := F)) 𝒱₀ (thr d L) none) Set.univ
              (.op (.waitDma2 (semAt cc0_scoped3 o6 h6) src (oBlk o5 h5) hsrc hdst) k) Q) := by
  subst e6
  iintro ⟨Hlv, ⟨%W', %hW', HO⟩, Hf⟩ Hk
  ihave Hmw := (mayWaits (F := F) d L O hO) $$ Hlv
  iapply (Transfers.wp_waitLocalO (defs := defs₀ (F := F)) (k := k) (Q := Q) countersEmb 𝒱₀ (thr d L) none (default : HIx 1) (N := No)
    (dstw := oBlk o5 h5) rfl) $$ [Hf HO Hmw]
  · isplitl [Hf]; · iexact Hf
    isplitl [HO]; · iexact HO
    iapply (Transfers.MayWaits.elim (SemLoc.dma (oCell sl))) $$ Hmw
  iintro ⟨⟨Hb, Hs⟩, Hv, HO⟩
  iapply Hk
  isplitl [HO]
  · iexists _; isplitr
    swap; · iexact HO
    ipureintro; exact owing_insert W hW'
  isplitl [Hb]; · iexact Hb
  isplitl [Hs]; · iexact Hs
  iexact Hv

theorem credit_rows : ∀ h : S65536x128.Gathers 0 S32x128,
    ∑ j, ((rPiece ![0, 0, 0] (inbR 0) ![0, 0] (inbRP 0)).slice (S32x128.rowRect h.axis' j) (S32x128.stride_rowRect h.axis' j)).view.dmaCredit
      = (rPiece ![0, 0, 0] (inbR 0) ![0, 0] (inbRP 0)).view.dmaCredit := by decide

/-- One column piece of the gather: started and waited for. -/
theorem wp_gather {α : Type} (hO : ∀ g, O g none = 0) (sl : Fin 2) (b : Fin 2048) (c : Fin 8) (q : PosShare TreeShare) (v : DmaSems sig S_)
    (oi oi' : Fin 3 → ℕ) (hi : ∀ a, oi a + S1x1x128.size a ≤ S2x1x128.size a)
    (hr : ∀ a, oi' a + S1x32x1024.size a ≤ S2x32x1024.size a)
    (oc : Fin 2 → ℕ) (hc : ∀ a, oc a + S32x128.size a ≤ S32x1024.size a) (hx : ∀ a, oc a + S65536x128.size a ≤ S65536x1024.size a)
    (ei : oi = ![sl.val, 0, 0]) (er : oi' = ![sl.val, 0, 0]) (ec : oc = ![0, 128 * c.val])
    (f : Buf (Elt F) ((thr d L).loc cc0_scoped2))
    {hp : (Proc.scVector (τ := τ) (cV L) (jV L)).kind = .scVector}
    {hn : S32.numel = S32x128.size gathers_S65536x128_S32x128.axis'} {hsrc hsrc' : (xPiece oc hx).view.WordExact}
    {he : EltTy.f32.bits = 32} {hsp : Space.hbm = .hbm ∨ Space.hbm = .shared} {hR : S65536x128.StreamRows 0}
    {hdst' : (rPiece oi' hr oc hc).view.WordExact}
    {k : PUnit → Prog (TpuEff nD τ sig (Elt F) Λ₀ (.scVector (cV L) (jV L))) α} {Q : α → sProp 𝕄} :
    iprop(levAts (K (F := F)).L (K (F := F)).lev ∗ owing d L O W ∗ xPts d q X ∗ iPts d L sl (IB (F := F) I b)
        ∗ rPts d L sl (PB (F := F) I X hI b f c.val) ∗ semVal ((thr d L), .dma v.sem) 0)
      ⊢ iprop((iprop(owing d L O W ∗ xPts d q X ∗ iPts d L sl (IB (F := F) I b)
              ∗ rPts d L sl (PB (F := F) I X hI b f (c.val + 1)) ∗ semVal ((thr d L), .dma v.sem) 0)
            -∗ wp frame (wpE (defs₀ (F := F)) 𝒱₀ (thr d L) none) Set.univ (k ⟨⟩) Q)
          -∗ wp frame (wpE (defs₀ (F := F)) 𝒱₀ (thr d L) none) Set.univ
              (SparseCore.enqueueIndirectGather hp (xPiece oc hx) (rPiece oi' hr oc hc) gathers_S65536x128_S32x128 (offs oi hi) hn v.sem hsrc he hsp hR
                >>= fun _ => .op (.waitDma2 v.sem (xPiece oc hx) (rPiece oi' hr oc hc) hsrc' hdst') k) Q) := by
  subst ei er ec
  iintro ⟨Hlv, ⟨%W', %hW', HO⟩, Hx, Hi, Hr, Hv⟩ Hk
  ihave Hmw := (mayWaits (F := F) d L O hO) $$ Hlv
  ihave Hxs := (pointsTo_split_subset (q := q) (f := X) (S := Finset.univ) (Finset.subset_univ (xpSet c))).1 $$ Hx
  icases Hxs with ⟨Hxs, Hxr⟩
  ihave His := (pointsTo_split_subset (q := fullShare) (f := IB (F := F) I b) (S := iSet sl) (ofSet_subset sl)).1 $$ Hi
  icases His with ⟨His, Hir⟩
  ihave Hrs := (pointsTo_split_subset (q := fullShare) (f := PB (F := F) I X hI b f c.val) (S := rSet sl) (rpSet_subset sl c)).1 $$ Hr
  icases Hrs with ⟨Hrs, Hrr⟩
  iapply (SparseCore.wp_indirectGatherLocal (defs := defs₀ (F := F)) countersEmb 𝒱₀ (thr d L) none (hg := gathers_S65536x128_S32x128)
      (src := xPiece ![0, 128 * c.val] hx) (dst := rPiece ![sl.val, 0, 0] hr ![0, 128 * c.val] hc) (offs := offs ![sl.val, 0, 0] hi)
      (fs := X) (fo := IB (F := F) I b) (fd := PB (F := F) I X hI b f c.val) (q := q) (qo := fullShare) (default : HIx 1)
      (rPiece ![0, 0, 0] (inbR 0) ![0, 0] (inbRP 0)).view.dmaCredit (credit_rows _) (by decide) (offs_inRows (F := F) I hI sl b)) $$ [Hxs Hrs His Hv]
  · isplitl [Hxs]; · iexact Hxs
    isplitl [Hrs]; · iexact Hrs
    isplitl [His]; · iexact His
    iexact Hv
  iintro Hfl
  iapply (Transfers.wp_waitLocalO (defs := defs₀ (F := F)) (k := k) (Q := Q) countersEmb 𝒱₀ (thr d L) none (default : HIx 1)
    (N := (rPiece ![0, 0, 0] (inbR 0) ![0, 0] (inbRP 0)).view.dmaCredit) (dstw := rPiece ![sl.val, 0, 0] hr ![0, 128 * c.val] hc) rfl) $$ [Hfl HO Hmw]
  · isplitl [Hfl]; · iexact Hfl
    isplitl [HO]; · iexact HO
    iapply (Transfers.MayWaits.elim (SemLoc.dma v.sem)) $$ Hmw
  iintro ⟨⟨Hrs, Hxs, His⟩, Hv, HO⟩
  iapply Hk
  isplitl [HO]
  · iexists _; isplitr
    swap; · iexact HO
    ipureintro; exact owing_insert W hW'
  isplitl [Hxs Hxr]
  · iapply (pointsTo_split_subset (q := q) (f := X) (S := Finset.univ) (Finset.subset_univ (xpSet c))).2
    isplitl [Hxs]; · iexact Hxs
    iexact Hxr
  isplitl [His Hir]
  · iapply (pointsTo_split_subset (q := fullShare) (f := IB (F := F) I b) (S := iSet sl) (ofSet_subset sl)).2
    isplitl [His]; · iexact His
    iexact Hir
  isplitl [Hrs Hrr]
  · iapply (pointsTo_split_subset (q := fullShare) (f := PB (F := F) I X hI b f (c.val + 1)) (S := rSet sl) (rpSet_subset sl c)).2
    isplitl [Hrs]
    · iapply (Entails.of_eq (pointsTo_congr fun x hx' => rPiece_written (F := F) I X hI sl b c f _ (offs_inRows (F := F) I hI sl b) x hx')); iexact Hrs
    · iapply (Entails.of_eq (pointsTo_congr fun x hx' => PB_off (F := F) I X hI sl b c f x hx')); iexact Hrr
  iexact Hv

end Rules

end Cert.Proof.Gather
-- ==== Proof.Inv.lean ====
/-
  The state of one task between two trips of its loop, and how its parts change over a trip.
-/
module

public import proofs.«01_k».proof.Proof.Ops

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

/-! ## The blocks of one task: those still to come, those done -/

def upFrom (n : ℕ) : Finset (Fin 64) := Finset.univ.filter fun t : Fin 64 => n ≤ t.val
def below (n : ℕ) : Finset (Fin 64) := Finset.univ.filter fun t : Fin 64 => t.val < n

theorem upFrom_zero : upFrom 0 = Finset.univ := Finset.filter_eq_self.mpr fun _ _ => Nat.zero_le _
theorem upFrom_end {n : ℕ} (h : 64 ≤ n) : upFrom n = ∅ :=
  Finset.filter_eq_empty_iff.mpr fun t _ h' => absurd t.isLt (by omega)
theorem below_zero : below 0 = ∅ := Finset.filter_eq_empty_iff.mpr fun t _ h => absurd h (Nat.not_lt_zero _)
theorem below_end : below 64 = Finset.univ := Finset.filter_eq_self.mpr fun t _ => t.isLt
theorem upFrom_step (n : ℕ) (h : n < 64) : upFrom n = insert ⟨n, h⟩ (upFrom (n + 1)) := by
  ext t; simp only [upFrom, Finset.mem_filter, Finset.mem_univ, true_and, Finset.mem_insert, Fin.ext_iff]; omega
theorem below_step (n : ℕ) (h : n < 64) : below (n + 1) = insert ⟨n, h⟩ (below n) := by
  ext t; simp only [below, Finset.mem_filter, Finset.mem_univ, true_and, Finset.mem_insert, Fin.ext_iff]; omega
theorem upFrom_not (n : ℕ) (h : n < 64) : (⟨n, h⟩ : Fin 64) ∉ upFrom (n + 1) := by simp [upFrom]
theorem below_not (n : ℕ) (h : n < 64) : (⟨n, h⟩ : Fin 64) ∉ below n := by simp [below]
theorem upFrom_take (n : ℕ) (h : n < 64) (Φ : Fin 64 → sProp 𝕄) :
    bigSep (upFrom n) Φ = iprop(Φ ⟨n, h⟩ ∗ bigSep (upFrom (n + 1)) Φ) := by
  rw [upFrom_step n h, SparseCore.bigSep_insert' (upFrom_not n h)]
theorem below_put (n : ℕ) (h : n < 64) (Φ : Fin 64 → sProp 𝕄) :
    bigSep (below (n + 1)) Φ = iprop(Φ ⟨n, h⟩ ∗ bigSep (below n) Φ) := by
  rw [below_step n h, SparseCore.bigSep_insert' (below_not n h)]
attribute [irreducible] upFrom below

/-! ## Slots and blocks by the trip -/

def par (n : ℕ) : Fin 2 := ⟨n % 2, Nat.mod_lt _ (by decide)⟩
theorem par_two (n : ℕ) : par (n + 1 + 1) = par n := Fin.ext (by show (n + 1 + 1) % 2 = n % 2; omega)

/-- The block of the indices (and of the result) task `L` takes at trip `t`. -/
def blkAt (L : grid0.Coords) (t : Fin 64) : Fin 2048 := ⟨blk L t.val, by
  have h0 : (L 0).val < 2 := (L 0).isLt
  have h1 : (L 1).val < 16 := (L 1).isLt
  have := t.isLt; show 64 * (L 1).val + 1024 * (L 0).val + t.val < 2048; omega⟩
theorem blkAt_val (L : grid0.Coords) (t : Fin 64) : (blkAt L t).val = blk L t.val := rfl

section Inv

variable (d : Dev nD) (L : grid0.Coords)
variable (I : Buf (Elt F) (iLoc d)) (X : Buf (Elt F) (xLoc d)) (hI : InRows (F := F) I) (f₀ : Buf (Elt F) (oLoc d))
variable (q : PosShare TreeShare) (O : CellTallies nD τ sig (HIx 1)) (W : Waits sig (HIx 1))

/-- A slot of the indices' scratch with nothing on its way; -/
def iFree (sl : Fin 2) : sProp 𝕄 := iprop(∃ f, iPts d L sl f ∗ semVal ((thr d L), .dma (iCell sl)) 0)
/-- one of the rows'. -/
def rFree (sl : Fin 2) : sProp 𝕄 := iprop(∃ f, rPts d L sl f ∗ semVal ((thr d L), .dma (oCell sl)) 0)

/-- The slot the trip's own index block is on its way into; after the last block, free. -/
def iNow (n : ℕ) : sProp 𝕄 := if h : n < 64 then iFl d L I (par n) (blkAt L ⟨n, h⟩) else iFree d L (par n)
/-- The slot the trip before filled and sent; before the first, free. -/
def oPrev (n : ℕ) : sProp 𝕄 :=
  if h : 0 < n ∧ n - 1 < 64 then oFl d L I X hI (par (n + 1)) (blkAt L ⟨n - 1, h.2⟩) else rFree d L (par (n + 1))

theorem iNow_of_lt (n : ℕ) (h : n < 64) : iNow d L I n = iFl d L I (par n) (blkAt L ⟨n, h⟩) := by unfold iNow; rw [dif_pos h]
theorem iNow_of_le (n : ℕ) (h : ¬ n < 64) : iNow d L I n = iFree d L (par n) := by unfold iNow; rw [dif_neg h]
theorem oPrev_zero : oPrev d L I X hI 0 = rFree d L (par 1) := by unfold oPrev; rw [dif_neg (fun h => absurd h.1 (lt_irrefl 0))]
theorem oPrev_succ (n : ℕ) (h : n < 64) : oPrev d L I X hI (n + 1) = oFl d L I X hI (par n) (blkAt L ⟨n, h⟩) := by
  unfold oPrev; rw [dif_pos ⟨Nat.succ_pos n, h⟩, par_two]; rfl

/-- The gathers' own cells, one a column piece. -/
def gCells : sProp 𝕄 :=
  iprop(semVal ((thr d L), .dma cc0_scoped4.sem) 0 ∗ semVal ((thr d L), .dma cc0_scoped5.sem) 0
    ∗ semVal ((thr d L), .dma cc0_scoped6.sem) 0 ∗ semVal ((thr d L), .dma cc0_scoped7.sem) 0
    ∗ semVal ((thr d L), .dma cc0_scoped8.sem) 0 ∗ semVal ((thr d L), .dma cc0_scoped9.sem) 0
    ∗ semVal ((thr d L), .dma cc0_scoped10.sem) 0 ∗ semVal ((thr d L), .dma cc0_scoped11.sem) 0)

/-- The words the loop carries before trip `n`. -/
def carry (n : ℕ) : BitVec 32 × BitVec 32 × BitVec 32 × BitVec 32 × BitVec 32 := (A6 n, A7 n, A7 n, A9 n, A10 n)

def v4W (L : grid0.Coords) : BitVec 32 :=
  Scalar.muli (Scalar.addi (Scalar.addi 0#32 (Scalar.muli (BitVec.ofNat 32 (L 1).val) 1#32)) (Scalar.muli (BitVec.ofNat 32 (L 0).val) 16#32)) 64#32

/-- Before trip `n`. -/
def Inv (n : ℕ) (acc : BitVec 32 × BitVec 32 × BitVec 32 × BitVec 32 × BitVec 32) : sProp 𝕄 :=
  iprop(⌜acc = carry n⌝ ∗ levAts (K (F := F)).L (K (F := F)).lev ∗ owing d L O W ∗ xPts d q X
    ∗ iNow d L I n ∗ iFree d L (par (n + 1)) ∗ oPrev d L I X hI n ∗ rFree d L (par n) ∗ gCells d L
    ∗ (bigSep (upFrom (n + 1)) fun t => ibPts d (blkAt L t) I) ∗ (bigSep (below n) fun t => ibPts d (blkAt L t) I)
    ∗ (bigSep (upFrom n) fun t => obPts d (blkAt L t) f₀) ∗ (bigSep (below (n - 1)) fun t => obPts d (blkAt L t) (OUT (F := F) I X hI)))

end Inv

end Cert.Proof.Gather
-- ==== Proof.Body.lean ====
/-
  One trip of a task's loop.
-/
module

public import proofs.«01_k».proof.Proof.Inv

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "xV" => (Memref.whole Cert.KernelIdeal.main_arg1_scv)
local notation "iV" => (Memref.whole Cert.KernelIdeal.main_v1_scv)
local notation "oV" => (Memref.whole Cert.KernelIdeal.main_v2_scv)
local notation "aV" => (Memref.whole Cert.KernelIdeal.cc0_scoped0)
local notation "rV" => (Memref.whole Cert.KernelIdeal.cc0_scoped2)

section Trip

variable [FloatOps F] (d : Dev nD) (L : grid0.Coords)
variable (I : Buf (Elt F) (iLoc d)) (X : Buf (Elt F) (xLoc d)) (hI : InRows (F := F) I) (f₀ : Buf (Elt F) (oLoc d))
variable (q : PosShare TreeShare) (O : CellTallies nD τ sig (HIx 1)) (W : Waits sig (HIx 1)) (hO : ∀ g, O g none = 0)

/-- What the first part's words say of the words carried on. -/
structure Words (k : ℕ) (v64 v65 : BitVec 1) (v66 v71 v76 v91 : BitVec 32) : Prop where
  next6 : v91 = A6 (k + 1)
  next7 : Scalar.select (Scalar.ori (Scalar.cmpi .ne v66 v76) v65) (Scalar.addi (A7 k) 1#32) (A7 k) = A7 (k + 1)
  next8 : Scalar.select (Scalar.andi (Scalar.ori (Scalar.cmpi .ne v66 v76) v65) 1#1) (Scalar.addi (A7 k) 1#32) (A7 k) = A7 (k + 1)
  next9 : Scalar.select (Scalar.andi (Scalar.andi (Scalar.cmpi .ne v66 v71) (Scalar.xori v64 1#1)) 1#1) (Scalar.addi (A9 k) 1#32) (A9 k) = A9 (k + 1)

abbrev ivW (k : Fin k0_t1_loop.trips) : BitVec 32 := Scf.iv 0#32 1#32 k
abbrev w66 (L : grid0.Coords) (k : ℕ) : BitVec 32 := Scalar.addi (A10 k) (v4W L)
abbrev w71 (L : grid0.Coords) (k : ℕ) : BitVec 32 :=
  Scalar.addi (Scalar.select (Scalar.cmpi .eq (Scalar.select 1#1 (Scalar.subi (A10 k) 1#32) (A10 k)) 4294967295#32) 63#32
    (Scalar.select 1#1 (Scalar.subi (A10 k) 1#32) (A10 k))) (v4W L)
abbrev w76 (L : grid0.Coords) (k : ℕ) : BitVec 32 :=
  Scalar.addi (Scalar.select (Scalar.cmpi .eq (Scalar.select 1#1 (Scalar.addi (A10 k) 1#32) (A10 k)) 64#32) 0#32
    (Scalar.select 1#1 (Scalar.addi (A10 k) 1#32) (A10 k))) (v4W L)
abbrev w91 (L : grid0.Coords) (k : Fin k0_t1_loop.trips) : BitVec 32 :=
  Scalar.select (Scalar.andi (Scalar.andi (Scalar.cmpi .ne (w66 L k.val) (w76 L k.val)) (Scalar.xori (Scalar.cmpi .sge (ivW k) 63#32) 1#1)) 1#1)
    (Scalar.addi (A6 k.val) 1#32) (A6 k.val)
theorem next6 : ∀ L : grid0.Coords, ∀ k : Fin k0_t1_loop.trips, w91 L k = A6 (k.val + 1) := by decide +kernel
theorem next7 : ∀ L : grid0.Coords, ∀ k : Fin k0_t1_loop.trips,
    Scalar.select (Scalar.ori (Scalar.cmpi .ne (w66 L k.val) (w76 L k.val)) (Scalar.cmpi .eq (ivW k) 63#32)) (Scalar.addi (A7 k.val) 1#32) (A7 k.val) = A7 (k.val + 1) := by
  decide +kernel
theorem next8 : ∀ L : grid0.Coords, ∀ k : Fin k0_t1_loop.trips,
    Scalar.select (Scalar.andi (Scalar.ori (Scalar.cmpi .ne (w66 L k.val) (w76 L k.val)) (Scalar.cmpi .eq (ivW k) 63#32)) 1#1) (Scalar.addi (A7 k.val) 1#32) (A7 k.val)
      = A7 (k.val + 1) := by
  decide +kernel
theorem next9 : ∀ L : grid0.Coords, ∀ k : Fin k0_t1_loop.trips,
    Scalar.select (Scalar.andi (Scalar.andi (Scalar.cmpi .ne (w66 L k.val) (w71 L k.val)) (Scalar.xori (Scalar.cmpi .eq (ivW k) 0#32) 1#1)) 1#1)
      (Scalar.addi (A9 k.val) 1#32) (A9 k.val) = A9 (k.val + 1) := by
  decide +kernel
theorem next10 : ∀ k : Fin k0_t1_loop.trips,
    Scalar.select (Scalar.cmpi .eq (Scalar.select 1#1 (Scalar.addi (A10 k.val) 1#32) (A10 k.val)) 64#32) 0#32
      (Scalar.select 1#1 (Scalar.addi (A10 k.val) 1#32) (A10 k.val)) = A10 (k.val + 1) := by
  decide +kernel
theorem words (L : grid0.Coords) (k : Fin k0_t1_loop.trips) :
    Words k.val (Scalar.cmpi .eq (ivW k) 0#32) (Scalar.cmpi .eq (ivW k) 63#32) (w66 L k.val) (w71 L k.val) (w76 L k.val) (w91 L k) :=
  ⟨next6 L k, next7 L k, next8 L k, next9 L k⟩

abbrev Out1 (L : grid0.Coords) (k : Fin k0_t1_loop.trips) : Type :=
  Σ' (_ : k0_chk3 (A7 k.val)) (_ : k0_chk2 (A7 k.val)) (_ : k0_chk1 L k (A6 k.val) (A7 k.val) (A7 k.val) (A9 k.val) (A10 k.val)) (_ : BitVec 32)
    (_ : BitVec 1) (_ : BitVec 1) (_ : BitVec 32) (_ : BitVec 32) (_ : BitVec 32) (_ : BitVec 32), BitVec 1

set_option maxHeartbeats 4000000 in
/-- The first part starts the next trip's index block, if there is one. -/
theorem part1 (k : Fin k0_t1_loop.trips) {Q : Out1 L k → sProp 𝕄} :
    iprop(iFree d L (par (k.val + 1)) ∗ bigSep (upFrom (k.val + 1)) fun t => ibPts d (blkAt L t) I)
      ⊢ iprop((∀ x : Out1 L k, iprop(⌜Words k.val x.2.2.2.2.1 x.2.2.2.2.2.1 x.2.2.2.2.2.2.1 x.2.2.2.2.2.2.2.1 x.2.2.2.2.2.2.2.2.1 x.2.2.2.2.2.2.2.2.2.1⌝
            ∗ iNow d L I (k.val + 1) ∗ bigSep (upFrom (k.val + 1 + 1)) fun t => ibPts d (blkAt L t) I) -∗ Q x)
          -∗ wp frame (wpE (defs₀ (F := F)) 𝒱₀ (thr d L) none) Set.univ
          (k0_part1 (F := F) L xV (Memref.isWhole_whole _) iV (Memref.isWhole_whole _) oV (Memref.isWhole_whole _)
            aV (Memref.isWhole_whole _) cc0_scoped1 rV (Memref.isWhole_whole _) cc0_scoped3
            cc0_scoped4 cc0_scoped5 cc0_scoped6 cc0_scoped7 cc0_scoped8 cc0_scoped9 cc0_scoped10 cc0_scoped11 (v4W L) 0#32 1#32 k
            (A6 k.val) (A7 k.val) (A7 k.val) (A9 k.val) (A10 k.val)) Q) := by
  have hk : k.val < 64 := trips_eq ▸ k.isLt
  iintro ⟨Hj, Hib⟩ HQ
  rw [k0_part1_eq_skeleton]; unfold k0_part1_skel
  simp only [Prog.lift, Prog.bind_op, Prog.bind_ret, Prog.pure_eq_ret, Prog.bind_assoc, ite_self]
  iapply (wp_assume _ _ _ _ (chk3_ok ⟨k.val, hk⟩))
  iapply (wp_assume _ _ _ _ (chk2_ok ⟨k.val, hk⟩))
  iapply (wp_assume _ _ _ _ (chk1_ok L k))
  by_cases h1 : k0_cond1 L k (A10 k.val) = 1#1
  · have hk1 : k.val < 63 := (cond1_iff L k).mp h1
    have hk1' : k.val + 1 < 64 := by omega
    rw [dif_pos h1]
    simp only [Prog.lift, Prog.bind_op, Prog.bind_ret, Prog.pure_eq_ret, Prog.bind_assoc]
    unfold iFree
    icases Hj with ⟨%f, Hj, Hv⟩
    ihave Hib' := (Entails.of_eq (upFrom_take (F := F) (k.val + 1) hk1' _)) $$ Hib
    icases Hib' with ⟨Hb, Hib⟩
    iapply (wp_iStart d L I (par (k.val + 1)) (blkAt L ⟨k.val + 1, hk1'⟩) _ _ _ _ _ _
      (off4_eq ⟨k.val, hk⟩ hk1) (off5_eq L ⟨k.val, hk⟩ hk1) (off6_eq ⟨k.val, hk⟩ hk1) f) $$ [Hj Hv Hb]
    · isplitl [Hb]; · iexact Hb
      isplitl [Hj]; · iexact Hj
      iexact Hv
    iintro Hf
    rw [wp_ret]; imodintro
    iapply HQ
    isplitr
    · ipureintro; exact words L k
    isplitl [Hf]
    · iapply (Entails.of_eq (iNow_of_lt d L I (k.val + 1) hk1').symm); iexact Hf
    iexact Hib
  · have hk1 : ¬ k.val < 63 := fun h => h1 ((cond1_iff L k).mpr h)
    rw [dif_neg h1]
    rw [wp_ret]; imodintro
    iapply HQ
    isplitr
    · ipureintro; exact words L k
    isplitl [Hj]
    · iapply (Entails.of_eq (iNow_of_le d L I (k.val + 1) (by omega)).symm); iexact Hj
    rw [upFrom_end (show 64 ≤ k.val + 1 by omega), upFrom_end (show 64 ≤ k.val + 1 + 1 by omega)]
    iexact Hib

include hO in
set_option maxHeartbeats 4000000 in
theorem trip (k : Fin k0_t1_loop.trips) (acc : BitVec 32 × BitVec 32 × BitVec 32 × BitVec 32 × BitVec 32) :
    Inv d L I X hI f₀ q O W k.val acc
      ⊢ wp frame (wpE (defs₀ (F := F)) 𝒱₀ (thr d L) none) Set.univ
          (k0_t1_body (F := F) L xV (Memref.isWhole_whole _) iV (Memref.isWhole_whole _) oV (Memref.isWhole_whole _)
            aV (Memref.isWhole_whole _) cc0_scoped1 rV (Memref.isWhole_whole _) cc0_scoped3
            cc0_scoped4 cc0_scoped5 cc0_scoped6 cc0_scoped7 cc0_scoped8 cc0_scoped9 cc0_scoped10 cc0_scoped11 (v4W L) k acc)
          (fun acc' => Inv d L I X hI f₀ q O W (k.val + 1) acc') := by
  have hk : k.val < 64 := trips_eq ▸ k.isLt
  unfold Inv
  iintro ⟨%hacc, #Hlv, HO, Hx, Hi, Hj, Ho, Hr, Hg, Hib, Hid, Hob, Hod⟩
  subst hacc
  unfold carry k0_t1_body
  dsimp only
  rw [wp_bind]
  iapply (part1 d L I k) $$ [Hj Hib]
  · isplitl [Hj]; · iexact Hj
    iexact Hib
  iintro %x ⟨%hx, Hi', Hib⟩
  obtain ⟨hw3, hw2, hw1, v5, v64, v65, v66, v71, v76, v91, v96⟩ := x
  obtain ⟨n6, n7, n8, n9⟩ := hx
  dsimp only at n6 n7 n8 n9 ⊢
  simp only [k0_part2_eq_skeleton, k0_part3_eq_skeleton, k0_part4_eq_skeleton, k0_part5_eq_skeleton,
    k0_part6_eq_skeleton, k0_part7_eq_skeleton]
  unfold k0_part2_skel k0_part3_skel k0_part4_skel k0_part5_skel k0_part6_skel k0_part7_skel
  rw [dif_pos (cond2_one L k)]
  simp only [Prog.lift, Prog.bind_op, Prog.bind_ret, Prog.pure_eq_ret, Prog.bind_assoc, ite_self, SparseCore.waitIndirectGather]
  -- the trip's own index block has landed
  ihave Hi := (Entails.of_eq (iNow_of_lt d L I k.val hk)) $$ Hi
  iapply (wp_iWait d L I O W hO (par k.val) (blkAt L ⟨k.val, hk⟩) _ _ (off9_eq ⟨k.val, hk⟩)) $$ [Hi HO]
  · isplitr; · iexact Hlv
    isplitl [HO]; · iexact HO
    iexact Hi
  iintro ⟨HO, Hs, Hb, Hv⟩
  unfold rFree gCells
  icases Hr with ⟨%f, Hr, Hrv⟩
  icases Hg with ⟨Hg1, Hg2, Hg3, Hg4, Hg5, Hg6, Hg7, Hg8⟩
  ihave Hr := (Entails.of_eq (congrArg (fun g => rPts d L (par k.val) g) (PB_zero (F := F) I X hI (blkAt L ⟨k.val, hk⟩) f).symm)) $$ Hr
  iapply (wp_gather d L I X hI O W hO (par k.val) (blkAt L ⟨k.val, hk⟩) 0 q cc0_scoped4 _ _ _ _ _ _ _
    (off11_eq ⟨k.val, hk⟩) (off10_eq ⟨k.val, hk⟩) rfl f) $$ [HO Hx Hs Hr Hg1]
  · isplitr; · iexact Hlv
    isplitl [HO]; · iexact HO
    isplitl [Hx]; · iexact Hx
    isplitl [Hs]; · iexact Hs
    isplitl [Hr]; · iexact Hr
    iexact Hg1
  iintro ⟨HO, Hx, Hs, Hr, Hg1⟩
  iapply (wp_gather d L I X hI O W hO (par k.val) (blkAt L ⟨k.val, hk⟩) 1 q cc0_scoped5 _ _ _ _ _ _ _
    (off11_eq ⟨k.val, hk⟩) (off10_eq ⟨k.val, hk⟩) rfl f) $$ [HO Hx Hs Hr Hg2]
  · isplitr; · iexact Hlv
    isplitl [HO]; · iexact HO
    isplitl [Hx]; · iexact Hx
    isplitl [Hs]; · iexact Hs
    isplitl [Hr]; · iexact Hr
    iexact Hg2
  iintro ⟨HO, Hx, Hs, Hr, Hg2⟩
  iapply (wp_gather d L I X hI O W hO (par k.val) (blkAt L ⟨k.val, hk⟩) 2 q cc0_scoped6 _ _ _ _ _ _ _
    (off11_eq ⟨k.val, hk⟩) (off10_eq ⟨k.val, hk⟩) rfl f) $$ [HO Hx Hs Hr Hg3]
  · isplitr; · iexact Hlv
    isplitl [HO]; · iexact HO
    isplitl [Hx]; · iexact Hx
    isplitl [Hs]; · iexact Hs
    isplitl [Hr]; · iexact Hr
    iexact Hg3
  iintro ⟨HO, Hx, Hs, Hr, Hg3⟩
  iapply (wp_gather d L I X hI O W hO (par k.val) (blkAt L ⟨k.val, hk⟩) 3 q cc0_scoped7 _ _ _ _ _ _ _
    (off11_eq ⟨k.val, hk⟩) (off10_eq ⟨k.val, hk⟩) rfl f) $$ [HO Hx Hs Hr Hg4]
  · isplitr; · iexact Hlv
    isplitl [HO]; · iexact HO
    isplitl [Hx]; · iexact Hx
    isplitl [Hs]; · iexact Hs
    isplitl [Hr]; · iexact Hr
    iexact Hg4
  iintro ⟨HO, Hx, Hs, Hr, Hg4⟩
  iapply (wp_gather d L I X hI O W hO (par k.val) (blkAt L ⟨k.val, hk⟩) 4 q cc0_scoped8 _ _ _ _ _ _ _
    (off11_eq ⟨k.val, hk⟩) (off10_eq ⟨k.val, hk⟩) rfl f) $$ [HO Hx Hs Hr Hg5]
  · isplitr; · iexact Hlv
    isplitl [HO]; · iexact HO
    isplitl [Hx]; · iexact Hx
    isplitl [Hs]; · iexact Hs
    isplitl [Hr]; · iexact Hr
    iexact Hg5
  iintro ⟨HO, Hx, Hs, Hr, Hg5⟩
  iapply (wp_gather d L I X hI O W hO (par k.val) (blkAt L ⟨k.val, hk⟩) 5 q cc0_scoped9 _ _ _ _ _ _ _
    (off11_eq ⟨k.val, hk⟩) (off10_eq ⟨k.val, hk⟩) rfl f) $$ [HO Hx Hs Hr Hg6]
  · isplitr; · iexact Hlv
    isplitl [HO]; · iexact HO
    isplitl [Hx]; · iexact Hx
    isplitl [Hs]; · iexact Hs
    isplitl [Hr]; · iexact Hr
    iexact Hg6
  iintro ⟨HO, Hx, Hs, Hr, Hg6⟩
  iapply (wp_gather d L I X hI O W hO (par k.val) (blkAt L ⟨k.val, hk⟩) 6 q cc0_scoped10 _ _ _ _ _ _ _
    (off11_eq ⟨k.val, hk⟩) (off10_eq ⟨k.val, hk⟩) rfl f) $$ [HO Hx Hs Hr Hg7]
  · isplitr; · iexact Hlv
    isplitl [HO]; · iexact HO
    isplitl [Hx]; · iexact Hx
    isplitl [Hs]; · iexact Hs
    isplitl [Hr]; · iexact Hr
    iexact Hg7
  iintro ⟨HO, Hx, Hs, Hr, Hg7⟩
  iapply (wp_gather d L I X hI O W hO (par k.val) (blkAt L ⟨k.val, hk⟩) 7 q cc0_scoped11 _ _ _ _ _ _ _
    (off11_eq ⟨k.val, hk⟩) (off10_eq ⟨k.val, hk⟩) rfl f) $$ [HO Hx Hs Hr Hg8]
  · isplitr; · iexact Hlv
    isplitl [HO]; · iexact HO
    isplitl [Hx]; · iexact Hx
    isplitl [Hs]; · iexact Hs
    isplitl [Hr]; · iexact Hr
    iexact Hg8
  iintro ⟨HO, Hx, Hs, Hr, Hg8⟩
  ihave Hr := (Entails.of_eq (show (rPts d L (par k.val) (PB (F := F) I X hI (blkAt L ⟨k.val, hk⟩) f ((7 : Fin 8).val + 1)) : sProp 𝕄)
      = rPts d L (par k.val) (RB (F := F) I X hI (blkAt L ⟨k.val, hk⟩))
    from congrArg (fun g => rPts d L (par k.val) g) (PB_eight (F := F) I X hI (blkAt L ⟨k.val, hk⟩) f))) $$ Hr
  rw [dif_pos (cond5_one L k)]
  simp only [Prog.lift, Prog.bind_op, Prog.bind_ret, Prog.pure_eq_ret, Prog.bind_assoc]
  ihave Hob' := (Entails.of_eq (upFrom_take (F := F) k.val hk _)) $$ Hob
  icases Hob' with ⟨Hbo, Hob⟩
  iapply (wp_oStart d L I X hI (par k.val) (blkAt L ⟨k.val, hk⟩) _ _ _ _ _ _
    (off12_eq ⟨k.val, hk⟩) (off13_eq L ⟨k.val, hk⟩) (off14_eq ⟨k.val, hk⟩) f₀) $$ [Hr Hrv Hbo]
  · isplitl [Hr]; · iexact Hr
    isplitl [Hbo]; · iexact Hbo
    iexact Hrv
  iintro Hf
  by_cases h7 : k0_cond7 L k (A10 k.val) = 1#1
  · have hk0 : 0 < k.val := (cond7_iff L k).mp h7
    obtain ⟨n, hn⟩ : ∃ n, k.val = n + 1 := ⟨k.val - 1, by omega⟩
    have hn64 : n < 64 := by omega
    rw [dif_pos h7]
    simp only [Prog.lift, Prog.bind_op, Prog.bind_ret, Prog.pure_eq_ret, Prog.bind_assoc]
    ihave Ho := (Entails.of_eq ((congrArg (oPrev d L I X hI) hn).trans (oPrev_succ d L I X hI n hn64))) $$ Ho
    have hpar : par n = par (k.val + 1) := by rw [hn, par_two]
    iapply (wp_oWait d L I X hI O W hO (par n) (blkAt L ⟨n, hn64⟩) _ _ ((off17_eq ⟨k.val, hk⟩ hk0).trans (by rw [hpar]; rfl))) $$ [Ho HO]
    · isplitr; · iexact Hlv
      isplitl [HO]; · iexact HO
      iexact Ho
    iintro ⟨HO, Hbd, Hpr, Hpv⟩
    ihave Hod := (Entails.of_eq ((below_put n hn64 (fun t => obPts d (blkAt L t) (OUT (F := F) I X hI))).symm.trans
      (congrArg (fun n => bigSep (below n) fun t => obPts d (blkAt L t) (OUT (F := F) I X hI)) (show n + 1 = k.val + 1 - 1 by omega)))) $$ [Hbd Hod]
    · isplitl [Hbd]; · iexact Hbd
      rw [show n = k.val - 1 by omega]; iexact Hod
    ihave Hpr := (show iprop(rPts d L (par n) (RB (F := F) I X hI (blkAt L ⟨n, hn64⟩)) ∗ semVal ((thr d L), .dma (oCell (par n))) 0)
      ⊢ (iprop(∃ f, rPts d L (par (k.val + 1)) f ∗ semVal ((thr d L), .dma (oCell (par (k.val + 1)))) 0) : sProp 𝕄) by
        rw [← hpar]; iintro ⟨H, Hv⟩; iexists _; isplitl [H]; · iexact H
        iexact Hv) $$ [Hpr Hpv]
    · isplitl [Hpr]; · iexact Hpr
      iexact Hpv
    · rw [wp_ret]; imodintro
      isplitr
      · ipureintro; exact congrArg₂ Prod.mk n6 (congrArg₂ Prod.mk n7 (congrArg₂ Prod.mk n8 (congrArg₂ Prod.mk n9 (next10 k))))
      isplitr; · iexact Hlv
      isplitl [HO]; · iexact HO
      isplitl [Hx]; · iexact Hx
      isplitl [Hi']; · iexact Hi'
      isplitl [Hs Hv]
      · rw [par_two]; unfold iFree
        iexists _; isplitl [Hs]; · iexact Hs
        iexact Hv
      isplitl [Hf]
      · iapply (Entails.of_eq (oPrev_succ d L I X hI k.val hk).symm); iexact Hf
      isplitl [Hpr]; · iexact Hpr
      isplitl [Hg1 Hg2 Hg3 Hg4 Hg5 Hg6 Hg7 Hg8]
      · isplitl [Hg1]; · iexact Hg1
        isplitl [Hg2]; · iexact Hg2
        isplitl [Hg3]; · iexact Hg3
        isplitl [Hg4]; · iexact Hg4
        isplitl [Hg5]; · iexact Hg5
        isplitl [Hg6]; · iexact Hg6
        isplitl [Hg7]; · iexact Hg7
        iexact Hg8
      isplitl [Hib]; · iexact Hib
      isplitl [Hid Hb]
      · rw [below_put k.val hk]
        isplitl [Hb]; · iexact Hb
        iexact Hid
      isplitl [Hob]; · iexact Hob
      iexact Hod
  · have hk0 : k.val = 0 := by
      by_contra h; exact h7 ((cond7_iff L k).mpr (by omega))
    rw [dif_neg h7]
    simp only [Prog.bind_ret]
    ihave Hpr := (Entails.of_eq ((congrArg (oPrev d L I X hI) hk0).trans ((oPrev_zero d L I X hI).trans
      (congrArg (rFree d L) (show par 1 = par (k.val + 1) by rw [hk0]))))) $$ Ho
    unfold rFree
    ihave Hod := (Entails.of_eq (congrArg (fun n => bigSep (below n) fun t => obPts d (blkAt L t) (OUT (F := F) I X hI)) (show k.val - 1 = k.val + 1 - 1 by omega))) $$ Hod
    · rw [wp_ret]; imodintro
      isplitr
      · ipureintro; exact congrArg₂ Prod.mk n6 (congrArg₂ Prod.mk n7 (congrArg₂ Prod.mk n8 (congrArg₂ Prod.mk n9 (next10 k))))
      isplitr; · iexact Hlv
      isplitl [HO]; · iexact HO
      isplitl [Hx]; · iexact Hx
      isplitl [Hi']; · iexact Hi'
      isplitl [Hs Hv]
      · rw [par_two]; unfold iFree
        iexists _; isplitl [Hs]; · iexact Hs
        iexact Hv
      isplitl [Hf]
      · iapply (Entails.of_eq (oPrev_succ d L I X hI k.val hk).symm); iexact Hf
      isplitl [Hpr]; · iexact Hpr
      isplitl [Hg1 Hg2 Hg3 Hg4 Hg5 Hg6 Hg7 Hg8]
      · isplitl [Hg1]; · iexact Hg1
        isplitl [Hg2]; · iexact Hg2
        isplitl [Hg3]; · iexact Hg3
        isplitl [Hg4]; · iexact Hg4
        isplitl [Hg5]; · iexact Hg5
        isplitl [Hg6]; · iexact Hg6
        isplitl [Hg7]; · iexact Hg7
        iexact Hg8
      isplitl [Hib]; · iexact Hib
      isplitl [Hid Hb]
      · rw [below_put k.val hk]
        isplitl [Hb]; · iexact Hb
        iexact Hid
      isplitl [Hob]; · iexact Hob
      iexact Hod

end Trip

end Cert.Proof.Gather
-- ==== Proof.Tile.lean ====
/-
  One task from start to end: the first index block, the loop, the last block sent.
-/
module

public import proofs.«01_k».proof.Proof.Body

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ
local notation "xV" => (Memref.whole Cert.KernelIdeal.main_arg1_scv)
local notation "iV" => (Memref.whole Cert.KernelIdeal.main_v1_scv)
local notation "oV" => (Memref.whole Cert.KernelIdeal.main_v2_scv)
local notation "aV" => (Memref.whole Cert.KernelIdeal.cc0_scoped0)
local notation "rV" => (Memref.whole Cert.KernelIdeal.cc0_scoped2)

/-! ## The task's own cells and buffers -/

/-- The twelve cells: two slots' for the indices, two for the rows, one a column piece. -/
def cellOf : Fin 12 → SemLoc sig :=
  ![.dma (iCell 0), .dma (iCell 1), .dma (oCell 0), .dma (oCell 1), .dma cc0_scoped4.sem, .dma cc0_scoped5.sem, .dma cc0_scoped6.sem, .dma cc0_scoped7.sem,
    .dma cc0_scoped8.sem, .dma cc0_scoped9.sem, .dma cc0_scoped10.sem, .dma cc0_scoped11.sem]
theorem cellOf_injective : Function.Injective cellOf := by decide +kernel
theorem cellOf_scoped : ∀ j, (cellOf j).isScoped .scVector = true := by decide +kernel

section Own

variable (d : Dev nD) (L : grid0.Coords)

def myCells : Finset (GSem nD τ sig) := Finset.univ.image fun j : Fin 12 => ((thr d L, cellOf j) : GSem nD τ sig)
theorem myCells_subset : myCells d L ⊆ ownCells (thr d L) := by
  intro g hg
  obtain ⟨j, -, rfl⟩ := Finset.mem_image.mp hg
  exact mem_ownCells.mpr ⟨rfl, cellOf_scoped j⟩

theorem bigSep_twelve (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [show (Finset.univ : Finset (Fin 12)) = {0, 1, 2, 3, 4, 5, 6, 7, 8, 9, 10, 11} by decide]
  iterate 11 rw [SparseCore.bigSep_insert' (by decide)]
  rw [bigSep_singleton]

theorem ownSems0_tile :
    (ownSems0 (thr d L) : sProp 𝕄)
      = iprop((semVal ((thr d L), .dma (iCell 0)) 0 ∗ semVal ((thr d L), .dma (iCell 1)) 0 ∗ semVal ((thr d L), .dma (oCell 0)) 0
          ∗ semVal ((thr d L), .dma (oCell 1)) 0 ∗ gCells d L) ∗ bigSep (ownCells (thr d L) \ myCells d L) fun g => semVal g 0) := by
  unfold SparseCore.Cfg.ownSems0
  refine (bigSep_sdiff_split (myCells_subset d L)).trans ?_
  refine congrArg (fun A => iprop(A ∗ bigSep (ownCells (thr d L) \ myCells d L) fun g => semVal g 0)) ?_
  unfold myCells
  refine (SparseCore.bigSep_image_of_injOn (fun a _ b _ e => cellOf_injective (congrArg Prod.snd e)) _).trans ?_
  exact bigSep_twelve _

def myRefs : Finset (DevRef τ sig) := {(Proc.scVector (cV L) (jV L)).devRef cc0_scoped0, (Proc.scVector (cV L) (jV L)).devRef cc0_scoped2}

theorem ownBufs_tile :
    (ownBufs (thr d L) : sProp 𝕄)
      = iprop((∃ f, (thr d L).loc cc0_scoped0 ↦{fullShare} f) ∗ (∃ f, (thr d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  have h0 : (Proc.scVector (cV L) (jV L)).devRef cc0_scoped0 ∈ ownRefs (τ := τ) (sig := sig) (.scVector (cV L) (jV L)) :=
    SparseCore.Cfg.mem_ownRefs_of_owner rfl
  have h2 : (Proc.scVector (cV L) (jV L)).devRef cc0_scoped2 ∈ ownRefs (τ := τ) (sig := sig) (.scVector (cV L) (jV L)) :=
    SparseCore.Cfg.mem_ownRefs_of_owner rfl
  have hne : (Proc.scVector (cV L) (jV L)).devRef cc0_scoped2 ≠ (Proc.scVector (cV L) (jV L)).devRef cc0_scoped0 :=
    fun e => absurd (Proc.devRef_injective _ e) (show (cc0_scoped2 : Ref sig .scVector) ≠ cc0_scoped0 by decide)
  unfold SparseCore.Cfg.ownBufs
  refine (SparseCore.bigSep_erase' h0).trans ?_
  rw [SparseCore.bigSep_erase' (Finset.mem_erase.mpr ⟨hne, h2⟩)]

/-! ## The scratch by slots -/

theorem mem_iSet_iff (sl : Fin 2) (x : S2x1x128.Idx) : x ∈ iSet sl ↔ (x 0).val = sl.val := by
  constructor
  · intro h; obtain ⟨y, rfl⟩ := mem_iSet h; rw [iSlot_emb]
  · intro h
    have := View.emb_mem_set (iSlot ![sl.val, 0, 0] (inbI sl)).view (ix2 (0 : Fin 1) (x 2 : Fin 128) : S1x128.Idx)
    rw [iSlot_emb] at this
    refine (congrArg (· ∈ iSet sl) (funext fun a => ?_)).mp this
    match a with
    | 0 => exact Fin.ext h.symm
    | 1 => exact Subsingleton.elim (α := Fin 1) _ _
    | 2 => rfl
theorem mem_rSet_iff (sl : Fin 2) (x : S2x32x1024.Idx) : x ∈ rSet sl ↔ (x 0).val = sl.val := by
  constructor
  · intro h; obtain ⟨y, rfl⟩ := mem_rSet h; rw [rSlot_emb]
  · intro h
    have := View.emb_mem_set (rSlot ![sl.val, 0, 0] (inbR sl)).view (ix2 (x 1 : Fin 32) (x 2 : Fin 1024) : S32x1024.Idx)
    rw [rSlot_emb] at this
    refine (congrArg (· ∈ rSet sl) (funext fun a => ?_)).mp this
    match a with
    | 0 => exact Fin.ext h.symm
    | 1 => rfl
    | 2 => rfl
theorem iSet_rest : (Finset.univ : Finset S2x1x128.Idx) \ iSet 0 = iSet 1 := by
  ext x; rw [Finset.mem_sdiff, mem_iSet_iff, mem_iSet_iff]
  have : (x 0).val < 2 := (x 0).isLt
  show (_ ∧ ¬ (x 0).val = 0) ↔ (x 0).val = 1
  exact ⟨fun h => by omega, fun h => ⟨Finset.mem_univ _, by omega⟩⟩
theorem rSet_rest : (Finset.univ : Finset S2x32x1024.Idx) \ rSet 0 = rSet 1 := by
  ext x; rw [Finset.mem_sdiff, mem_rSet_iff, mem_rSet_iff]
  have : (x 0).val < 2 := (x 0).isLt
  show (_ ∧ ¬ (x 0).val = 0) ↔ (x 0).val = 1
  exact ⟨fun h => by omega, fun h => ⟨Finset.mem_univ _, by omega⟩⟩

theorem iSlots (f : Buf (Elt F) ((thr d L).loc cc0_scoped0)) :
    ((thr d L).loc cc0_scoped0 ↦{fullShare} f : sProp 𝕄) ⊢ iprop(iPts d L 0 f ∗ iPts d L 1 f) :=
  (pointsTo_split_subset (q := fullShare) (f := f) (S := Finset.univ) (Finset.subset_univ (iSet 0))).1.trans
    (Entails.of_eq (congrArg (fun s => iprop(iPts d L 0 f ∗ (thr d L).loc cc0_scoped0 ↦[s]{fullShare} f)) iSet_rest))
theorem rSlots (f : Buf (Elt F) ((thr d L).loc cc0_scoped2)) :
    ((thr d L).loc cc0_scoped2 ↦{fullShare} f : sProp 𝕄) ⊢ iprop(rPts d L 0 f ∗ rPts d L 1 f) :=
  (pointsTo_split_subset (q := fullShare) (f := f) (S := Finset.univ) (Finset.subset_univ (rSet 0))).1.trans
    (Entails.of_eq (congrArg (fun s => iprop(rPts d L 0 f ∗ (thr d L).loc cc0_scoped2 ↦[s]{fullShare} f)) rSet_rest))
theorem iWhole (f g : Buf (Elt F) ((thr d L).loc cc0_scoped0)) :
    iprop(iPts d L 0 f ∗ iPts d L 1 g) ⊢ (iprop(∃ f, (thr d L).loc cc0_scoped0 ↦{fullShare} f) : sProp 𝕄) := by
  refine (Entails.of_eq (congrArg (fun s => iprop(iPts d L 0 f ∗ (thr d L).loc cc0_scoped0 ↦[s]{fullShare} g)) iSet_rest.symm)).trans ?_
  refine (pointsTo_join_subset (q := fullShare) (Finset.subset_univ (iSet 0))).trans ?_
  iintro H; iexists _; iexact H
theorem rWhole (f g : Buf (Elt F) ((thr d L).loc cc0_scoped2)) :
    iprop(rPts d L 0 f ∗ rPts d L 1 g) ⊢ (iprop(∃ f, (thr d L).loc cc0_scoped2 ↦{fullShare} f) : sProp 𝕄) := by
  refine (Entails.of_eq (congrArg (fun s => iprop(rPts d L 0 f ∗ (thr d L).loc cc0_scoped2 ↦[s]{fullShare} g)) rSet_rest.symm)).trans ?_
  refine (pointsTo_join_subset (q := fullShare) (Finset.subset_univ (rSet 0))).trans ?_
  iintro H; iexists _; iexact H

end Own

/-! ## The task -/

section Task

variable [FloatOps F] (d : Dev nD) (L : grid0.Coords)
variable (I : Buf (Elt F) (iLoc d)) (X : Buf (Elt F) (xLoc d)) (hI : InRows (F := F) I) (f₀ : Buf (Elt F) (oLoc d))
variable (q : PosShare TreeShare) (O : CellTallies nD τ sig (HIx 1)) (W : Waits sig (HIx 1)) (hO : ∀ g, O g none = 0)

/-- What a task takes and gives: its share of the rows, its blocks of the indices and of the result. -/
def taskRes (f : Buf (Elt F) (oLoc d)) : sProp 𝕄 :=
  iprop(xPts d q X ∗ (bigSep Finset.univ fun t : Fin 64 => ibPts d (blkAt L t) I) ∗ bigSep Finset.univ fun t : Fin 64 => obPts d (blkAt L t) f)

theorem inv_start (f1 : Buf (Elt F) ((thr d L).loc cc0_scoped0)) (g0 g1 : Buf (Elt F) ((thr d L).loc cc0_scoped2)) :
    iprop(levAts (K (F := F)).L (K (F := F)).lev ∗ owing d L O W ∗ xPts d q X ∗ iFl d L I 0 (blkAt L 0)
        ∗ (iPts d L 1 f1 ∗ semVal ((thr d L), .dma (iCell 1)) 0) ∗ (rPts d L 0 g0 ∗ semVal ((thr d L), .dma (oCell 0)) 0)
        ∗ (rPts d L 1 g1 ∗ semVal ((thr d L), .dma (oCell 1)) 0) ∗ gCells d L
        ∗ (bigSep (upFrom 1) fun t => ibPts d (blkAt L t) I) ∗ bigSep Finset.univ fun t => obPts d (blkAt L t) f₀)
      ⊢ Inv d L I X hI f₀ q O W 0 (0#32 + 1#32, 0#32, 0#32, 0#32, 0#32) := by
  unfold Inv
  iintro ⟨#Hlv, HO, Hx, Hi, ⟨Hj, Hjv⟩, ⟨Hr, Hrv⟩, ⟨Hs, Hsv⟩, Hg, Hib, Hob⟩
  isplitr; · ipureintro; decide
  isplitr; · iexact Hlv
  isplitl [HO]; · iexact HO
  isplitl [Hx]; · iexact Hx
  isplitl [Hi]; · iapply (Entails.of_eq (iNow_of_lt d L I 0 (by decide)).symm); iexact Hi
  isplitl [Hj Hjv]
  · unfold iFree; iexists f1; isplitl [Hj]; · iexact Hj
    iexact Hjv
  isplitl [Hs Hsv]
  · iapply (Entails.of_eq (oPrev_zero d L I X hI).symm)
    unfold rFree; iexists g1; isplitl [Hs]; · iexact Hs
    iexact Hsv
  isplitl [Hr Hrv]
  · unfold rFree; iexists g0; isplitl [Hr]; · iexact Hr
    iexact Hrv
  isplitl [Hg]; · iexact Hg
  isplitl [Hib]; · iexact Hib
  isplitr; · rw [below_zero, bigSep_empty]; iempintro
  isplitl [Hob]; · rw [upFrom_zero]; iexact Hob
  rw [show 0 - 1 = 0 from rfl, below_zero, bigSep_empty]; iempintro

theorem inv_end (acc : BitVec 32 × BitVec 32 × BitVec 32 × BitVec 32 × BitVec 32) :
    Inv d L I X hI f₀ q O W 64 acc
      ⊢ iprop(⌜acc = carry 64⌝ ∗ owing d L O W ∗ xPts d q X ∗ iFree d L 0 ∗ iFree d L 1 ∗ rFree d L 0 ∗ oFl d L I X hI 1 (blkAt L 63) ∗ gCells d L
          ∗ (bigSep Finset.univ fun t => ibPts d (blkAt L t) I) ∗ (bigSep (below 63) fun t => obPts d (blkAt L t) (OUT (F := F) I X hI))) := by
  unfold Inv
  iintro ⟨%hacc, -, HO, Hx, Hi, Hj, Ho, Hr, Hg, -, Hid, -, Hod⟩
  isplitr; · ipureintro; exact hacc
  isplitl [HO]; · iexact HO
  isplitl [Hx]; · iexact Hx
  isplitl [Hi]; · iapply (Entails.of_eq (iNow_of_le d L I 64 (by decide))); iexact Hi
  isplitl [Hj]; · iexact Hj
  isplitl [Hr]; · iexact Hr
  isplitl [Ho]; · iapply (Entails.of_eq (oPrev_succ d L I X hI 63 (by decide))); iexact Ho
  isplitl [Hg]; · iexact Hg
  isplitl [Hid]; · rw [← below_end]; iexact Hid
  iexact Hod

include hO in
set_option maxHeartbeats 4000000 in
theorem task (hF : (K (F := F)).Facts) :
    iprop(levAts (K (F := F)).L (K (F := F)).lev ∗ emp ∗ taskRes d L I X q f₀
        ∗ scopedBufs (thr d L) ∗ scopedSems0 (thr d L) ∗ owes (thr d L) O W)
      ⊢ wp frame (wpE (defs₀ (F := F)) 𝒱₀ (thr d L) none) Set.univ
          (cc0_permute (F := F) L xV (Memref.isWhole_whole _) iV (Memref.isWhole_whole _) oV (Memref.isWhole_whole _)
            aV (Memref.isWhole_whole _) cc0_scoped1 rV (Memref.isWhole_whole _) cc0_scoped3
            cc0_scoped4 cc0_scoped5 cc0_scoped6 cc0_scoped7 cc0_scoped8 cc0_scoped9 cc0_scoped10 cc0_scoped11)
          fun _ => iprop(taskRes d L I X q (OUT (F := F) I X hI)
            ∗ scopedBufs (thr d L) ∗ scopedSems0 (thr d L) ∗ ∃ W', ⌜∀ p ∈ W', p ∈ W ∨ p.2 = none⌝ ∗ owes (thr d L) O W') := by
  rw [cc0_permute_eq_skeleton]; unfold cc0_permute_skel
  rw [k0_part8_eq_skeleton, k0_part9_eq_skeleton]; unfold k0_part8_skel k0_part9_skel
  simp only [Prog.lift, Prog.bind_op, Prog.bind_ret, Prog.pure_eq_ret, Prog.bind_assoc]
  rw [(K (F := F)).scopedBufs_V hF d (cV L) (jV L), SparseCore.Cfg.scopedSems0_V (Val := Elt F) d (cV L) (jV L), ownSems0_tile, ownBufs_tile]
  unfold taskRes
  iintro ⟨#Hlv, -, ⟨Hx, Hib, Hob⟩, ⟨⟨%fa, Ha⟩, ⟨%fr, Hr⟩, Hbufs⟩, ⟨⟨Hi0, Hi1, Ho0, Ho1, Hg⟩, Hsems⟩, HO⟩
  ihave Ha' := (iSlots d L fa) $$ Ha
  icases Ha' with ⟨Ha0, Ha1⟩
  ihave Hr' := (rSlots d L fr) $$ Hr
  icases Hr' with ⟨Hr0, Hr1⟩
  ihave Hib' := (Entails.of_eq ((congrArg (fun s => bigSep s fun t => ibPts d (blkAt L t) I) upFrom_zero.symm).trans
    (upFrom_take (F := F) 0 (by decide) _))) $$ Hib
  icases Hib' with ⟨Hb, Hib⟩
  iapply (wp_iStart d L I 0 (blkAt L 0) _ _ _ _ _ _ k0_off1_eq (k0_off2_eq L) k0_off3_eq fa) $$ [Hb Ha0 Hi0]
  · isplitl [Hb]; · iexact Hb
    isplitl [Ha0]; · iexact Ha0
    iexact Hi0
  iintro Hf
  sl_for (Inv (F := F) d L I X hI f₀ q O W) $$ [HO Hx Hf Ha1 Hi1 Hr0 Ho0 Hr1 Ho1 Hg Hib Hob]
  · intro k acc
    exact trip d L I X hI f₀ q O W hO k acc
  · iapply (inv_start d L I X hI f₀ q O W fa fr fr)
    isplitr; · iexact Hlv
    isplitl [HO]
    · iexists W; isplitr
      · ipureintro; exact fun p hp => .inl hp
      iexact HO
    isplitl [Hx]; · iexact Hx
    isplitl [Hf]; · iexact Hf
    isplitl [Ha1 Hi1]
    · isplitl [Ha1] <;> iassumption
    isplitl [Hr0 Ho0]
    · isplitl [Hr0] <;> iassumption
    isplitl [Hr1 Ho1]
    · isplitl [Hr1] <;> iassumption
    isplitl [Hg]; · iexact Hg
    isplitl [Hib]; · iexact Hib
    iexact Hob
  iintro %acc HI
  ihave HI := (show Inv d L I X hI f₀ q O W k0_t1_loop.trips acc ⊢ _ from
    (Entails.of_eq (congrArg (fun n => Inv d L I X hI f₀ q O W n acc) trips_eq)).trans (inv_end d L I X hI f₀ q O W acc)) $$ HI
  icases HI with ⟨%hacc, HO, Hx, Hi, Hj, Hr, Ho, Hg, Hid, Hod⟩
  subst hacc
  unfold carry
  dsimp only
  iapply (wp_assume _ _ _ _ (chk5_ok L))
  iapply (wp_assume _ _ _ _ chk4_ok)
  iapply (wp_oWait d L I X hI O W hO 1 (blkAt L 63) _ _ off20_eq) $$ [Ho HO]
  · isplitr; · iexact Hlv
    isplitl [HO]; · iexact HO
    iexact Ho
  iintro ⟨HO, Hbd, Hs, Hsv⟩
  unfold iFree rFree
  icases Hi with ⟨%a0, Ha0, Hi0⟩
  icases Hj with ⟨%a1, Ha1, Hi1⟩
  icases Hr with ⟨%g0, Hr0, Ho0⟩
  rw [wp_ret]; imodintro
  isplitl [Hx Hid Hod Hbd]
  · isplitl [Hx]; · iexact Hx
    isplitl [Hid]; · iexact Hid
    rw [← below_end, below_put 63 (by decide)]
    isplitl [Hbd]; · iexact Hbd
    iexact Hod
  isplitl [Ha0 Ha1 Hr0 Hs Hbufs]
  · isplitl [Ha0 Ha1]
    · iapply (iWhole d L a0 a1)
      isplitl [Ha0] <;> iassumption
    isplitl [Hr0 Hs]
    · iapply (rWhole d L g0 _)
      isplitl [Hr0]; · iexact Hr0
      iexact Hs
    iexact Hbufs
  isplitl [Hi0 Hi1 Ho0 Hsv Hg Hsems]
  · isplitr [Hsems]
    · isplitl [Hi0]; · iexact Hi0
      isplitl [Hi1]; · iexact Hi1
      isplitl [Ho0]; · iexact Ho0
      isplitl [Hsv]; · iexact Hsv
      iexact Hg
    iexact Hsems
  iexact HO

end Task

end Cert.Proof.Gather
-- ==== Proof.Launch.lean ====
/-
  The whole program: the host's lines, the call on its 32 subcores, the result.
-/
module

public import proofs.«01_k».proof.Proof.Tile
public import Idealize.ShloMosaic.Lib.KernelVsHost

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Idealize.ShloMosaic.ValueIdx

variable {F : FTy → Type}

local notation "𝕄" => MT nD τ sig (HIx 1) (Elt F) ℕ UU ℕ
local notation "xV" => (Memref.whole Cert.KernelIdeal.main_arg1_scv)
local notation "iV" => (Memref.whole Cert.KernelIdeal.main_v1_scv)
local notation "oV" => (Memref.whole Cert.KernelIdeal.main_v2_scv)
local notation "aV" => (Memref.whole Cert.KernelIdeal.cc0_scoped0)
local notation "rV" => (Memref.whole Cert.KernelIdeal.cc0_scoped2)

/-! ## The indices as the host lays them out -/

/-- A block's 32 entries in the first of 128 lanes. -/
abbrev padded (x : S2048x32.Idx → Elt F .i32) (v : S_.Idx → Elt F .i32) : S2048x128.Idx → Elt F .i32 :=
  pad S2048x128 (![0, 0] : Fin 2 → ℕ) (![0, 96] : Fin 2 → ℕ) (![0, 0] : Fin 2 → ℕ) x v pads_S2048x32_S2048x128_000_0960 h_S_

/-- The positions in blocks of 32, each block padded to 128 lanes. -/
def idxOf (p : S65536.Idx → Elt F .i32) : S2048x128.Idx → Elt F .i32 :=
  padded (shapeCast S2048x32 p shapeCasts_S65536_S2048x32) (constantI S_ 32 0#32)

theorem idxOf_lane (p : S65536.Idx → Elt F .i32) (b : Fin 2048) (r : Fin 32) :
    idxOf (F := F) p (ix2 b (lane r)) = p (ix1 (rowOfBlk b r)) := by
  unfold idxOf padded
  refine (pad_apply_of_inside _ _ _ _ _ _ _ _ (ix2 b r : S2048x32.Idx) ?_).trans ?_
  · intro a
    match a with
    | 0 => show b.val = 0 + b.val * (0 + 1); omega
    | 1 => show r.val = 0 + r.val * (0 + 1); omega
  · refine shapeCast_apply _ _ _ _ ?_
    refine (Shape.rowMajor_val_one (d := ![65536]) _).trans (Eq.trans ?_ (Shape.rowMajor_val_two (d := ![2048, 32]) _).symm)
    show 32 * b.val + r.val = b.val * 32 + r.val
    omega

/-- Every position names a row. -/
def InRange (p : S65536.Idx → Elt F .i32) : Prop := ∀ j, (p j).toNat < 65536

theorem inRows_of {p : S65536.Idx → Elt F .i32} (h : InRange (F := F) p) : InRows (F := F) (idxOf (F := F) p) := fun b r => by
  rw [idxOf_lane]; exact h _

/-! ## The tasks' pieces cover the arrays -/

def coordsV (c : Fin (grid0.bound 0)) (s : Fin (grid0.bound 1)) : grid0.Coords :=
  fun | 0 => c | 1 => s | ⟨_ + 2, h⟩ => absurd h (Nat.not_lt.2 (Nat.le_add_left _ _))

abbrev Cst : Type := Fin 2 × Fin 16 × Fin 64
def blkOf (p : Cst) : Fin 2048 := blkAt (coordsV p.1 p.2.1) p.2.2
theorem blkOf_val (p : Cst) : (blkOf p).val = 64 * p.2.1.val + 1024 * p.1.val + p.2.2.val := blkAt_val _ _
theorem blkOf_injective : Function.Injective blkOf := by
  rintro ⟨c, s, t⟩ ⟨c', s', t'⟩ h
  have e := congrArg Fin.val h
  rw [blkOf_val, blkOf_val] at e
  have e' : 64 * s.val + 1024 * c.val + t.val = 64 * s'.val + 1024 * c'.val + t'.val := e
  have hc : c.val = c'.val := by omega
  have hs : s.val = s'.val := by omega
  have ht : t.val = t'.val := by omega
  rw [Fin.ext hc, Fin.ext hs, Fin.ext ht]
theorem blkOf_surjective (b : Fin 2048) : ∃ p, blkOf p = b :=
  ⟨(⟨b.val / 1024, by omega⟩, ⟨b.val % 1024 / 64, by omega⟩, ⟨b.val % 64, by omega⟩), Fin.ext (by
    rw [blkOf_val]
    show 64 * (b.val % 1024 / 64) + 1024 * (b.val / 1024) + b.val % 64 = b.val
    omega)⟩

theorem ib_disjoint : ∀ p ∈ (Finset.univ : Finset Cst), ∀ p' ∈ (Finset.univ : Finset Cst), p ≠ p' → Disjoint (ibSet (blkOf p)) (ibSet (blkOf p')) :=
  fun p _ p' _ h => Finset.disjoint_left.mpr fun x hx hx' => h (blkOf_injective (Fin.ext
    (((emb_fst_iBlk _ x).mp hx).symm.trans ((emb_fst_iBlk _ x).mp hx'))))
theorem ob_disjoint : ∀ p ∈ (Finset.univ : Finset Cst), ∀ p' ∈ (Finset.univ : Finset Cst), p ≠ p' → Disjoint (obSet (blkOf p)) (obSet (blkOf p')) :=
  fun p _ p' _ h => Finset.disjoint_left.mpr fun x hx hx' => h (blkOf_injective (Fin.ext
    (((emb_fst_oBlk _ x).mp hx).symm.trans ((emb_fst_oBlk _ x).mp hx'))))
set_option maxRecDepth 65536 in
theorem ib_cover : (Finset.univ : Finset Cst).biUnion (fun p => ibSet (blkOf p)) = Finset.univ := by
  refine Finset.eq_univ_of_forall fun x => ?_
  obtain ⟨p, hp⟩ := blkOf_surjective (x 0)
  exact Finset.mem_biUnion.mpr ⟨p, Finset.mem_univ _, (emb_fst_iBlk _ x).mpr (congrArg Fin.val hp).symm⟩
set_option maxRecDepth 65536 in
theorem ob_cover : (Finset.univ : Finset Cst).biUnion (fun p => obSet (blkOf p)) = Finset.univ := by
  refine Finset.eq_univ_of_forall fun x => ?_
  have h0 : (x 0).val < 65536 := (x 0).isLt
  obtain ⟨p, hp⟩ := blkOf_surjective ⟨(x 0).val / 32, by omega⟩
  exact Finset.mem_biUnion.mpr ⟨p, Finset.mem_univ _, (emb_fst_oBlk _ x).mpr (congrArg Fin.val hp).symm⟩

section Split

variable (d : Dev nD)

/-- A sum over the cores, their subcores and their steps. -/
theorem bigSep_cst (Φ : Cst → sProp 𝕄) : bigSep Finset.univ Φ
    = bigSep Finset.univ fun c : Fin 2 => bigSep Finset.univ fun s : Fin 16 => bigSep Finset.univ fun t : Fin 64 => Φ (c, s, t) :=
  (bigSep_univ_prod Φ).trans (bigSep_congr fun c _ => bigSep_univ_prod fun p : Fin 16 × Fin 64 => Φ (c, p))

theorem iCover (I : Buf (Elt F) (iLoc d)) : (iLoc d ↦{fullShare} I : sProp 𝕄)
    = bigSep Finset.univ fun c : Fin 2 => bigSep Finset.univ fun s : Fin 16 => bigSep Finset.univ fun t : Fin 64 => ibPts d (blkAt (coordsV c s) t) I :=
  ((congrArg (fun s => (iLoc d ↦[s]{fullShare} I : sProp 𝕄)) ib_cover.symm).trans
    (pointsTo_biUnion Finset.univ (ℓ := iLoc d) (fun p => ibSet (blkOf p)) ib_disjoint)).trans (bigSep_cst _)
theorem oCover (f : Buf (Elt F) (oLoc d)) : (oLoc d ↦{fullShare} f : sProp 𝕄)
    = bigSep Finset.univ fun c : Fin 2 => bigSep Finset.univ fun s : Fin 16 => bigSep Finset.univ fun t : Fin 64 => obPts d (blkAt (coordsV c s) t) f :=
  ((congrArg (fun s => (oLoc d ↦[s]{fullShare} f : sProp 𝕄)) ob_cover.symm).trans
    (pointsTo_biUnion Finset.univ (ℓ := oLoc d) (fun p => obSet (blkOf p)) ob_disjoint)).trans (bigSep_cst _)

/-- A core's share of the source, and a subcore's of that. -/
def xq (c : Fin 2) (s : Fin 16) : PosShare TreeShare := pieceOf (pieceOf fullShare 2 (by decide) c) 16 (by decide) s
theorem xCover (X : Buf (Elt F) (xLoc d)) : (xLoc d ↦{fullShare} X : sProp 𝕄)
    = bigSep Finset.univ fun c : Fin 2 => bigSep Finset.univ fun s : Fin 16 => xPts d (xq c s) X :=
  (pointsTo_piecesOf Finset.univ X (by decide) fullShare).trans (bigSep_congr fun c _ => pointsTo_piecesOf Finset.univ X (by decide) _)

variable [FloatOps F]

/-- The three arrays whole are the 32 tasks' pieces of them. -/
theorem whole_tasks (I : Buf (Elt F) (iLoc d)) (X : Buf (Elt F) (xLoc d)) (f : Buf (Elt F) (oLoc d)) :
    (bigSep Finset.univ fun c : Fin 2 => bigSep Finset.univ fun s : Fin 16 => taskRes d (coordsV c s) I X (xq c s) f)
      = iprop((xLoc d ↦{fullShare} X) ∗ (iLoc d ↦{fullShare} I) ∗ oLoc d ↦{fullShare} f : sProp 𝕄) := by
  refine Eq.trans ?_ (congr (congrArg (fun A B : sProp 𝕄 => iprop(A ∗ B)) (xCover d X).symm)
    (congr (congrArg (fun A B : sProp 𝕄 => iprop(A ∗ B)) (iCover d I).symm) (oCover d f).symm))
  refine (bigSep_congr fun c _ => (bigSep_sep' _ _ _).trans (congrArg (fun A => iprop(_ ∗ A)) (bigSep_sep' _ _ _))).trans ?_
  exact (bigSep_sep' _ _ _).trans (congrArg (fun A => iprop(_ ∗ A)) (bigSep_sep' _ _ _))

end Split

/-! ## The call's payments -/

section Prog

variable [FloatOps F] (m : (ℓ : Loc nD τ sig) → Buf (Elt F) ℓ) (ρ : Dev nD → PrngReg)

abbrev pLoc (d : Dev nD) : Loc nD τ sig := (SparseCore.T d).loc main_arg0
abbrev rLoc (d : Dev nD) : Loc nD τ sig := (SparseCore.T d).loc main_v3

/-- Every position the launch memory holds names a row. -/
def PreOK : Prop := ∀ d : Dev nD, InRange (F := F) (m (pLoc d))

abbrev Im (d : Dev nD) : Buf (Elt F) (iLoc d) := idxOf (F := F) (m (pLoc d))
abbrev Xm (d : Dev nD) : Buf (Elt F) (xLoc d) := m (xLoc d)

variable (hp : PreOK m)

abbrev Om (d : Dev nD) : Buf (Elt F) (oLoc d) := OUT (F := F) (Im m d) (Xm m d) (inRows_of (hp d))

def goRes (d : Dev nD) (c : Fin 2) (s : Fin 16) : sProp 𝕄 := taskRes d (coordsV c s) (Im m d) (Xm m d) (xq c s) (m (oLoc d))
def tdRes (d : Dev nD) (c : Fin 2) (s : Fin 16) : sProp 𝕄 := taskRes d (coordsV c s) (Im m d) (Xm m d) (xq c s) (Om m hp d)

instance goRes_storable (d : Dev nD) (c : Fin 2) (s : Fin 16) : BI.Storable (upEmb : UEmb _ 𝕄) (goRes m d c s) := by
  unfold goRes taskRes; infer_instance
instance tdRes_storable (d : Dev nD) (c : Fin 2) (s : Fin 16) : BI.Storable (upEmb : UEmb _ 𝕄) (tdRes m hp d c s) := by
  unfold tdRes taskRes; infer_instance

/-- A core is handed its subcores' pieces and gives them back with their blocks of the result filled. -/
def P : (K (F := F)).Pay (nD := nD) (Val := Elt F) (Name := ℕ) (U := UU) where
  st := fun q d c => match q with | 0 => bigSep Finset.univ fun s : Fin 16 => goRes m d c s
  dn := fun q d c => match q with | 0 => bigSep Finset.univ fun s : Fin 16 => tdRes m hp d c s
  go := fun q d c i => match q with | 0 => goRes m d c i
  td := fun q d c i => match q with | 0 => tdRes m hp d c i
  x := fun _ _ => iprop(emp)

instance P_storable : (P m hp).IsStorable where
  st q d c := match q with | 0 => (inferInstance : BI.Storable (upEmb : UEmb _ 𝕄) (bigSep Finset.univ fun s : Fin 16 => goRes m d c s))
  dn q d c := match q with | 0 => (inferInstance : BI.Storable (upEmb : UEmb _ 𝕄) (bigSep Finset.univ fun s : Fin 16 => tdRes m hp d c s))
  go q d c i := match q with | 0 => (inferInstance : BI.Storable (upEmb : UEmb _ 𝕄) (goRes m d c i))
  td q d c i := match q with | 0 => (inferInstance : BI.Storable (upEmb : UEmb _ 𝕄) (tdRes m hp d c i))

/-! ## A task's obligation -/

theorem defs₀_vector (c : Fin τ.nSC) (s : Fin τ.nSub) :
    defs₀ (F := F) (.scVector c s) 0 ()
      = SparseCore.onTile hcore0 hsub0 (fun c s => cc0_permute (F := F) (coordsV c s)
          xV (Memref.isWhole_whole _) iV (Memref.isWhole_whole _) oV (Memref.isWhole_whole _)
          aV (Memref.isWhole_whole _) cc0_scoped1 rV (Memref.isWhole_whole _) cc0_scoped3
          cc0_scoped4 cc0_scoped5 cc0_scoped6 cc0_scoped7 cc0_scoped8 cc0_scoped9 cc0_scoped10 cc0_scoped11) ⟨⟩ c s := rfl

omit [FloatOps F] in
theorem waits_weaken {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m hp) v₀ 0 := by
  intro d c i O W hO _ _
  simp only [show (P m hp).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (task d (coordsV ⟨_, hci.1⟩ ⟨_, hci.2⟩) (Im m d) (Xm m d) (inRows_of (hp d)) (m (oLoc d)) (xq c i) O W hO hF).trans
    (wp_mono frame _ _ fun _ => waits_weaken)

theorem vecSplit : (K (F := F)).VecSplit' (P m hp) 0 := by
  intro d c
  show (bigSep Finset.univ fun s : Fin 16 => goRes m d c s) ⊢ |={Set.univ}=> iprop((bigSep Finset.univ fun s : Fin 16 => goRes m d c s)
      ∗ ((bigSep Finset.univ fun s : Fin 16 => tdRes m hp d c s) -∗ bigSep Finset.univ fun s : Fin 16 => tdRes m hp d c s))
  iintro H; imodintro
  isplitl [H]; · iexact H
  iintro H; iexact H

/-! ## The ghost state at the start -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m hp).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr
  · iapply (Entails.of_eq (bigSep_emp_const (M := 𝕄) (Finset.univ : Finset (Dev nD))).symm); iempintro
  iapply (Entails.of_eq (show (bigSep Finset.univ fun thr : Thread nD τ => bigSep Finset.univ fun q : Fin 1 => (P (F := F) m hp).x q thr) = iprop(emp) from
    (bigSep_congr fun _ _ => bigSep_univ_of_subsingleton (0 : Fin 1)).trans (bigSep_emp_const (M := 𝕄) _)).symm)
  iempintro

/-! ## The host's lines -/

abbrev p' : DevRef τ sig := Proc.devRef .tc (main_arg0 : Ref sig .tc)
abbrev x' : DevRef τ sig := Proc.devRef .tc (main_arg1 : Ref sig .tc)
abbrev a' : DevRef τ sig := Proc.devRef .tc (main_v0 : Ref sig .tc)
abbrev c' : DevRef τ sig := Proc.devRef .tc (main_c : Ref sig .tc)
abbrev e' : DevRef τ sig := Proc.devRef .tc (main_call0_v0 : Ref sig .tc)
abbrev i' : DevRef τ sig := Proc.devRef .tc (main_v1 : Ref sig .tc)
abbrev o' : DevRef τ sig := Proc.devRef .tc (main_v2 : Ref sig .tc)
abbrev r' : DevRef τ sig := Proc.devRef .tc (main_v3 : Ref sig .tc)

abbrev opCast : HloOp τ sig (Elt F) := StableHlo.reshape main_arg0 main_v0 (rfl : (.i32 : EltTy) = .i32) shapeCasts_S65536_S2048x32
abbrev opZero : HloOp τ sig (Elt F) := StableHlo.nullary main_c (constantI S_ 32 0#32)
abbrev opCopy : HloOp τ sig (Elt F) := StableHlo.TRef.unary (.of main_c : StableHlo.TRef sig ⟨S_, .i32⟩) (.of main_call0_v0 : StableHlo.TRef sig ⟨S_, .i32⟩) id
abbrev opPad : HloOp τ sig (Elt F) :=
  StableHlo.TRef.binary (.of main_v0 : StableHlo.TRef sig ⟨S2048x32, .i32⟩) (.of main_call0_v0 : StableHlo.TRef sig ⟨S_, .i32⟩)
    (.of main_v1 : StableHlo.TRef sig ⟨S2048x128, .i32⟩)
    (fun x v => pad S2048x128 ![0, 0] ![0, 96] ![0, 0] x v pads_S2048x32_S2048x128_000_0960 h_S_)
abbrev opOut : HloOp τ sig (Elt F) := StableHlo.reshape main_v2 main_v3 (rfl : (.f32 : EltTy) = .f32) shapeCasts_S65536x1024_S8x8192x1024

/-- The host's arrays. -/
abbrev S8 : Finset (DevRef τ sig) := {p', x', a', c', e', i', o', r'}

omit [FloatOps F] in
theorem held_S8 (d : Dev nD) (W : Valuation τ sig (Elt F)) :
    (held (SparseCore.T d) S8 W : sProp 𝕄)
      = iprop((pLoc d ↦{fullShare} W p') ∗ (xLoc d ↦{fullShare} W x') ∗ ((SparseCore.T d).loc main_v0 ↦{fullShare} W a')
          ∗ ((SparseCore.T d).loc main_c ↦{fullShare} W c') ∗ ((SparseCore.T d).loc main_call0_v0 ↦{fullShare} W e')
          ∗ (iLoc d ↦{fullShare} W i') ∗ (oLoc d ↦{fullShare} W o') ∗ rLoc d ↦{fullShare} W r') := by
  unfold held S8
  iterate 7 rw [SparseCore.bigSep_insert' (by decide)]
  rw [bigSep_singleton]

omit [FloatOps F] in
theorem unscoped_S8 (d : Dev nD) (W : (b : Ref sig .tc) → Buf (Elt F) ((d.tc : Thread nD τ).loc b)) :
    (unscopedBufs d W : sProp 𝕄)
      = iprop((pLoc d ↦{fullShare} W main_arg0) ∗ (xLoc d ↦{fullShare} W main_arg1) ∗ ((SparseCore.T d).loc main_v0 ↦{fullShare} W main_v0)
          ∗ ((SparseCore.T d).loc main_c ↦{fullShare} W main_c) ∗ ((SparseCore.T d).loc main_call0_v0 ↦{fullShare} W main_call0_v0)
          ∗ (iLoc d ↦{fullShare} W main_v1) ∗ (oLoc d ↦{fullShare} W main_v2) ∗ rLoc d ↦{fullShare} W main_v3) := by
  unfold unscopedBufs
  rw [show (Finset.univ.filter fun b : Ref sig .tc => ¬ b.isScoped)
    = {main_arg0, main_arg1, main_v0, main_c, main_call0_v0, main_v1, main_v2, main_v3} by decide]
  iterate 7 rw [SparseCore.bigSep_insert' (by decide)]
  rw [bigSep_singleton]

def V0 (d : Dev nD) : Valuation τ sig (Elt F) := fun b => m (d, b)
abbrev V1 (d : Dev nD) : Valuation τ sig (Elt F) := (opCast (F := F)).result (V0 m d)
abbrev V2 (d : Dev nD) : Valuation τ sig (Elt F) := (opZero (F := F)).result (V1 m d)
abbrev V3 (d : Dev nD) : Valuation τ sig (Elt F) := (opCopy (F := F)).result (V2 m d)
/-- Before the call. -/
def V4 (d : Dev nD) : Valuation τ sig (Elt F) := (opPad (F := F)).result (V3 m d)
/-- After it: the result's rows gathered. -/
def V5 (d : Dev nD) : Valuation τ sig (Elt F) := Function.update (V4 m d) o' (Om m hp d)

theorem unscoped_held (d : Dev nD) : (unscopedBufs d (fun b => m ((SparseCore.T d).loc b)) : sProp 𝕄) = held (SparseCore.T d) S8 (V0 m d) := by
  rw [unscoped_S8, held_S8]; rfl

theorem V4_of {b : DevRef τ sig} (d : Dev nD) (h1 : b ∉ ({a'} : Finset (DevRef τ sig))) (h2 : b ∉ ({c'} : Finset (DevRef τ sig)))
    (h3 : b ∉ ({e'} : Finset (DevRef τ sig))) (h4 : b ∉ ({i'} : Finset (DevRef τ sig))) : V4 m d b = V0 m d b :=
  ((opPad (F := F)).result_of_not_mem _ h4).trans (((opCopy (F := F)).result_of_not_mem _ h3).trans
    (((opZero (F := F)).result_of_not_mem _ h2).trans ((opCast (F := F)).result_of_not_mem _ h1)))
theorem V4_p (d : Dev nD) : V4 m d p' = m (pLoc d) := V4_of m d (by decide) (by decide) (by decide) (by decide)
theorem V4_x (d : Dev nD) : V4 m d x' = m (xLoc d) := V4_of m d (by decide) (by decide) (by decide) (by decide)
theorem V4_o (d : Dev nD) : V4 m d o' = m (oLoc d) := V4_of m d (by decide) (by decide) (by decide) (by decide)
theorem V3_a (d : Dev nD) : V3 m d a' = shapeCast S2048x32 (m (pLoc d)) shapeCasts_S65536_S2048x32 :=
  ((opCopy (F := F)).result_of_not_mem _ (show a' ∉ ({e'} : Finset (DevRef τ sig)) by decide)).trans
    (((opZero (F := F)).result_of_not_mem _ (show a' ∉ ({c'} : Finset (DevRef τ sig)) by decide)).trans
    (StableHlo.reshape_result main_arg0 main_v0 rfl shapeCasts_S65536_S2048x32 _ _ (V0 m d)))
theorem V3_e (d : Dev nD) : V3 m d e' = constantI S_ 32 0#32 :=
  (StableHlo.unary_result main_c main_call0_v0 _ _ _ (V2 m d)).trans
    (show V2 m d c' = constantI S_ 32 0#32 from StableHlo.nullary_result main_c _ _ (V1 m d))
theorem V4_i (d : Dev nD) : V4 m d i' = Im m d :=
  (StableHlo.binary_result main_v0 main_call0_v0 main_v1 _ _ _ _ (V3 m d)).trans
    (show padded (V3 m d a') (V3 m d e') = padded _ _ from congrArg₂ padded (V3_a m d) (V3_e m d))

theorem V5_of {b : DevRef τ sig} (d : Dev nD) (h : b ≠ o') : V5 m hp d b = V4 m d b := Function.update_of_ne h _ _
theorem V5_o (d : Dev nD) : V5 m hp d o' = Om m hp d := Function.update_self _ _ _

/-- The program's result. -/
def Rv (d : Dev nD) : Buf (Elt F) (rLoc d) := shapeCast S8x8192x1024 (Om m hp d) shapeCasts_S65536x1024_S8x8192x1024

theorem V6_r (d : Dev nD) : (opOut (F := F)).result (V5 m hp d) r' = Rv m hp d :=
  (StableHlo.reshape_result main_v2 main_v3 rfl shapeCasts_S65536x1024_S8x8192x1024 _ _ (V5 m hp d)).trans
    (congrArg (fun A => shapeCast S8x8192x1024 A shapeCasts_S65536x1024_S8x8192x1024) (V5_o m hp d))
theorem V6_p (d : Dev nD) : (opOut (F := F)).result (V5 m hp d) p' = m (pLoc d) :=
  ((opOut (F := F)).result_of_not_mem _ (show p' ∉ ({r'} : Finset (DevRef τ sig)) by decide)).trans ((V5_of m hp d (by decide)).trans (V4_p m d))
theorem V6_x (d : Dev nD) : (opOut (F := F)).result (V5 m hp d) x' = m (xLoc d) :=
  ((opOut (F := F)).result_of_not_mem _ (show x' ∉ ({r'} : Finset (DevRef τ sig)) by decide)).trans ((V5_of m hp d (by decide)).trans (V4_x m d))

theorem hCast : (opCast (F := F)).bufs ⊆ S8 := show ({p', a'} : Finset (DevRef τ sig)) ⊆ S8 by decide
theorem hZero : (opZero (F := F)).bufs ⊆ S8 := show ({c'} : Finset (DevRef τ sig)) ⊆ S8 by decide
theorem hCopy : (opCopy (F := F)).bufs ⊆ S8 := show ({c', e'} : Finset (DevRef τ sig)) ⊆ S8 by decide
theorem hPad : (opPad (F := F)).bufs ⊆ S8 := show ({a', e', i'} : Finset (DevRef τ sig)) ⊆ S8 by decide
theorem hOut : (opOut (F := F)).bufs ⊆ S8 := show ({o', r'} : Finset (DevRef τ sig)) ⊆ S8 by decide

theorem st_whole (d : Dev nD) : (bigSep Finset.univ fun c : Fin ((K (F := F)).nCore 0) => (P m hp).st 0 d c)
    = iprop((xLoc d ↦{fullShare} Xm m d) ∗ (iLoc d ↦{fullShare} Im m d) ∗ oLoc d ↦{fullShare} m (oLoc d)) :=
  whole_tasks d (Im m d) (Xm m d) (m (oLoc d))
theorem dn_whole (d : Dev nD) : (bigSep Finset.univ fun c : Fin ((K (F := F)).nCore 0) => (P m hp).dn 0 d c)
    = iprop((xLoc d ↦{fullShare} Xm m d) ∗ (iLoc d ↦{fullShare} Im m d) ∗ oLoc d ↦{fullShare} Om m hp d) :=
  whole_tasks d (Im m d) (Xm m d) (Om m hp d)

/-- What the program leaves: the two arguments as they were, the result. -/
abbrev FIN (d : Dev nD) : sProp 𝕄 := iprop((pLoc d ↦{fullShare} m (pLoc d)) ∗ (xLoc d ↦{fullShare} m (xLoc d)) ∗ rLoc d ↦{fullShare} Rv m hp d)

theorem hmain (κ : GSem nD τ sig → ℕ) (d : Dev nD) :
    iprop((K (F := F)).ctx EH (P m hp) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m hp d ∗ (K (F := F)).tcEnd d) := by
  unfold SparseCore.Cfg.tcRes SparseCore.Cfg.tcEnd
  rw [unscoped_held]
  simp only [main, fn_pad.body, wp_bind, wp_pure]
  iintro ⟨#Hctx, Hst, ⟨Hb, Hheld, Hts, -⟩, -⟩
  iapply (wp_hlo_within 𝒱 (SparseCore.T d) none Set.univ (op := opCast) (S := S8) hCast (V := V0 m d)) $$ [Hb Hheld]
  · isplitl [Hb] <;> iassumption
  iintro ⟨Hb, Hheld⟩
  rw [wp_ret]; imodintro
  iapply (wp_hlo_within 𝒱 (SparseCore.T d) none Set.univ (op := opZero) (S := S8) hZero (V := V1 m d)) $$ [Hb Hheld]
  · isplitl [Hb] <;> iassumption
  iintro ⟨Hb, Hheld⟩
  rw [wp_ret]; imodintro
  iapply (wp_hlo_within 𝒱 (SparseCore.T d) none Set.univ (op := opCopy) (S := S8) hCopy (V := V2 m d)) $$ [Hb Hheld]
  · isplitl [Hb] <;> iassumption
  iintro ⟨Hb, Hheld⟩
  rw [wp_ret]; imodintro
  iapply (wp_hlo_within 𝒱 (SparseCore.T d) none Set.univ (op := opPad) (S := S8) hPad (V := V3 m d)) $$ [Hb Hheld]
  · isplitl [Hb] <;> iassumption
  iintro ⟨Hb, Hheld⟩
  rw [wp_ret]; imodintro; imodintro
  ihave Hh := (Entails.of_eq ((show (held (SparseCore.T d) S8 ((opPad (F := F)).result (V3 m d)) : sProp 𝕄) = held (SparseCore.T d) S8 (V4 m d) from rfl).trans
    (held_S8 d (V4 m d)))) $$ Hheld
  icases Hh with ⟨Hp, Hx, Ha, Hc, He, Hi, Ho, Hr⟩
  ihave Hx' := (Entails.of_eq (congrArg (fun f => (xLoc d ↦{fullShare} f : sProp 𝕄)) (V4_x m d))) $$ Hx
  ihave Hi' := (Entails.of_eq (congrArg (fun f => (iLoc d ↦{fullShare} f : sProp 𝕄)) (V4_i m d))) $$ Hi
  ihave Ho' := (Entails.of_eq (congrArg (fun f => (oLoc d ↦{fullShare} f : sProp 𝕄)) (V4_o m d))) $$ Ho
  iapply ((K (F := F)).wp_run (D (F := F)) 𝒱 (EH := EH) (P := P m hp) κ d 0) $$ [Hst Hp Hx' Ha Hc He Hi' Ho' Hr Hb Hts]
  isplitr; · iexact Hctx
  isplitl [Hst]; · iexact Hst
  isplitl [Hx' Hi' Ho']
  · iapply (Entails.of_eq (st_whole m hp d).symm)
    isplitl [Hx']; · iexact Hx'
    isplitl [Hi']; · iexact Hi'
    iexact Ho'
  iintro ⟨Hst, Hdn⟩
  ihave Hdn' := (Entails.of_eq (dn_whole m hp d)) $$ Hdn
  icases Hdn' with ⟨Hx, Hi, Ho⟩
  iapply (wp_hlo_within 𝒱 (SparseCore.T d) none Set.univ (op := opOut) (S := S8) hOut (V := V5 m hp d)) $$ [Hb Hp Hx Ha Hc He Hi Ho Hr]
  · isplitl [Hb]; · iexact Hb
    rw [held_S8, V5_o, V5_of m hp d (b := p') (by decide), V5_of m hp d (b := x') (by decide), V5_of m hp d (b := a') (by decide),
      V5_of m hp d (b := c') (by decide), V5_of m hp d (b := e') (by decide), V5_of m hp d (b := i') (by decide),
      V5_of m hp d (b := r') (by decide), V4_x, V4_i]
    isplitl [Hp]; · iexact Hp
    isplitl [Hx]; · iexact Hx
    isplitl [Ha]; · iexact Ha
    isplitl [Hc]; · iexact Hc
    isplitl [He]; · iexact He
    isplitl [Hi]; · iexact Hi
    isplitl [Ho]; · iexact Ho
    iexact Hr
  iintro ⟨Hb, Hheld⟩
  ihave Hh := (Entails.of_eq (held_S8 d ((opOut (F := F)).result (V5 m hp d)))) $$ Hheld
  icases Hh with ⟨Hp, Hx, -, -, -, -, -, Hr⟩
  ihave Hp' := (Entails.of_eq (congrArg (fun f => (pLoc d ↦{fullShare} f : sProp 𝕄)) (V6_p m hp d))) $$ Hp
  ihave Hx' := (Entails.of_eq (congrArg (fun f => (xLoc d ↦{fullShare} f : sProp 𝕄)) (V6_x m hp d))) $$ Hx
  ihave Hr' := (Entails.of_eq (congrArg (fun f => (rLoc d ↦{fullShare} f : sProp 𝕄)) (V6_r m hp d))) $$ Hr
  rw [wp_ret]; imodintro; imodintro
  isplitl [Hst]; · iexact Hst
  isplitr [Hb Hts]
  · isplitl [Hp']; · iexact Hp'
    isplitl [Hx']; · iexact Hx'
    iexact Hr'
  isplitl [Hb] <;> iassumption

/-! ## The run -/

def fq (d : Dev nD) (s' : Phys nD τ sig (Elt F)) : Prop :=
  s'.mem.mem (rLoc d) = Rv m hp d ∧ s'.mem.mem (pLoc d) = m (pLoc d) ∧ s'.mem.mem (xLoc d) = m (xLoc d)

set_option maxRecDepth 16384 in
theorem hfin (d : Dev nD) (s' : Phys nD τ sig (Elt F)) : iprop(FIN m hp d ∗ SI s') ⊢ (⌜fq m hp d s'⌝ : sProp 𝕄) := by
  iintro ⟨⟨Hp, Hx, Hr⟩, HSI⟩
  ihave H := (persistent_entails_right (SI_pointsTo_agree (st := s') (ℓ := pLoc d) (I := Finset.univ) (q := fullShare) (f := m (pLoc d)))) $$ [HSI Hp]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare) (f := Rv m hp d)) $$ [HSI Hr]
  · isplitl [HSI] <;> iassumption
  icases H with %h3
  ipureintro
  exact ⟨funext fun i => h3 i (Finset.mem_univ i), funext fun i => h1 i (Finset.mem_univ i), funext fun i => h2 i (Finset.mem_univ i)⟩

def QC : PUnit × MemSt nD τ sig (Elt F) → Prop := fun r =>
  (∀ c : Dev nD, r.2.mem (rLoc c) = Rv m hp c ∧ r.2.mem (pLoc c) = m (pLoc c) ∧ r.2.mem (xLoc c) = m (xLoc c)) ∧ r.2.sem = fun _ => 0

/-- Every run ends with the arguments as they were, the result gathered and the semaphores at zero. -/
theorem run_main [∀ e, Nonempty (Elt F e)] :
    θ_run (Cert.KernelIdeal.defs (F := F)) (Cert.KernelIdeal.threads (F := F)) ⟨m, fun _ => 0, ρ⟩ (QC m hp) :=
  SparseCore.Cfg.θ_run_sc_quiescent (K := K (F := F)) (D := D (F := F)) (𝒱 := 𝒱) (EH := EH) (P := P m hp) (A := ∅) facts v₀
    (fun q hq => match q with | 0 => nomatch hq)
    (fun q _ => match q with | 0 => tileObl m hp facts)
    (fun q _ => match q with | 0 => SparseCore.Cfg.VecSplit.of_plain (vecSplit m hp))
    m ρ main (fun _ => iprop(emp)) (FIN m hp) (u₀ (F := F)) (sep_elim_left.trans (hu₀ m hp)) (hmain m ρ hp) (fq m hp) (hfin m hp) (QC m hp)
    (fun _ h hz => ⟨h, hz⟩)

end Prog

end Cert.Proof.Gather

end
-- ==== Proof.Values.lean ====
/-
  The gathered array as the reference writes it, and what the precondition gives.
-/
module

public import proofs.«01_k».proof.Proof.Launch
public import proofs.«01_k».proof.Defs
public import Idealize.ShloMosaic.Lib.Routing.Ops

@[expose] public section

noncomputable section

namespace Cert.Proof.Gather

open Cert.KernelIdeal Cert.KernelIdeal.Gen
open Idealize.ShloMosaic
open Idealize.ShloMosaic.ValueIdx

variable {F : FTy → Type} [FloatOps F]

abbrev Col : Shape := ⟨2, ![65536, 1]⟩

/-- A word below 65536 is not negative, so the wrap of negative positions leaves it. -/
theorem wrap_self (v : BitVec 32) (h : v.toNat < 65536) : IntOp.cmpi .slt v 0#32 = 0#1 := by
  have e : v.slt 0#32 = false := by
    rw [BitVec.slt_eq_decide, BitVec.toInt_eq_toNat_cond]
    simp only [BitVec.toInt_zero, decide_eq_false_iff_not]
    omega
  show BitVec.ofBool (v.slt 0#32) = 0#1
  rw [e]; rfl

theorem gather_OUT (d : GatherDims S65536x1024 Col S65536x1024) (hoff : d.offsetDims = [1]) (hcoll : d.collapsedSliceDims = [0])
    (hob : d.operandBatchingDims = []) (hsim : d.startIndexMap = [0]) (hivd : d.indexVectorDim = 1)
    (b0 : S_.BroadcastsInDim S65536 ![]) (b1 : S65536.BroadcastsInDim Col ![0])
    (p : S65536.Idx → Elt F .i32) (X : S65536x1024.Idx → Elt F .f32) (h : InRange (F := F) p) :
    OUT (F := F) (idxOf (F := F) p) X (inRows_of h)
      = Host.gather d X (broadcastInDim Col ![0] b1
          (select (cmpi .slt p (broadcastInDim S65536 ![] b0 (constantI S_ 32 0#32)))
            (addi p (broadcastInDim S65536 ![] b0 (constantI S_ 32 65536#32))) p)) := by
  funext x
  have h0 : (x 0).val < 65536 := (x 0).isLt
  have hx : x = (ix2 (rowOfBlk ⟨(x 0).val / 32, by omega⟩ ⟨(x 0).val % 32, Nat.mod_lt _ (by decide)⟩) (x 1 : Fin 1024) : S65536x1024.Idx) := by
    refine funext fun a => Fin.ext ?_
    match a with
    | 0 => show (x 0).val = 32 * ((x 0).val / 32) + (x 0).val % 32; omega
    | 1 => rfl
  generalize hb : (⟨(x 0).val / 32, by omega⟩ : Fin 2048) = b at hx
  generalize hr : (⟨(x 0).val % 32, Nat.mod_lt _ (by decide)⟩ : Fin 32) = r at hx
  generalize (x 1 : Fin 1024) = k at hx
  subst hx
  refine (OUT_row _ X (inRows_of h) b r k).trans ?_
  refine (Routing.gather_row d hoff hcoll hob hsim hivd X _ (rowOfBlk b r) k (rowAt (inRows_of h) b r) ?_ (by decide)).symm
  have word : BitVec.ofNat 32 (rowAt (inRows_of h) b r).val = p (ix1 (rowOfBlk b r)) := by
    have e := idxOf_lane p b r
    show BitVec.ofNat 32 (BitVec.toNat (w := 32) (idxOf (F := F) p (ix2 b (lane r)))) = p (ix1 (rowOfBlk b r))
    rw [e]
    exact BitVec.eq_of_toNat_eq ((BitVec.toNat_ofNat _ _).trans (Nat.mod_eq_of_lt (BitVec.isLt (w := 32) (p (ix1 (rowOfBlk b r))))))
  refine Eq.trans ?_ word.symm
  have hs : ∀ j : S65536.Idx, (select (cmpi .slt p (broadcastInDim S65536 ![] b0 (constantI S_ 32 0#32)))
      (addi p (broadcastInDim S65536 ![] b0 (constantI S_ 32 65536#32))) p) j = p j := fun j => by
    show (if IntOp.cmpi .slt (p j) 0#32 = 1#1 then _ else p j) = p j
    rw [wrap_self _ (h j)]; exact if_neg (by decide)
  refine (hs _).trans (congrArg p (funext fun a => Fin.ext ?_))
  obtain rfl : a = 0 := Subsingleton.elim _ _
  rfl

/-- The precondition as the claims state it puts every position in range. -/
theorem inRange_of_fn [Cert.Pre_pos_in_rows.Facts] (p : S65536.Idx → Elt F .i32) (X : S65536x1024.Idx → Elt F .f32)
    (h : Cert.Pre_pos_in_rows.fn (F := F) p X = fun _ => 1#1) : InRange (F := F) p := by
  have both (a b : Bool) : IntOp.andi (BitVec.ofBool a) (BitVec.ofBool b) = 1#1 → a = true ∧ b = true := by
    cases a <;> cases b <;> decide
  have word : ∀ v : BitVec 32, IntOp.andi (IntOp.cmpi .sge v 0#32) (IntOp.cmpi .slt v 65536#32) = 1#1 → v.toNat < 65536 := by
    intro v e
    obtain ⟨h1, h2⟩ := both ((0#32).sle v) (v.slt 65536#32) e
    rw [BitVec.sle_eq_decide, decide_eq_true_eq] at h1
    rw [BitVec.slt_eq_decide, decide_eq_true_eq] at h2
    simp only [BitVec.toInt_eq_toNat_cond, BitVec.toNat_ofNat, Nat.reducePow, Nat.reduceMod] at h1 h2
    omega
  exact fun j => word (p j) (congrFun h j)

end Cert.Proof.Gather

end
-- ==== Proof.MRun.lean ====
/-
  One grid point of the expert kernel: what its body leaves in the accumulator and in the result's
  block, from the blocks it is handed, along each way its conditions may go.
-/
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.VecWindow
public import Idealize.ShloMosaic.Lib.Tactic

@[expose] public section

set_option maxRecDepth 16384
set_option Elab.async false

noncomputable section

namespace Cert.Proof.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The propositions the proof speaks in. -/
local notation "𝕄" => MT nD τ sig Unit (Elt F) ℕ (UR sig nD τ) ℕ

/-! ## The values of a point -/

/-- The seven tables and the accumulator. -/
abbrev tb0 : Memref sig .tc .smem S367 .i32 := Memref.whole main_arg1
abbrev tb1 : Memref sig .tc .smem S367 .i32 := Memref.whole main_arg2
abbrev tb2 : Memref sig .tc .smem S367 .i32 := Memref.whole main_arg3
abbrev tb3 : Memref sig .tc .smem S367 .i32 := Memref.whole main_arg4
abbrev tb4 : Memref sig .tc .smem S367 .i32 := Memref.whole main_arg5
abbrev tb5 : Memref sig .tc .smem S367 .i32 := Memref.whole main_arg6
abbrev tb6 : Memref sig .tc .smem S367 .i32 := Memref.whole main_arg7
abbrev acc0 : Memref sig .tc .vmem S256x1024 .f32 := Memref.whole cc0_scratch0

/-- A block's rows, and its two columns of weights. -/
def rowsOf (x : S256x1152.Idx → Elt F .f32) : Vec F S256x1024 .f32 :=
  fun y => x ((Rect.unit (s := S256x1152) ![0, 0] S256x1024.size inb_S256x1152_S256x1024_0_0).toLoadRect.idx y)
def wtA (x : S256x1152.Idx → Elt F .f32) : Vec F S256x1 .f32 :=
  fun y => x ((Rect.unit (s := S256x1152) ![0, 1024] S256x1.size inb_S256x1152_S256x1_0_1024).toLoadRect.idx y)
def wtB (x : S256x1152.Idx → Elt F .f32) : Vec F S256x1 .f32 :=
  fun y => x ((Rect.unit (s := S256x1152) ![0, 1025] S256x1.size inb_S256x1152_S256x1_0_1025).toLoadRect.idx y)

/-- What a live point adds to the accumulator, from its blocks and its segment's bounds. -/
def contrib (x0 : S256x1152.Idx → Elt F .f32) (x1 x2 : S1x1024x512.Idx → Elt F .bf16) (x3 : S1x512x1024.Idx → Elt F .bf16)
    (x4 x5 : S1x1024x512.Idx → Elt F .bf16) (x6 : S1x512x1024.Idx → Elt F .bf16) (x7 : S1x1024.Idx → Elt F .f32)
    (lo hi : BitVec 32) : FVec F S256x1024 .f32 :=
  k0_pay12 (F := F) (k0_pay5 (F := F) lo hi (wtA x0)) (k0_pay6 (F := F) lo hi (wtB x0)) (k0_pay7 (F := F) (rowsOf x0) x7)
    (k0_pay8 (F := F) (rowsOf x0) x7 x1) (k0_pay9 (F := F) (rowsOf x0) x7 x2) (k0_pay10 (F := F) (rowsOf x0) x7 x1)
    (k0_pay11 (F := F)) x3 x4 x5 x6

/-- The word of a table at a point, by each of the two spellings of its place. -/
def word1 (T : S367.Idx → Elt F .i32) (i : grid0.Coords) : BitVec 32 :=
  View.readAt (Elt F) tb3.view (Rect.unit (s := S367) (k0_off1 i) S1.size (k0_off1_inb i)).toLoadRect T (Shape.Idx.first (numel1_S1.symm ▸ Nat.one_pos))
def word2 (T : S367.Idx → Elt F .i32) (i : grid0.Coords) : BitVec 32 :=
  View.readAt (Elt F) tb3.view (Rect.unit (s := S367) (k0_off2 i) S1.size (k0_off2_inb i)).toLoadRect T (Shape.Idx.first (numel1_S1.symm ▸ Nat.one_pos))

/-- The first point's test, whether a point is live, whether it is its tile's first, and its tile's last. -/
def isStart (i : grid0.Coords) : Prop := Scalar.cmpi .ne (Scalar.extui (Scalar.cmpi .eq (BitVec.ofNat 32 (i 0).val) 0#32)) 0#32 = 1#1
def isLive (T3 T4 : S367.Idx → Elt F .i32) (i : grid0.Coords) : Prop := k0_cond2 (word1 (F := F) T3 i) (word1 (F := F) T4 i) = 1#1
def isLast (T6 : S367.Idx → Elt F .i32) (i : grid0.Coords) : Prop := k0_cond3 (word2 (F := F) T6 i) = 1#1
def firstBit (T5 : S367.Idx → Elt F .i32) (i : grid0.Coords) : BitVec 1 := Scalar.cmpi .eq (word2 (F := F) T5 i) 1#32

/-! ## What the body's loads read -/

theorem rd_rows (m : Memref sig .tc .vmem S256x1152 .f32) (x : S256x1152.Idx → Elt F .f32) :
    View.readAt (Elt F) m.view (Rect.unit (s := S256x1152) ![0, 0] S256x1024.size inb_S256x1152_S256x1024_0_0).toLoadRect (m.view.rep x) = rowsOf x :=
  View.readAt_rep _ _ _
theorem rd_wtA (m : Memref sig .tc .vmem S256x1152 .f32) (x : S256x1152.Idx → Elt F .f32) :
    View.readAt (Elt F) m.view (Rect.unit (s := S256x1152) ![0, 1024] S256x1.size inb_S256x1152_S256x1_0_1024).toLoadRect (m.view.rep x) = wtA x :=
  View.readAt_rep _ _ _
theorem rd_wtB (m : Memref sig .tc .vmem S256x1152 .f32) (x : S256x1152.Idx → Elt F .f32) :
    View.readAt (Elt F) m.view (Rect.unit (s := S256x1152) ![0, 1025] S256x1.size inb_S256x1152_S256x1_0_1025).toLoadRect (m.view.rep x) = wtB x :=
  View.readAt_rep _ _ _
theorem rd_row (m : Memref sig .tc .vmem S1x1024 .f32) (x : S1x1024.Idx → Elt F .f32) :
    View.readAt (Elt F) m.view (Rect.unit (s := S1x1024) ![0, 0] S1x1024.size inb_S1x1024_S1x1024_0_0).toLoadRect (m.view.rep x) = x :=
  View.readAt_rep_full _ _ _
theorem rd_up (m : Memref sig .tc .vmem S1x1024x512 .bf16) (x : S1x1024x512.Idx → Elt F .bf16) :
    View.readAt (Elt F) m.view (Rect.unit (s := S1x1024x512) ![0, 0, 0] S1x1024x512.size inb_S1x1024x512_S1x1024x512_0_0_0).toLoadRect (m.view.rep x) = x :=
  View.readAt_rep_full _ _ _
theorem rd_down (m : Memref sig .tc .vmem S1x512x1024 .bf16) (x : S1x512x1024.Idx → Elt F .bf16) :
    View.readAt (Elt F) m.view (Rect.unit (s := S1x512x1024) ![0, 0, 0] S1x512x1024.size inb_S1x512x1024_S1x512x1024_0_0_0).toLoadRect (m.view.rep x) = x :=
  View.readAt_rep_full _ _ _
theorem rd_acc (m : Memref sig .tc .vmem S256x1024 .f32) (x : S256x1024.Idx → Elt F .f32) :
    View.readAt (Elt F) m.view (Rect.unit (s := S256x1024) ![0, 0] S256x1024.size inb_S256x1024_S256x1024_0_0).toLoadRect (m.view.rep x) = x :=
  View.readAt_rep_full _ _ _
theorem rd_cov (m : Memref sig .tc .vmem S256x1024 .f32) (w : S256x1024.Idx → Elt F .f32) (L : List (View.Piece (Elt F) S256x1024 .f32)) :
    m.view.readCov (⟨Rect.unit (s := S256x1024) ![0, 0] S256x1024.size inb_S256x1024_S256x1024_0_0, w⟩ :: L)
      (Rect.unit (s := S256x1024) ![0, 0] S256x1024.size inb_S256x1024_S256x1024_0_0).toLoadRect = w :=
  View.readCov_full _ _ _ _ _
theorem rd_wr (m : Memref sig .tc .vmem S256x1024 .f32) (f : m.view.ty.Contents (Elt F)) (w : S256x1024.Idx → Elt F .f32)
    (L : List (View.Piece (Elt F) S256x1024 .f32)) :
    View.read (Elt F) m.view (m.view.writes (Elt F) f
      (⟨Rect.unit (s := S256x1024) ![0, 0] S256x1024.size inb_S256x1024_S256x1024_0_0, w⟩ :: L)) = w :=
  View.read_writes_full _ _ _ _ _

/-! ## The body, way by way -/

set_option maxHeartbeats 8000000 in
/-- The first point, live and its tile's last. -/
theorem run_A1 (c : Dev nD) (i : grid0.Coords) (arg8 : Memref sig .tc .vmem S256x1152 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x512x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S256x1024 .f32) (harg17 : arg17.IsWhole)
    (T3 T4 T5 T6 : S367.Idx → Elt F .i32) (x0 : S256x1152.Idx → Elt F .f32) (x1 : S1x1024x512.Idx → Elt F .bf16) (x2 : S1x1024x512.Idx → Elt F .bf16) (x3 : S1x512x1024.Idx → Elt F .bf16) (x4 : S1x1024x512.Idx → Elt F .bf16) (x5 : S1x1024x512.Idx → Elt F .bf16) (x6 : S1x512x1024.Idx → Elt F .bf16) (x7 : S1x1024.Idx → Elt F .f32) (x8 : S1x1024.Idx → Elt F .f32)
    (k0_h1 : isStart i) (k0_h2 : isLive (F := F) T3 T4 i) (k0_h3 : isLast (F := F) T6 i)
    (a : S256x1024.Idx → Elt F .f32) (K : PUnit → sProp 𝕄) :
    iprop((arg8.view.loc (c : Thread nD τ) ↦[arg8.view.set]{fullShare} arg8.view.rep x0)
        ∗ (arg9.view.loc (c : Thread nD τ) ↦[arg9.view.set]{fullShare} arg9.view.rep x1)
        ∗ (arg10.view.loc (c : Thread nD τ) ↦[arg10.view.set]{fullShare} arg10.view.rep x2)
        ∗ (arg11.view.loc (c : Thread nD τ) ↦[arg11.view.set]{fullShare} arg11.view.rep x3)
        ∗ (arg12.view.loc (c : Thread nD τ) ↦[arg12.view.set]{fullShare} arg12.view.rep x4)
        ∗ (arg13.view.loc (c : Thread nD τ) ↦[arg13.view.set]{fullShare} arg13.view.rep x5)
        ∗ (arg14.view.loc (c : Thread nD τ) ↦[arg14.view.set]{fullShare} arg14.view.rep x6)
        ∗ (arg15.view.loc (c : Thread nD τ) ↦[arg15.view.set]{fullShare} arg15.view.rep x7)
        ∗ (arg16.view.loc (c : Thread nD τ) ↦[arg16.view.set]{fullShare} arg16.view.rep x8)
        ∗ (tb3.view.loc (c : Thread nD τ) ↦{fullShare.right} T3)
        ∗ (tb4.view.loc (c : Thread nD τ) ↦{fullShare.right} T4)
        ∗ (tb5.view.loc (c : Thread nD τ) ↦{fullShare.right} T5)
        ∗ (tb6.view.loc (c : Thread nD τ) ↦{fullShare.right} T6)
        ∗ (∃ d, owns (c : Thread nD τ) arg17 fullShare d)
        ∗ (acc0.view.loc (c : Thread nD τ) ↦[acc0.view.set]{fullShare} acc0.view.rep a)
        ∗ (iprop((arg8.view.loc (c : Thread nD τ) ↦[arg8.view.set]{fullShare} arg8.view.rep x0)
            ∗ (arg9.view.loc (c : Thread nD τ) ↦[arg9.view.set]{fullShare} arg9.view.rep x1)
            ∗ (arg10.view.loc (c : Thread nD τ) ↦[arg10.view.set]{fullShare} arg10.view.rep x2)
            ∗ (arg11.view.loc (c : Thread nD τ) ↦[arg11.view.set]{fullShare} arg11.view.rep x3)
            ∗ (arg12.view.loc (c : Thread nD τ) ↦[arg12.view.set]{fullShare} arg12.view.rep x4)
            ∗ (arg13.view.loc (c : Thread nD τ) ↦[arg13.view.set]{fullShare} arg13.view.rep x5)
            ∗ (arg14.view.loc (c : Thread nD τ) ↦[arg14.view.set]{fullShare} arg14.view.rep x6)
            ∗ (arg15.view.loc (c : Thread nD τ) ↦[arg15.view.set]{fullShare} arg15.view.rep x7)
            ∗ (arg16.view.loc (c : Thread nD τ) ↦[arg16.view.set]{fullShare} arg16.view.rep x8)
            ∗ (tb3.view.loc (c : Thread nD τ) ↦{fullShare.right} T3)
            ∗ (tb4.view.loc (c : Thread nD τ) ↦{fullShare.right} T4)
            ∗ (tb5.view.loc (c : Thread nD τ) ↦{fullShare.right} T5)
            ∗ (tb6.view.loc (c : Thread nD τ) ↦{fullShare.right} T6)
            ∗ owns (c : Thread nD τ) arg17 fullShare (k0_pay3 (F := F) (rowsOf x0) (k0_pay2 (F := F) (contrib x0 x1 x2 x3 x4 x5 x6 x7 (word1 (F := F) T3 i) (word1 (F := F) T4 i)) (firstBit (F := F) T5 i) (k0_pay1 (F := F))) x8)
            ∗ (acc0.view.loc (c : Thread nD τ) ↦[acc0.view.set]{fullShare} acc0.view.rep (k0_pay2 (F := F) (contrib x0 x1 x2 x3 x4 x5 x6 x7 (word1 (F := F) T3 i) (word1 (F := F) T4 i)) (firstBit (F := F) T5 i) (k0_pay1 (F := F))))) -∗ K ⟨⟩))
      ⊢ wp frame (wpE (defs₀ (F := F)) Variants.none c none) Set.univ (cc0__moe_kernel (F := F) i tb0 (Memref.isWhole_whole _) tb1 (Memref.isWhole_whole _) tb2 (Memref.isWhole_whole _) tb3 (Memref.isWhole_whole _) tb4 (Memref.isWhole_whole _) tb5 (Memref.isWhole_whole _) tb6 (Memref.isWhole_whole _) arg8 harg8 arg9 harg9 arg10 harg10 arg11 harg11 arg12 harg12 arg13 harg13 arg14 harg14 arg15 harg15 arg16 harg16 arg17 harg17 acc0 (Memref.isWhole_whole _)) K := by
  unfold owns
  unfold isStart at k0_h1
  unfold isLive word1 at k0_h2
  unfold isLast word2 at k0_h3
  rw [cc0__moe_kernel_eq_skeleton]; unfold cc0__moe_kernel_skel
  iintro ⟨H0, H1, H2, H3, H4, H5, H6, H7, H8, HT3, HT4, HT5, HT6, ⟨%d9, %f9, -, HO9⟩, HS0, Hk⟩
  have hS0 : acc0.IsWhole := Memref.isWhole_whole _
  have hT3 : tb3.IsWhole := Memref.isWhole_whole _
  have hT4 : tb4.IsWhole := Memref.isWhole_whole _
  have hT5 : tb5.IsWhole := Memref.isWhole_whole _
  have hT6 : tb6.IsWhole := Memref.isWhole_whole _
  sl_exec! (disch := first | sl_exact k0_h1 | sl_exact k0_h2 | sl_exact k0_h3)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HT3]; · iexact HT3
  isplitl [HT4]; · iexact HT4
  isplitl [HT5]; · iexact HT5
  isplitl [HT6]; · iexact HT6
  isplitl [HO9]
  · iexists _; isplitr; swap
    · iexact HO9
    · ipureintro
      delta run_A1.sl.HO9_1 run_A1.sl.v96 run_A1.sl.HS0_2 run_A1.sl.HS0_1 run_A1.sl.v83 run_A1.sl.r_9 run_A1.sl.r_8 run_A1.sl.r_7 run_A1.sl.r_6 run_A1.sl.r_5 run_A1.sl.r_4 run_A1.sl.r_3 run_A1.sl.r_2 run_A1.sl.r_1 run_A1.sl.r run_A1.sl.v82
      refine (rd_wr arg17 _ _ _).trans ?_
      rw [rd_cov acc0]
      rw [rd_cov acc0]
      rw [rd_rows, rd_wtA, rd_wtB, rd_up arg9, rd_up arg10, rd_up arg12, rd_up arg13, rd_down arg11, rd_down arg14, rd_row arg15, rd_row arg16]
      rfl
  iapply pointsTo_rep_of_read (h := ?_)
  swap
  · iexact HS0
  · delta run_A1.sl.HS0_2 run_A1.sl.HS0_1 run_A1.sl.v83 run_A1.sl.r_9 run_A1.sl.r_8 run_A1.sl.r_7 run_A1.sl.r_6 run_A1.sl.r_5 run_A1.sl.r_4 run_A1.sl.r_3 run_A1.sl.r_2 run_A1.sl.r_1 run_A1.sl.r run_A1.sl.v82
    refine (rd_wr acc0 _ _ _).trans ?_
    rw [rd_cov acc0]
    rw [rd_rows, rd_wtA, rd_wtB, rd_up arg9, rd_up arg10, rd_up arg12, rd_up arg13, rd_down arg11, rd_down arg14, rd_row arg15]
    rfl

set_option maxHeartbeats 8000000 in
/-- The first point, live and not its tile's last. -/
theorem run_A2 (c : Dev nD) (i : grid0.Coords) (arg8 : Memref sig .tc .vmem S256x1152 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x512x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S256x1024 .f32) (harg17 : arg17.IsWhole)
    (T3 T4 T5 T6 : S367.Idx → Elt F .i32) (x0 : S256x1152.Idx → Elt F .f32) (x1 : S1x1024x512.Idx → Elt F .bf16) (x2 : S1x1024x512.Idx → Elt F .bf16) (x3 : S1x512x1024.Idx → Elt F .bf16) (x4 : S1x1024x512.Idx → Elt F .bf16) (x5 : S1x1024x512.Idx → Elt F .bf16) (x6 : S1x512x1024.Idx → Elt F .bf16) (x7 : S1x1024.Idx → Elt F .f32) (x8 : S1x1024.Idx → Elt F .f32)
    (k0_h1 : isStart i) (k0_h2 : isLive (F := F) T3 T4 i) (k0_h3 : ¬isLast (F := F) T6 i)
    (a : S256x1024.Idx → Elt F .f32) (d : S256x1024.Idx → Elt F .f32) (K : PUnit → sProp 𝕄) :
    iprop((arg8.view.loc (c : Thread nD τ) ↦[arg8.view.set]{fullShare} arg8.view.rep x0)
        ∗ (arg9.view.loc (c : Thread nD τ) ↦[arg9.view.set]{fullShare} arg9.view.rep x1)
        ∗ (arg10.view.loc (c : Thread nD τ) ↦[arg10.view.set]{fullShare} arg10.view.rep x2)
        ∗ (arg11.view.loc (c : Thread nD τ) ↦[arg11.view.set]{fullShare} arg11.view.rep x3)
        ∗ (arg12.view.loc (c : Thread nD τ) ↦[arg12.view.set]{fullShare} arg12.view.rep x4)
        ∗ (arg13.view.loc (c : Thread nD τ) ↦[arg13.view.set]{fullShare} arg13.view.rep x5)
        ∗ (arg14.view.loc (c : Thread nD τ) ↦[arg14.view.set]{fullShare} arg14.view.rep x6)
        ∗ (arg15.view.loc (c : Thread nD τ) ↦[arg15.view.set]{fullShare} arg15.view.rep x7)
        ∗ (arg16.view.loc (c : Thread nD τ) ↦[arg16.view.set]{fullShare} arg16.view.rep x8)
        ∗ (tb3.view.loc (c : Thread nD τ) ↦{fullShare.right} T3)
        ∗ (tb4.view.loc (c : Thread nD τ) ↦{fullShare.right} T4)
        ∗ (tb5.view.loc (c : Thread nD τ) ↦{fullShare.right} T5)
        ∗ (tb6.view.loc (c : Thread nD τ) ↦{fullShare.right} T6)
        ∗ owns (c : Thread nD τ) arg17 fullShare d
        ∗ (acc0.view.loc (c : Thread nD τ) ↦[acc0.view.set]{fullShare} acc0.view.rep a)
        ∗ (iprop((arg8.view.loc (c : Thread nD τ) ↦[arg8.view.set]{fullShare} arg8.view.rep x0)
            ∗ (arg9.view.loc (c : Thread nD τ) ↦[arg9.view.set]{fullShare} arg9.view.rep x1)
            ∗ (arg10.view.loc (c : Thread nD τ) ↦[arg10.view.set]{fullShare} arg10.view.rep x2)
            ∗ (arg11.view.loc (c : Thread nD τ) ↦[arg11.view.set]{fullShare} arg11.view.rep x3)
            ∗ (arg12.view.loc (c : Thread nD τ) ↦[arg12.view.set]{fullShare} arg12.view.rep x4)
            ∗ (arg13.view.loc (c : Thread nD τ) ↦[arg13.view.set]{fullShare} arg13.view.rep x5)
            ∗ (arg14.view.loc (c : Thread nD τ) ↦[arg14.view.set]{fullShare} arg14.view.rep x6)
            ∗ (arg15.view.loc (c : Thread nD τ) ↦[arg15.view.set]{fullShare} arg15.view.rep x7)
            ∗ (arg16.view.loc (c : Thread nD τ) ↦[arg16.view.set]{fullShare} arg16.view.rep x8)
            ∗ (tb3.view.loc (c : Thread nD τ) ↦{fullShare.right} T3)
            ∗ (tb4.view.loc (c : Thread nD τ) ↦{fullShare.right} T4)
            ∗ (tb5.view.loc (c : Thread nD τ) ↦{fullShare.right} T5)
            ∗ (tb6.view.loc (c : Thread nD τ) ↦{fullShare.right} T6)
            ∗ owns (c : Thread nD τ) arg17 fullShare d
            ∗ (acc0.view.loc (c : Thread nD τ) ↦[acc0.view.set]{fullShare} acc0.view.rep (k0_pay2 (F := F) (contrib x0 x1 x2 x3 x4 x5 x6 x7 (word1 (F := F) T3 i) (word1 (F := F) T4 i)) (firstBit (F := F) T5 i) (k0_pay1 (F := F))))) -∗ K ⟨⟩))
      ⊢ wp frame (wpE (defs₀ (F := F)) Variants.none c none) Set.univ (cc0__moe_kernel (F := F) i tb0 (Memref.isWhole_whole _) tb1 (Memref.isWhole_whole _) tb2 (Memref.isWhole_whole _) tb3 (Memref.isWhole_whole _) tb4 (Memref.isWhole_whole _) tb5 (Memref.isWhole_whole _) tb6 (Memref.isWhole_whole _) arg8 harg8 arg9 harg9 arg10 harg10 arg11 harg11 arg12 harg12 arg13 harg13 arg14 harg14 arg15 harg15 arg16 harg16 arg17 harg17 acc0 (Memref.isWhole_whole _)) K := by
  unfold owns
  unfold isStart at k0_h1
  unfold isLive word1 at k0_h2
  unfold isLast word2 at k0_h3
  rw [cc0__moe_kernel_eq_skeleton]; unfold cc0__moe_kernel_skel
  iintro ⟨H0, H1, H2, H3, H4, H5, H6, H7, H8, HT3, HT4, HT5, HT6, ⟨%f9, %hf9, HO9⟩, HS0, Hk⟩
  have hS0 : acc0.IsWhole := Memref.isWhole_whole _
  have hT3 : tb3.IsWhole := Memref.isWhole_whole _
  have hT4 : tb4.IsWhole := Memref.isWhole_whole _
  have hT5 : tb5.IsWhole := Memref.isWhole_whole _
  have hT6 : tb6.IsWhole := Memref.isWhole_whole _
  sl_exec! (disch := first | sl_exact k0_h1 | sl_exact k0_h2 | sl_exact k0_h3)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HT3]; · iexact HT3
  isplitl [HT4]; · iexact HT4
  isplitl [HT5]; · iexact HT5
  isplitl [HT6]; · iexact HT6
  isplitl [HO9]
  · iexists f9; isplitr; swap
    · iexact HO9
    · ipureintro; exact hf9
  iapply pointsTo_rep_of_read (h := ?_)
  swap
  · iexact HS0
  · delta run_A2.sl.HS0_2 run_A2.sl.HS0_1 run_A2.sl.v83 run_A2.sl.r_9 run_A2.sl.r_8 run_A2.sl.r_7 run_A2.sl.r_6 run_A2.sl.r_5 run_A2.sl.r_4 run_A2.sl.r_3 run_A2.sl.r_2 run_A2.sl.r_1 run_A2.sl.r run_A2.sl.v82
    refine (rd_wr acc0 _ _ _).trans ?_
    rw [rd_cov acc0]
    rw [rd_rows, rd_wtA, rd_wtB, rd_up arg9, rd_up arg10, rd_up arg12, rd_up arg13, rd_down arg11, rd_down arg14, rd_row arg15]
    rfl

set_option maxHeartbeats 8000000 in
/-- The first point, not live. -/
theorem run_A3 (c : Dev nD) (i : grid0.Coords) (arg8 : Memref sig .tc .vmem S256x1152 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x512x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S256x1024 .f32) (harg17 : arg17.IsWhole)
    (T3 T4 T5 T6 : S367.Idx → Elt F .i32) (x0 : S256x1152.Idx → Elt F .f32) (x1 : S1x1024x512.Idx → Elt F .bf16) (x2 : S1x1024x512.Idx → Elt F .bf16) (x3 : S1x512x1024.Idx → Elt F .bf16) (x4 : S1x1024x512.Idx → Elt F .bf16) (x5 : S1x1024x512.Idx → Elt F .bf16) (x6 : S1x512x1024.Idx → Elt F .bf16) (x7 : S1x1024.Idx → Elt F .f32) (x8 : S1x1024.Idx → Elt F .f32)
    (k0_h1 : isStart i) (k0_h2 : ¬isLive (F := F) T3 T4 i)
    (a : S256x1024.Idx → Elt F .f32) (d : S256x1024.Idx → Elt F .f32) (K : PUnit → sProp 𝕄) :
    iprop((arg8.view.loc (c : Thread nD τ) ↦[arg8.view.set]{fullShare} arg8.view.rep x0)
        ∗ (arg9.view.loc (c : Thread nD τ) ↦[arg9.view.set]{fullShare} arg9.view.rep x1)
        ∗ (arg10.view.loc (c : Thread nD τ) ↦[arg10.view.set]{fullShare} arg10.view.rep x2)
        ∗ (arg11.view.loc (c : Thread nD τ) ↦[arg11.view.set]{fullShare} arg11.view.rep x3)
        ∗ (arg12.view.loc (c : Thread nD τ) ↦[arg12.view.set]{fullShare} arg12.view.rep x4)
        ∗ (arg13.view.loc (c : Thread nD τ) ↦[arg13.view.set]{fullShare} arg13.view.rep x5)
        ∗ (arg14.view.loc (c : Thread nD τ) ↦[arg14.view.set]{fullShare} arg14.view.rep x6)
        ∗ (arg15.view.loc (c : Thread nD τ) ↦[arg15.view.set]{fullShare} arg15.view.rep x7)
        ∗ (arg16.view.loc (c : Thread nD τ) ↦[arg16.view.set]{fullShare} arg16.view.rep x8)
        ∗ (tb3.view.loc (c : Thread nD τ) ↦{fullShare.right} T3)
        ∗ (tb4.view.loc (c : Thread nD τ) ↦{fullShare.right} T4)
        ∗ (tb5.view.loc (c : Thread nD τ) ↦{fullShare.right} T5)
        ∗ (tb6.view.loc (c : Thread nD τ) ↦{fullShare.right} T6)
        ∗ owns (c : Thread nD τ) arg17 fullShare d
        ∗ (acc0.view.loc (c : Thread nD τ) ↦[acc0.view.set]{fullShare} acc0.view.rep a)
        ∗ (iprop((arg8.view.loc (c : Thread nD τ) ↦[arg8.view.set]{fullShare} arg8.view.rep x0)
            ∗ (arg9.view.loc (c : Thread nD τ) ↦[arg9.view.set]{fullShare} arg9.view.rep x1)
            ∗ (arg10.view.loc (c : Thread nD τ) ↦[arg10.view.set]{fullShare} arg10.view.rep x2)
            ∗ (arg11.view.loc (c : Thread nD τ) ↦[arg11.view.set]{fullShare} arg11.view.rep x3)
            ∗ (arg12.view.loc (c : Thread nD τ) ↦[arg12.view.set]{fullShare} arg12.view.rep x4)
            ∗ (arg13.view.loc (c : Thread nD τ) ↦[arg13.view.set]{fullShare} arg13.view.rep x5)
            ∗ (arg14.view.loc (c : Thread nD τ) ↦[arg14.view.set]{fullShare} arg14.view.rep x6)
            ∗ (arg15.view.loc (c : Thread nD τ) ↦[arg15.view.set]{fullShare} arg15.view.rep x7)
            ∗ (arg16.view.loc (c : Thread nD τ) ↦[arg16.view.set]{fullShare} arg16.view.rep x8)
            ∗ (tb3.view.loc (c : Thread nD τ) ↦{fullShare.right} T3)
            ∗ (tb4.view.loc (c : Thread nD τ) ↦{fullShare.right} T4)
            ∗ (tb5.view.loc (c : Thread nD τ) ↦{fullShare.right} T5)
            ∗ (tb6.view.loc (c : Thread nD τ) ↦{fullShare.right} T6)
            ∗ owns (c : Thread nD τ) arg17 fullShare d
            ∗ (acc0.view.loc (c : Thread nD τ) ↦[acc0.view.set]{fullShare} acc0.view.rep (k0_pay1 (F := F)))) -∗ K ⟨⟩))
      ⊢ wp frame (wpE (defs₀ (F := F)) Variants.none c none) Set.univ (cc0__moe_kernel (F := F) i tb0 (Memref.isWhole_whole _) tb1 (Memref.isWhole_whole _) tb2 (Memref.isWhole_whole _) tb3 (Memref.isWhole_whole _) tb4 (Memref.isWhole_whole _) tb5 (Memref.isWhole_whole _) tb6 (Memref.isWhole_whole _) arg8 harg8 arg9 harg9 arg10 harg10 arg11 harg11 arg12 harg12 arg13 harg13 arg14 harg14 arg15 harg15 arg16 harg16 arg17 harg17 acc0 (Memref.isWhole_whole _)) K := by
  unfold owns
  unfold isStart at k0_h1
  unfold isLive word1 at k0_h2
  rw [cc0__moe_kernel_eq_skeleton]; unfold cc0__moe_kernel_skel
  iintro ⟨H0, H1, H2, H3, H4, H5, H6, H7, H8, HT3, HT4, HT5, HT6, ⟨%f9, %hf9, HO9⟩, HS0, Hk⟩
  have hS0 : acc0.IsWhole := Memref.isWhole_whole _
  have hT3 : tb3.IsWhole := Memref.isWhole_whole _
  have hT4 : tb4.IsWhole := Memref.isWhole_whole _
  have hT5 : tb5.IsWhole := Memref.isWhole_whole _
  have hT6 : tb6.IsWhole := Memref.isWhole_whole _
  sl_exec! (disch := first | sl_exact k0_h1 | sl_exact k0_h2)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HT3]; · iexact HT3
  isplitl [HT4]; · iexact HT4
  isplitl [HT5]; · iexact HT5
  isplitl [HT6]; · iexact HT6
  isplitl [HO9]
  · iexists f9; isplitr; swap
    · iexact HO9
    · ipureintro; exact hf9
  iapply pointsTo_rep_of_read (h := ?_)
  swap
  · iexact HS0
  · delta run_A3.sl.HS0_1
    exact rd_wr acc0 _ _ _

set_option maxHeartbeats 8000000 in
/-- A later point, live and its tile's last. -/
theorem run_B1 (c : Dev nD) (i : grid0.Coords) (arg8 : Memref sig .tc .vmem S256x1152 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x512x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S256x1024 .f32) (harg17 : arg17.IsWhole)
    (T3 T4 T5 T6 : S367.Idx → Elt F .i32) (x0 : S256x1152.Idx → Elt F .f32) (x1 : S1x1024x512.Idx → Elt F .bf16) (x2 : S1x1024x512.Idx → Elt F .bf16) (x3 : S1x512x1024.Idx → Elt F .bf16) (x4 : S1x1024x512.Idx → Elt F .bf16) (x5 : S1x1024x512.Idx → Elt F .bf16) (x6 : S1x512x1024.Idx → Elt F .bf16) (x7 : S1x1024.Idx → Elt F .f32) (x8 : S1x1024.Idx → Elt F .f32)
    (k0_h1 : ¬isStart i) (k0_h2 : isLive (F := F) T3 T4 i) (k0_h3 : isLast (F := F) T6 i)
    (a : S256x1024.Idx → Elt F .f32) (K : PUnit → sProp 𝕄) :
    iprop((arg8.view.loc (c : Thread nD τ) ↦[arg8.view.set]{fullShare} arg8.view.rep x0)
        ∗ (arg9.view.loc (c : Thread nD τ) ↦[arg9.view.set]{fullShare} arg9.view.rep x1)
        ∗ (arg10.view.loc (c : Thread nD τ) ↦[arg10.view.set]{fullShare} arg10.view.rep x2)
        ∗ (arg11.view.loc (c : Thread nD τ) ↦[arg11.view.set]{fullShare} arg11.view.rep x3)
        ∗ (arg12.view.loc (c : Thread nD τ) ↦[arg12.view.set]{fullShare} arg12.view.rep x4)
        ∗ (arg13.view.loc (c : Thread nD τ) ↦[arg13.view.set]{fullShare} arg13.view.rep x5)
        ∗ (arg14.view.loc (c : Thread nD τ) ↦[arg14.view.set]{fullShare} arg14.view.rep x6)
        ∗ (arg15.view.loc (c : Thread nD τ) ↦[arg15.view.set]{fullShare} arg15.view.rep x7)
        ∗ (arg16.view.loc (c : Thread nD τ) ↦[arg16.view.set]{fullShare} arg16.view.rep x8)
        ∗ (tb3.view.loc (c : Thread nD τ) ↦{fullShare.right} T3)
        ∗ (tb4.view.loc (c : Thread nD τ) ↦{fullShare.right} T4)
        ∗ (tb5.view.loc (c : Thread nD τ) ↦{fullShare.right} T5)
        ∗ (tb6.view.loc (c : Thread nD τ) ↦{fullShare.right} T6)
        ∗ (∃ d, owns (c : Thread nD τ) arg17 fullShare d)
        ∗ (acc0.view.loc (c : Thread nD τ) ↦[acc0.view.set]{fullShare} acc0.view.rep a)
        ∗ (iprop((arg8.view.loc (c : Thread nD τ) ↦[arg8.view.set]{fullShare} arg8.view.rep x0)
            ∗ (arg9.view.loc (c : Thread nD τ) ↦[arg9.view.set]{fullShare} arg9.view.rep x1)
            ∗ (arg10.view.loc (c : Thread nD τ) ↦[arg10.view.set]{fullShare} arg10.view.rep x2)
            ∗ (arg11.view.loc (c : Thread nD τ) ↦[arg11.view.set]{fullShare} arg11.view.rep x3)
            ∗ (arg12.view.loc (c : Thread nD τ) ↦[arg12.view.set]{fullShare} arg12.view.rep x4)
            ∗ (arg13.view.loc (c : Thread nD τ) ↦[arg13.view.set]{fullShare} arg13.view.rep x5)
            ∗ (arg14.view.loc (c : Thread nD τ) ↦[arg14.view.set]{fullShare} arg14.view.rep x6)
            ∗ (arg15.view.loc (c : Thread nD τ) ↦[arg15.view.set]{fullShare} arg15.view.rep x7)
            ∗ (arg16.view.loc (c : Thread nD τ) ↦[arg16.view.set]{fullShare} arg16.view.rep x8)
            ∗ (tb3.view.loc (c : Thread nD τ) ↦{fullShare.right} T3)
            ∗ (tb4.view.loc (c : Thread nD τ) ↦{fullShare.right} T4)
            ∗ (tb5.view.loc (c : Thread nD τ) ↦{fullShare.right} T5)
            ∗ (tb6.view.loc (c : Thread nD τ) ↦{fullShare.right} T6)
            ∗ owns (c : Thread nD τ) arg17 fullShare (k0_pay3 (F := F) (rowsOf x0) (k0_pay2 (F := F) (contrib x0 x1 x2 x3 x4 x5 x6 x7 (word1 (F := F) T3 i) (word1 (F := F) T4 i)) (firstBit (F := F) T5 i) a) x8)
            ∗ (acc0.view.loc (c : Thread nD τ) ↦[acc0.view.set]{fullShare} acc0.view.rep (k0_pay2 (F := F) (contrib x0 x1 x2 x3 x4 x5 x6 x7 (word1 (F := F) T3 i) (word1 (F := F) T4 i)) (firstBit (F := F) T5 i) a))) -∗ K ⟨⟩))
      ⊢ wp frame (wpE (defs₀ (F := F)) Variants.none c none) Set.univ (cc0__moe_kernel (F := F) i tb0 (Memref.isWhole_whole _) tb1 (Memref.isWhole_whole _) tb2 (Memref.isWhole_whole _) tb3 (Memref.isWhole_whole _) tb4 (Memref.isWhole_whole _) tb5 (Memref.isWhole_whole _) tb6 (Memref.isWhole_whole _) arg8 harg8 arg9 harg9 arg10 harg10 arg11 harg11 arg12 harg12 arg13 harg13 arg14 harg14 arg15 harg15 arg16 harg16 arg17 harg17 acc0 (Memref.isWhole_whole _)) K := by
  unfold owns
  unfold isStart at k0_h1
  unfold isLive word1 at k0_h2
  unfold isLast word2 at k0_h3
  rw [cc0__moe_kernel_eq_skeleton]; unfold cc0__moe_kernel_skel
  iintro ⟨H0, H1, H2, H3, H4, H5, H6, H7, H8, HT3, HT4, HT5, HT6, ⟨%d9, %f9, -, HO9⟩, HS0, Hk⟩
  have hS0 : acc0.IsWhole := Memref.isWhole_whole _
  have hT3 : tb3.IsWhole := Memref.isWhole_whole _
  have hT4 : tb4.IsWhole := Memref.isWhole_whole _
  have hT5 : tb5.IsWhole := Memref.isWhole_whole _
  have hT6 : tb6.IsWhole := Memref.isWhole_whole _
  sl_exec! (disch := first | sl_exact k0_h1 | sl_exact k0_h2 | sl_exact k0_h3)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HT3]; · iexact HT3
  isplitl [HT4]; · iexact HT4
  isplitl [HT5]; · iexact HT5
  isplitl [HT6]; · iexact HT6
  isplitl [HO9]
  · iexists _; isplitr; swap
    · iexact HO9
    · ipureintro
      delta run_B1.sl.HO9_1 run_B1.sl.v96 run_B1.sl.HS0_1 run_B1.sl.r_10 run_B1.sl.r_9 run_B1.sl.r_8 run_B1.sl.r_7 run_B1.sl.r_6 run_B1.sl.r_5 run_B1.sl.r_4 run_B1.sl.r_3 run_B1.sl.r_2 run_B1.sl.r_1 run_B1.sl.r run_B1.sl.v82
      refine (rd_wr arg17 _ _ _).trans ?_
      rw [rd_cov acc0]
      rw [rd_acc acc0]
      rw [rd_rows, rd_wtA, rd_wtB, rd_up arg9, rd_up arg10, rd_up arg12, rd_up arg13, rd_down arg11, rd_down arg14, rd_row arg15, rd_row arg16]
      rfl
  iapply pointsTo_rep_of_read (h := ?_)
  swap
  · iexact HS0
  · delta run_B1.sl.HS0_1 run_B1.sl.r_10 run_B1.sl.r_9 run_B1.sl.r_8 run_B1.sl.r_7 run_B1.sl.r_6 run_B1.sl.r_5 run_B1.sl.r_4 run_B1.sl.r_3 run_B1.sl.r_2 run_B1.sl.r_1 run_B1.sl.r run_B1.sl.v82
    refine (rd_wr acc0 _ _ _).trans ?_
    rw [rd_acc acc0]
    rw [rd_rows, rd_wtA, rd_wtB, rd_up arg9, rd_up arg10, rd_up arg12, rd_up arg13, rd_down arg11, rd_down arg14, rd_row arg15]
    rfl

set_option maxHeartbeats 8000000 in
/-- A later point, live and not its tile's last. -/
theorem run_B2 (c : Dev nD) (i : grid0.Coords) (arg8 : Memref sig .tc .vmem S256x1152 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x512x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S256x1024 .f32) (harg17 : arg17.IsWhole)
    (T3 T4 T5 T6 : S367.Idx → Elt F .i32) (x0 : S256x1152.Idx → Elt F .f32) (x1 : S1x1024x512.Idx → Elt F .bf16) (x2 : S1x1024x512.Idx → Elt F .bf16) (x3 : S1x512x1024.Idx → Elt F .bf16) (x4 : S1x1024x512.Idx → Elt F .bf16) (x5 : S1x1024x512.Idx → Elt F .bf16) (x6 : S1x512x1024.Idx → Elt F .bf16) (x7 : S1x1024.Idx → Elt F .f32) (x8 : S1x1024.Idx → Elt F .f32)
    (k0_h1 : ¬isStart i) (k0_h2 : isLive (F := F) T3 T4 i) (k0_h3 : ¬isLast (F := F) T6 i)
    (a : S256x1024.Idx → Elt F .f32) (d : S256x1024.Idx → Elt F .f32) (K : PUnit → sProp 𝕄) :
    iprop((arg8.view.loc (c : Thread nD τ) ↦[arg8.view.set]{fullShare} arg8.view.rep x0)
        ∗ (arg9.view.loc (c : Thread nD τ) ↦[arg9.view.set]{fullShare} arg9.view.rep x1)
        ∗ (arg10.view.loc (c : Thread nD τ) ↦[arg10.view.set]{fullShare} arg10.view.rep x2)
        ∗ (arg11.view.loc (c : Thread nD τ) ↦[arg11.view.set]{fullShare} arg11.view.rep x3)
        ∗ (arg12.view.loc (c : Thread nD τ) ↦[arg12.view.set]{fullShare} arg12.view.rep x4)
        ∗ (arg13.view.loc (c : Thread nD τ) ↦[arg13.view.set]{fullShare} arg13.view.rep x5)
        ∗ (arg14.view.loc (c : Thread nD τ) ↦[arg14.view.set]{fullShare} arg14.view.rep x6)
        ∗ (arg15.view.loc (c : Thread nD τ) ↦[arg15.view.set]{fullShare} arg15.view.rep x7)
        ∗ (arg16.view.loc (c : Thread nD τ) ↦[arg16.view.set]{fullShare} arg16.view.rep x8)
        ∗ (tb3.view.loc (c : Thread nD τ) ↦{fullShare.right} T3)
        ∗ (tb4.view.loc (c : Thread nD τ) ↦{fullShare.right} T4)
        ∗ (tb5.view.loc (c : Thread nD τ) ↦{fullShare.right} T5)
        ∗ (tb6.view.loc (c : Thread nD τ) ↦{fullShare.right} T6)
        ∗ owns (c : Thread nD τ) arg17 fullShare d
        ∗ (acc0.view.loc (c : Thread nD τ) ↦[acc0.view.set]{fullShare} acc0.view.rep a)
        ∗ (iprop((arg8.view.loc (c : Thread nD τ) ↦[arg8.view.set]{fullShare} arg8.view.rep x0)
            ∗ (arg9.view.loc (c : Thread nD τ) ↦[arg9.view.set]{fullShare} arg9.view.rep x1)
            ∗ (arg10.view.loc (c : Thread nD τ) ↦[arg10.view.set]{fullShare} arg10.view.rep x2)
            ∗ (arg11.view.loc (c : Thread nD τ) ↦[arg11.view.set]{fullShare} arg11.view.rep x3)
            ∗ (arg12.view.loc (c : Thread nD τ) ↦[arg12.view.set]{fullShare} arg12.view.rep x4)
            ∗ (arg13.view.loc (c : Thread nD τ) ↦[arg13.view.set]{fullShare} arg13.view.rep x5)
            ∗ (arg14.view.loc (c : Thread nD τ) ↦[arg14.view.set]{fullShare} arg14.view.rep x6)
            ∗ (arg15.view.loc (c : Thread nD τ) ↦[arg15.view.set]{fullShare} arg15.view.rep x7)
            ∗ (arg16.view.loc (c : Thread nD τ) ↦[arg16.view.set]{fullShare} arg16.view.rep x8)
            ∗ (tb3.view.loc (c : Thread nD τ) ↦{fullShare.right} T3)
            ∗ (tb4.view.loc (c : Thread nD τ) ↦{fullShare.right} T4)
            ∗ (tb5.view.loc (c : Thread nD τ) ↦{fullShare.right} T5)
            ∗ (tb6.view.loc (c : Thread nD τ) ↦{fullShare.right} T6)
            ∗ owns (c : Thread nD τ) arg17 fullShare d
            ∗ (acc0.view.loc (c : Thread nD τ) ↦[acc0.view.set]{fullShare} acc0.view.rep (k0_pay2 (F := F) (contrib x0 x1 x2 x3 x4 x5 x6 x7 (word1 (F := F) T3 i) (word1 (F := F) T4 i)) (firstBit (F := F) T5 i) a))) -∗ K ⟨⟩))
      ⊢ wp frame (wpE (defs₀ (F := F)) Variants.none c none) Set.univ (cc0__moe_kernel (F := F) i tb0 (Memref.isWhole_whole _) tb1 (Memref.isWhole_whole _) tb2 (Memref.isWhole_whole _) tb3 (Memref.isWhole_whole _) tb4 (Memref.isWhole_whole _) tb5 (Memref.isWhole_whole _) tb6 (Memref.isWhole_whole _) arg8 harg8 arg9 harg9 arg10 harg10 arg11 harg11 arg12 harg12 arg13 harg13 arg14 harg14 arg15 harg15 arg16 harg16 arg17 harg17 acc0 (Memref.isWhole_whole _)) K := by
  unfold owns
  unfold isStart at k0_h1
  unfold isLive word1 at k0_h2
  unfold isLast word2 at k0_h3
  rw [cc0__moe_kernel_eq_skeleton]; unfold cc0__moe_kernel_skel
  iintro ⟨H0, H1, H2, H3, H4, H5, H6, H7, H8, HT3, HT4, HT5, HT6, ⟨%f9, %hf9, HO9⟩, HS0, Hk⟩
  have hS0 : acc0.IsWhole := Memref.isWhole_whole _
  have hT3 : tb3.IsWhole := Memref.isWhole_whole _
  have hT4 : tb4.IsWhole := Memref.isWhole_whole _
  have hT5 : tb5.IsWhole := Memref.isWhole_whole _
  have hT6 : tb6.IsWhole := Memref.isWhole_whole _
  sl_exec! (disch := first | sl_exact k0_h1 | sl_exact k0_h2 | sl_exact k0_h3)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HT3]; · iexact HT3
  isplitl [HT4]; · iexact HT4
  isplitl [HT5]; · iexact HT5
  isplitl [HT6]; · iexact HT6
  isplitl [HO9]
  · iexists f9; isplitr; swap
    · iexact HO9
    · ipureintro; exact hf9
  iapply pointsTo_rep_of_read (h := ?_)
  swap
  · iexact HS0
  · delta run_B2.sl.HS0_1 run_B2.sl.r_10 run_B2.sl.r_9 run_B2.sl.r_8 run_B2.sl.r_7 run_B2.sl.r_6 run_B2.sl.r_5 run_B2.sl.r_4 run_B2.sl.r_3 run_B2.sl.r_2 run_B2.sl.r_1 run_B2.sl.r run_B2.sl.v82
    refine (rd_wr acc0 _ _ _).trans ?_
    rw [rd_acc acc0]
    rw [rd_rows, rd_wtA, rd_wtB, rd_up arg9, rd_up arg10, rd_up arg12, rd_up arg13, rd_down arg11, rd_down arg14, rd_row arg15]
    rfl

set_option maxHeartbeats 8000000 in
/-- A later point that is not live. -/
theorem run_C (c : Dev nD) (i : grid0.Coords) (arg8 : Memref sig .tc .vmem S256x1152 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x512x1024 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x512x1024 .bf16) (harg14 : arg14.IsWhole) (arg15 : Memref sig .tc .vmem S1x1024 .f32) (harg15 : arg15.IsWhole) (arg16 : Memref sig .tc .vmem S1x1024 .f32) (harg16 : arg16.IsWhole) (arg17 : Memref sig .tc .vmem S256x1024 .f32) (harg17 : arg17.IsWhole)
    (T3 T4 T5 T6 : S367.Idx → Elt F .i32) (x0 : S256x1152.Idx → Elt F .f32) (x1 : S1x1024x512.Idx → Elt F .bf16) (x2 : S1x1024x512.Idx → Elt F .bf16) (x3 : S1x512x1024.Idx → Elt F .bf16) (x4 : S1x1024x512.Idx → Elt F .bf16) (x5 : S1x1024x512.Idx → Elt F .bf16) (x6 : S1x512x1024.Idx → Elt F .bf16) (x7 : S1x1024.Idx → Elt F .f32) (x8 : S1x1024.Idx → Elt F .f32)
    (k0_h1 : ¬isStart i) (k0_h2 : ¬isLive (F := F) T3 T4 i)
    (a : S256x1024.Idx → Elt F .f32) (d : S256x1024.Idx → Elt F .f32) (K : PUnit → sProp 𝕄) :
    iprop((arg8.view.loc (c : Thread nD τ) ↦[arg8.view.set]{fullShare} arg8.view.rep x0)
        ∗ (arg9.view.loc (c : Thread nD τ) ↦[arg9.view.set]{fullShare} arg9.view.rep x1)
        ∗ (arg10.view.loc (c : Thread nD τ) ↦[arg10.view.set]{fullShare} arg10.view.rep x2)
        ∗ (arg11.view.loc (c : Thread nD τ) ↦[arg11.view.set]{fullShare} arg11.view.rep x3)
        ∗ (arg12.view.loc (c : Thread nD τ) ↦[arg12.view.set]{fullShare} arg12.view.rep x4)
        ∗ (arg13.view.loc (c : Thread nD τ) ↦[arg13.view.set]{fullShare} arg13.view.rep x5)
        ∗ (arg14.view.loc (c : Thread nD τ) ↦[arg14.view.set]{fullShare} arg14.view.rep x6)
        ∗ (arg15.view.loc (c : Thread nD τ) ↦[arg15.view.set]{fullShare} arg15.view.rep x7)
        ∗ (arg16.view.loc (c : Thread nD τ) ↦[arg16.view.set]{fullShare} arg16.view.rep x8)
        ∗ (tb3.view.loc (c : Thread nD τ) ↦{fullShare.right} T3)
        ∗ (tb4.view.loc (c : Thread nD τ) ↦{fullShare.right} T4)
        ∗ (tb5.view.loc (c : Thread nD τ) ↦{fullShare.right} T5)
        ∗ (tb6.view.loc (c : Thread nD τ) ↦{fullShare.right} T6)
        ∗ owns (c : Thread nD τ) arg17 fullShare d
        ∗ (acc0.view.loc (c : Thread nD τ) ↦[acc0.view.set]{fullShare} acc0.view.rep a)
        ∗ (iprop((arg8.view.loc (c : Thread nD τ) ↦[arg8.view.set]{fullShare} arg8.view.rep x0)
            ∗ (arg9.view.loc (c : Thread nD τ) ↦[arg9.view.set]{fullShare} arg9.view.rep x1)
            ∗ (arg10.view.loc (c : Thread nD τ) ↦[arg10.view.set]{fullShare} arg10.view.rep x2)
            ∗ (arg11.view.loc (c : Thread nD τ) ↦[arg11.view.set]{fullShare} arg11.view.rep x3)
            ∗ (arg12.view.loc (c : Thread nD τ) ↦[arg12.view.set]{fullShare} arg12.view.rep x4)
            ∗ (arg13.view.loc (c : Thread nD τ) ↦[arg13.view.set]{fullShare} arg13.view.rep x5)
            ∗ (arg14.view.loc (c : Thread nD τ) ↦[arg14.view.set]{fullShare} arg14.view.rep x6)
            ∗ (arg15.view.loc (c : Thread nD τ) ↦[arg15.view.set]{fullShare} arg15.view.rep x7)
            ∗ (arg16.view.loc (c : Thread nD τ) ↦[arg16.view.set]{fullShare} arg16.view.rep x8)
            ∗ (tb3.view.loc (c : Thread nD τ) ↦{fullShare.right} T3)
            ∗ (tb4.view.loc (c : Thread nD τ) ↦{fullShare.right} T4)
            ∗ (tb5.view.loc (c : Thread nD τ) ↦{fullShare.right} T5)
            ∗ (tb6.view.loc (c : Thread nD τ) ↦{fullShare.right} T6)
            ∗ owns (c : Thread nD τ) arg17 fullShare d
            ∗ (acc0.view.loc (c : Thread nD τ) ↦[acc0.view.set]{fullShare} acc0.view.rep a)) -∗ K ⟨⟩))
      ⊢ wp frame (wpE (defs₀ (F := F)) Variants.none c none) Set.univ (cc0__moe_kernel (F := F) i tb0 (Memref.isWhole_whole _) tb1 (Memref.isWhole_whole _) tb2 (Memref.isWhole_whole _) tb3 (Memref.isWhole_whole _) tb4 (Memref.isWhole_whole _) tb5 (Memref.isWhole_whole _) tb6 (Memref.isWhole_whole _) arg8 harg8 arg9 harg9 arg10 harg10 arg11 harg11 arg12 harg12 arg13 harg13 arg14 harg14 arg15 harg15 arg16 harg16 arg17 harg17 acc0 (Memref.isWhole_whole _)) K := by
  unfold owns
  unfold isStart at k0_h1
  unfold isLive word1 at k0_h2
  rw [cc0__moe_kernel_eq_skeleton]; unfold cc0__moe_kernel_skel
  iintro ⟨H0, H1, H2, H3, H4, H5, H6, H7, H8, HT3, HT4, HT5, HT6, ⟨%f9, %hf9, HO9⟩, HS0, Hk⟩
  have hS0 : acc0.IsWhole := Memref.isWhole_whole _
  have hT3 : tb3.IsWhole := Memref.isWhole_whole _
  have hT4 : tb4.IsWhole := Memref.isWhole_whole _
  have hT5 : tb5.IsWhole := Memref.isWhole_whole _
  have hT6 : tb6.IsWhole := Memref.isWhole_whole _
  sl_exec! (disch := first | sl_exact k0_h1 | sl_exact k0_h2)
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HT3]; · iexact HT3
  isplitl [HT4]; · iexact HT4
  isplitl [HT5]; · iexact HT5
  isplitl [HT6]; · iexact HT6
  isplitl [HO9]
  · iexists f9; isplitr; swap
    · iexact HO9
    · ipureintro; exact hf9
  iexact HS0

end Cert.Proof.Moe

end
-- ==== Proof.MBody.lean ====
/-
  The expert kernel's pipeline at any admissible tables: what its buffers hold point by point, and that
  its body keeps to that.
-/
module

public import proofs.«01_k».proof.Proof.MRun
public import Idealize.ShloMosaic.Lib.Pipeline.Frame
public import Idealize.ShloMosaic.Lib.Pipeline.ArrRel

@[expose] public section

set_option maxRecDepth 16384
set_option Elab.async false

noncomputable section

namespace Cert.Proof.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

/-- The propositions the proof speaks in. -/
local notation "𝕄" => MT nD τ sig Unit (Elt F) ℕ (UR sig nD τ) ℕ

/-! ## The grid -/

theorem crd_val : ∀ t : Fin grid0.N, (grid0.coords t 0).val = t.val := by decide +kernel

theorem start_word : ∀ n : Fin 367, (Scalar.cmpi .ne (Scalar.extui (Scalar.cmpi .eq (BitVec.ofNat 32 n.val) 0#32)) 0#32 = 1#1) ↔ n.val = 0 := by
  decide +kernel

theorem isStart_iff (i : grid0.Coords) : isStart i ↔ (i 0).val = 0 := start_word ⟨(i 0).val, (i 0).isLt⟩

variable (a : (pcfg0 (F := F)).Adm) (V : (c : Dev nD) → (b : Ref sig .tc) → Buf (Elt F) ((c : Thread nD τ).loc b)) (c : Dev nD)

/-- The pipeline at the tables. -/
abbrev cfgA : Cfg sig Λ₀ := cfg0 a

abbrev crd (t : Fin (cfgA a).N) : grid0.Coords := (cfgA a).grid.coords t

/-- Each window's staging memref at a point, and its wholeness. -/
abbrev ms0 (t : Fin (cfgA a).N) : Memref sig .tc .vmem S256x1152 .f32 := spec0_0.stage ((cfgA a).slots t (0 : Fin 10))
abbrev hs0 (t : Fin (cfgA a).N) : (ms0 a t).IsWhole := hstage0_0 (((cfgA a).slots t (0 : Fin 10)).cast nbuf0_0)
abbrev ms1 (t : Fin (cfgA a).N) : Memref sig .tc .vmem S1x1024x512 .bf16 := spec0_1.stage ((cfgA a).slots t (1 : Fin 10))
abbrev hs1 (t : Fin (cfgA a).N) : (ms1 a t).IsWhole := hstage0_1 (((cfgA a).slots t (1 : Fin 10)).cast nbuf0_1)
abbrev ms2 (t : Fin (cfgA a).N) : Memref sig .tc .vmem S1x1024x512 .bf16 := spec0_2.stage ((cfgA a).slots t (2 : Fin 10))
abbrev hs2 (t : Fin (cfgA a).N) : (ms2 a t).IsWhole := hstage0_2 (((cfgA a).slots t (2 : Fin 10)).cast nbuf0_2)
abbrev ms3 (t : Fin (cfgA a).N) : Memref sig .tc .vmem S1x512x1024 .bf16 := spec0_3.stage ((cfgA a).slots t (3 : Fin 10))
abbrev hs3 (t : Fin (cfgA a).N) : (ms3 a t).IsWhole := hstage0_3 (((cfgA a).slots t (3 : Fin 10)).cast nbuf0_3)
abbrev ms4 (t : Fin (cfgA a).N) : Memref sig .tc .vmem S1x1024x512 .bf16 := spec0_4.stage ((cfgA a).slots t (4 : Fin 10))
abbrev hs4 (t : Fin (cfgA a).N) : (ms4 a t).IsWhole := hstage0_4 (((cfgA a).slots t (4 : Fin 10)).cast nbuf0_4)
abbrev ms5 (t : Fin (cfgA a).N) : Memref sig .tc .vmem S1x1024x512 .bf16 := spec0_5.stage ((cfgA a).slots t (5 : Fin 10))
abbrev hs5 (t : Fin (cfgA a).N) : (ms5 a t).IsWhole := hstage0_5 (((cfgA a).slots t (5 : Fin 10)).cast nbuf0_5)
abbrev ms6 (t : Fin (cfgA a).N) : Memref sig .tc .vmem S1x512x1024 .bf16 := spec0_6.stage ((cfgA a).slots t (6 : Fin 10))
abbrev hs6 (t : Fin (cfgA a).N) : (ms6 a t).IsWhole := hstage0_6 (((cfgA a).slots t (6 : Fin 10)).cast nbuf0_6)
abbrev ms7 (t : Fin (cfgA a).N) : Memref sig .tc .vmem S1x1024 .f32 := spec0_7.stage ((cfgA a).slots t (7 : Fin 10))
abbrev hs7 (t : Fin (cfgA a).N) : (ms7 a t).IsWhole := hstage0_7 (((cfgA a).slots t (7 : Fin 10)).cast nbuf0_7)
abbrev ms8 (t : Fin (cfgA a).N) : Memref sig .tc .vmem S1x1024 .f32 := spec0_8.stage ((cfgA a).slots t (8 : Fin 10))
abbrev hs8 (t : Fin (cfgA a).N) : (ms8 a t).IsWhole := hstage0_8 (((cfgA a).slots t (8 : Fin 10)).cast nbuf0_8)
abbrev ms9 (t : Fin (cfgA a).N) : Memref sig .tc .vmem S256x1024 .f32 := spec0_9.stage ((cfgA a).slots t (9 : Fin 10))
abbrev hs9 (t : Fin (cfgA a).N) : (ms9 a t).IsWhole := hstage0_9 (((cfgA a).slots t (9 : Fin 10)).cast nbuf0_9)

/-- A window's block at a point, read off its array at the region's entry. -/
def iblk (w : Fin (cfgA a).W) (t : Fin (cfgA a).N) : (((cfgA a).win w).xblock (crd a t)).Idx → Elt F ((cfgA a).win w).elt :=
  (((cfgA a).win w).blk t).view.read (Elt F) (V c (Pipeline.arrRef spec0 w))

/-! ## The accumulator and the result's block, point by point -/

/-- What a point adds, at its blocks. -/
def addAt (t : Fin (cfgA a).N) : FVec F S256x1024 .f32 :=
  contrib (iblk a V c (0 : Fin 10) t) (iblk a V c (1 : Fin 10) t) (iblk a V c (2 : Fin 10) t) (iblk a V c (3 : Fin 10) t)
    (iblk a V c (4 : Fin 10) t) (iblk a V c (5 : Fin 10) t) (iblk a V c (6 : Fin 10) t) (iblk a V c (7 : Fin 10) t)
    (word1 (F := F) (a.1 3) (crd a t)) (word1 (F := F) (a.1 4) (crd a t))

open Classical in
/-- The accumulator after a point, from before it. -/
def stepAcc (t : Fin (cfgA a).N) (prev : S256x1024.Idx → Elt F .f32) : S256x1024.Idx → Elt F .f32 :=
  if isLive (F := F) (a.1 3) (a.1 4) (crd a t) then
    k0_pay2 (F := F) (addAt a V c t) (firstBit (F := F) (a.1 5) (crd a t)) (if isStart (crd a t) then k0_pay1 (F := F) else prev)
  else if isStart (crd a t) then k0_pay1 (F := F) else prev

/-- The accumulator before point `n`. -/
def accAt : ℕ → S256x1024.Idx → Elt F .f32
  | 0 => k0_pay1 (F := F)
  | n + 1 => if h : n < (cfgA a).N then stepAcc a V c ⟨n, h⟩ (accAt n) else accAt n

theorem accAt_succ (t : Fin (cfgA a).N) : accAt a V c (t.val + 1) = stepAcc a V c t (accAt a V c t.val) := by
  show (if h : t.val < (cfgA a).N then stepAcc a V c ⟨t.val, h⟩ (accAt a V c t.val) else accAt a V c t.val) = _
  rw [dif_pos t.isLt]

/-- Whether a point stores the result's block, and what it stores there. -/
def stores (t : Fin (cfgA a).N) : Prop :=
  isLive (F := F) (a.1 3) (a.1 4) (crd a t) ∧ isLast (F := F) (a.1 6) (crd a t)

def outAt (t : Fin (cfgA a).N) : S256x1024.Idx → Elt F .f32 :=
  k0_pay3 (F := F) (rowsOf (iblk a V c (0 : Fin 10) t)) (accAt a V c (t.val + 1)) (iblk a V c (8 : Fin 10) t)

open Classical in
/-- What a point leaves in the result's block, given what it found there. -/
def outRel (t : Fin (cfgA a).N) (Y X : S256x1024.Idx → Elt F .f32) : Prop :=
  X = if stores a t then outAt a V c t else Y

/-- What holds before each point: the accumulator as computed (anything before the first), the tables, the generator. -/
def Phi (t : Fin ((cfgA a).N + 1)) : sProp 𝕄 :=
  iprop((∃ v, ⌜t.val ≠ 0 → v = accAt a V c t.val⌝ ∗ (acc0.view.loc (c : Thread nD τ) ↦[acc0.view.set]{fullShare} acc0.view.rep v))
    ∗ (tb0.view.loc (c : Thread nD τ) ↦{fullShare.right} a.1 0)
    ∗ (tb1.view.loc (c : Thread nD τ) ↦{fullShare.right} a.1 1)
    ∗ (tb2.view.loc (c : Thread nD τ) ↦{fullShare.right} a.1 2)
    ∗ (tb3.view.loc (c : Thread nD τ) ↦{fullShare.right} a.1 3)
    ∗ (tb4.view.loc (c : Thread nD τ) ↦{fullShare.right} a.1 4)
    ∗ (tb5.view.loc (c : Thread nD τ) ↦{fullShare.right} a.1 5)
    ∗ (tb6.view.loc (c : Thread nD τ) ↦{fullShare.right} a.1 6)
    ∗ ∃ r, prngReg c r)

/-- The proof data of the pipeline on a core. -/
def rdat : RDat τ (Elt F) Unit ℕ (UR sig nD τ) ℕ (cfgA a) c where
  A w := V c (Pipeline.arrRef spec0 w)
  after w t := match w with
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
    | ⟨6, _⟩ => fun Y X => X = Y
    | ⟨7, _⟩ => fun Y X => X = Y
    | ⟨8, _⟩ => fun Y X => X = Y
    | ⟨9, _⟩ => outRel a V c t
  Φ t := Phi a V c t
  q := Pipeline.shareOf spec0
  owed _ := 0

/-! ## What each window's buffer holds when the body runs -/

theorem finds0 (t : Fin (cfgA a).N) (Y) (h : (rdat a V c).Finds (0 : Fin 10) t Y) : Y = iblk a V c (0 : Fin 10) t := by
  obtain ⟨d, rfl⟩ := (rdat a V c).finds_in_eq_fetched (0 : Fin 10) rfl (fun _ _ _ => rfl) (fun _ _ _ h => h) t Y h
  unfold RDat.fetched RDat.blockOf iblk; rfl

theorem finds1 (t : Fin (cfgA a).N) (Y) (h : (rdat a V c).Finds (1 : Fin 10) t Y) : Y = iblk a V c (1 : Fin 10) t := by
  obtain ⟨d, rfl⟩ := (rdat a V c).finds_in_eq_fetched (1 : Fin 10) rfl (fun _ _ _ => rfl) (fun _ _ _ h => h) t Y h
  unfold RDat.fetched RDat.blockOf iblk; rfl

theorem finds2 (t : Fin (cfgA a).N) (Y) (h : (rdat a V c).Finds (2 : Fin 10) t Y) : Y = iblk a V c (2 : Fin 10) t := by
  obtain ⟨d, rfl⟩ := (rdat a V c).finds_in_eq_fetched (2 : Fin 10) rfl (fun _ _ _ => rfl) (fun _ _ _ h => h) t Y h
  unfold RDat.fetched RDat.blockOf iblk; rfl

theorem finds3 (t : Fin (cfgA a).N) (Y) (h : (rdat a V c).Finds (3 : Fin 10) t Y) : Y = iblk a V c (3 : Fin 10) t := by
  obtain ⟨d, rfl⟩ := (rdat a V c).finds_in_eq_fetched (3 : Fin 10) rfl (fun _ _ _ => rfl) (fun _ _ _ h => h) t Y h
  unfold RDat.fetched RDat.blockOf iblk; rfl

theorem finds4 (t : Fin (cfgA a).N) (Y) (h : (rdat a V c).Finds (4 : Fin 10) t Y) : Y = iblk a V c (4 : Fin 10) t := by
  obtain ⟨d, rfl⟩ := (rdat a V c).finds_in_eq_fetched (4 : Fin 10) rfl (fun _ _ _ => rfl) (fun _ _ _ h => h) t Y h
  unfold RDat.fetched RDat.blockOf iblk; rfl

theorem finds5 (t : Fin (cfgA a).N) (Y) (h : (rdat a V c).Finds (5 : Fin 10) t Y) : Y = iblk a V c (5 : Fin 10) t := by
  obtain ⟨d, rfl⟩ := (rdat a V c).finds_in_eq_fetched (5 : Fin 10) rfl (fun _ _ _ => rfl) (fun _ _ _ h => h) t Y h
  unfold RDat.fetched RDat.blockOf iblk; rfl

theorem finds6 (t : Fin (cfgA a).N) (Y) (h : (rdat a V c).Finds (6 : Fin 10) t Y) : Y = iblk a V c (6 : Fin 10) t := by
  obtain ⟨d, rfl⟩ := (rdat a V c).finds_in_eq_fetched (6 : Fin 10) rfl (fun _ _ _ => rfl) (fun _ _ _ h => h) t Y h
  unfold RDat.fetched RDat.blockOf iblk; rfl

theorem finds7 (t : Fin (cfgA a).N) (Y) (h : (rdat a V c).Finds (7 : Fin 10) t Y) : Y = iblk a V c (7 : Fin 10) t := by
  obtain ⟨d, rfl⟩ := (rdat a V c).finds_in_eq_fetched (7 : Fin 10) rfl (fun _ _ _ => rfl) (fun _ _ _ h => h) t Y h
  unfold RDat.fetched RDat.blockOf iblk; rfl

theorem finds8 (t : Fin (cfgA a).N) (Y) (h : (rdat a V c).Finds (8 : Fin 10) t Y) : Y = iblk a V c (8 : Fin 10) t := by
  obtain ⟨d, rfl⟩ := (rdat a V c).finds_in_eq_fetched (8 : Fin 10) rfl (fun _ _ _ => rfl) (fun _ _ _ h => h) t Y h
  unfold RDat.fetched RDat.blockOf iblk; rfl

/-! ## The body at a point -/

/-- The body at a point on its staging memrefs. -/
abbrev bodyAt (t : Fin (cfgA a).N) : Prog (TpuEff nD τ sig (Elt F) Λ₀ .tc) PUnit :=
  cc0__moe_kernel (F := F) (crd a t) tb0 (Memref.isWhole_whole _) tb1 (Memref.isWhole_whole _) tb2 (Memref.isWhole_whole _) tb3 (Memref.isWhole_whole _) tb4 (Memref.isWhole_whole _) tb5 (Memref.isWhole_whole _) tb6 (Memref.isWhole_whole _)
    (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) acc0 (Memref.isWhole_whole _)

theorem acc_whole (f : Buf (Elt F) (acc0.view.loc (c : Thread nD τ))) :
    (acc0.view.loc (c : Thread nD τ) ↦{fullShare} f : sProp 𝕄) ⊢ acc0.view.loc (c : Thread nD τ) ↦[acc0.view.set]{fullShare} acc0.view.rep (acc0.view.read (Elt F) f) := by
  refine Entails.trans (Entails.of_eq ?_) (pointsTo_rep_of_read (c : Thread nD τ) acc0 f fullShare _ rfl)
  rw [(Memref.isWhole_whole cc0_scratch0).set_eq_univ]

set_option maxHeartbeats 4000000 in
/-- The body at a point, way by way. -/
theorem body_at (t : Fin (cfgA a).N) (Y9 : S256x1024.Idx → Elt F .f32) :
    iprop(Phi a V c t.castSucc
        ∗ owns (c : Thread nD τ) (ms0 a t) fullShare (iblk a V c (0 : Fin 10) t)
        ∗ owns (c : Thread nD τ) (ms1 a t) fullShare (iblk a V c (1 : Fin 10) t)
        ∗ owns (c : Thread nD τ) (ms2 a t) fullShare (iblk a V c (2 : Fin 10) t)
        ∗ owns (c : Thread nD τ) (ms3 a t) fullShare (iblk a V c (3 : Fin 10) t)
        ∗ owns (c : Thread nD τ) (ms4 a t) fullShare (iblk a V c (4 : Fin 10) t)
        ∗ owns (c : Thread nD τ) (ms5 a t) fullShare (iblk a V c (5 : Fin 10) t)
        ∗ owns (c : Thread nD τ) (ms6 a t) fullShare (iblk a V c (6 : Fin 10) t)
        ∗ owns (c : Thread nD τ) (ms7 a t) fullShare (iblk a V c (7 : Fin 10) t)
        ∗ owns (c : Thread nD τ) (ms8 a t) fullShare (iblk a V c (8 : Fin 10) t)
        ∗ owns (c : Thread nD τ) (ms9 a t) fullShare Y9)
      ⊢ wp frame (wpE (defs₀ (F := F)) Variants.none c none) Set.univ (bodyAt a t) fun _ =>
        iprop(Phi a V c t.succ
          ∗ owns (c : Thread nD τ) (ms0 a t) fullShare (iblk a V c (0 : Fin 10) t)
        ∗ owns (c : Thread nD τ) (ms1 a t) fullShare (iblk a V c (1 : Fin 10) t)
        ∗ owns (c : Thread nD τ) (ms2 a t) fullShare (iblk a V c (2 : Fin 10) t)
        ∗ owns (c : Thread nD τ) (ms3 a t) fullShare (iblk a V c (3 : Fin 10) t)
        ∗ owns (c : Thread nD τ) (ms4 a t) fullShare (iblk a V c (4 : Fin 10) t)
        ∗ owns (c : Thread nD τ) (ms5 a t) fullShare (iblk a V c (5 : Fin 10) t)
        ∗ owns (c : Thread nD τ) (ms6 a t) fullShare (iblk a V c (6 : Fin 10) t)
        ∗ owns (c : Thread nD τ) (ms7 a t) fullShare (iblk a V c (7 : Fin 10) t)
        ∗ owns (c : Thread nD τ) (ms8 a t) fullShare (iblk a V c (8 : Fin 10) t)
          ∗ ∃ X, ⌜outRel a V c t Y9 X⌝ ∗ owns (c : Thread nD τ) (ms9 a t) fullShare X) := by
  unfold Phi
  iintro ⟨⟨⟨%v, %hv, HS⟩, HT0, HT1, HT2, HT3, HT4, HT5, HT6, Hr⟩, H0, H1, H2, H3, H4, H5, H6, H7, H8, H9⟩
  have hacc := accAt_succ a V c t
  unfold stepAcc addAt at hacc
  by_cases q1 : isStart (crd a t)
  · by_cases q2 : isLive (F := F) (a.1 3) (a.1 4) (crd a t)
    · by_cases q3 : isLast (F := F) (a.1 6) (crd a t)
      · clear hv
        rw [if_pos q2, if_pos q1] at hacc
        iapply (run_A1 c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (a.1 3) (a.1 4) (a.1 5) (a.1 6) (iblk a V c (0 : Fin 10) t) (iblk a V c (1 : Fin 10) t) (iblk a V c (2 : Fin 10) t) (iblk a V c (3 : Fin 10) t) (iblk a V c (4 : Fin 10) t) (iblk a V c (5 : Fin 10) t) (iblk a V c (6 : Fin 10) t) (iblk a V c (7 : Fin 10) t) (iblk a V c (8 : Fin 10) t) q1 q2 q3 v _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        isplitl [H7]; · iapply rep_of_owns; iexact H7
        isplitl [H8]; · iapply rep_of_owns; iexact H8
        isplitl [HT3]; · iexact HT3
        isplitl [HT4]; · iexact HT4
        isplitl [HT5]; · iexact HT5
        isplitl [HT6]; · iexact HT6
        isplitl [H9]; · iexists Y9; iexact H9
        isplitl [HS]; · iexact HS
        iintro ⟨H0, H1, H2, H3, H4, H5, H6, H7, H8, HT3, HT4, HT5, HT6, H9, HS⟩
        isplitl [HS HT0 HT1 HT2 HT3 HT4 HT5 HT6 Hr]
        · isplitl [HS]
          · iexists _; isplitr; swap
            · iexact HS
            · ipureintro; intro _; exact hacc.symm
          isplitl [HT0]; · iexact HT0
          isplitl [HT1]; · iexact HT1
          isplitl [HT2]; · iexact HT2
          isplitl [HT3]; · iexact HT3
          isplitl [HT4]; · iexact HT4
          isplitl [HT5]; · iexact HT5
          isplitl [HT6]; · iexact HT6
          iexact Hr
        isplitl [H0]; · iapply owns_of_rep; iexact H0
        isplitl [H1]; · iapply owns_of_rep; iexact H1
        isplitl [H2]; · iapply owns_of_rep; iexact H2
        isplitl [H3]; · iapply owns_of_rep; iexact H3
        isplitl [H4]; · iapply owns_of_rep; iexact H4
        isplitl [H5]; · iapply owns_of_rep; iexact H5
        isplitl [H6]; · iapply owns_of_rep; iexact H6
        isplitl [H7]; · iapply owns_of_rep; iexact H7
        isplitl [H8]; · iapply owns_of_rep; iexact H8
        iexists _; isplitr; swap
        · iexact H9
        · ipureintro
          unfold outRel outAt
          rw [if_pos ⟨q2, q3⟩, hacc]
      · clear hv
        rw [if_pos q2, if_pos q1] at hacc
        iapply (run_A2 c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (a.1 3) (a.1 4) (a.1 5) (a.1 6) (iblk a V c (0 : Fin 10) t) (iblk a V c (1 : Fin 10) t) (iblk a V c (2 : Fin 10) t) (iblk a V c (3 : Fin 10) t) (iblk a V c (4 : Fin 10) t) (iblk a V c (5 : Fin 10) t) (iblk a V c (6 : Fin 10) t) (iblk a V c (7 : Fin 10) t) (iblk a V c (8 : Fin 10) t) q1 q2 q3 v Y9 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        isplitl [H7]; · iapply rep_of_owns; iexact H7
        isplitl [H8]; · iapply rep_of_owns; iexact H8
        isplitl [HT3]; · iexact HT3
        isplitl [HT4]; · iexact HT4
        isplitl [HT5]; · iexact HT5
        isplitl [HT6]; · iexact HT6
        isplitl [H9]; · iexact H9
        isplitl [HS]; · iexact HS
        iintro ⟨H0, H1, H2, H3, H4, H5, H6, H7, H8, HT3, HT4, HT5, HT6, H9, HS⟩
        isplitl [HS HT0 HT1 HT2 HT3 HT4 HT5 HT6 Hr]
        · isplitl [HS]
          · iexists _; isplitr; swap
            · iexact HS
            · ipureintro; intro _; exact hacc.symm
          isplitl [HT0]; · iexact HT0
          isplitl [HT1]; · iexact HT1
          isplitl [HT2]; · iexact HT2
          isplitl [HT3]; · iexact HT3
          isplitl [HT4]; · iexact HT4
          isplitl [HT5]; · iexact HT5
          isplitl [HT6]; · iexact HT6
          iexact Hr
        isplitl [H0]; · iapply owns_of_rep; iexact H0
        isplitl [H1]; · iapply owns_of_rep; iexact H1
        isplitl [H2]; · iapply owns_of_rep; iexact H2
        isplitl [H3]; · iapply owns_of_rep; iexact H3
        isplitl [H4]; · iapply owns_of_rep; iexact H4
        isplitl [H5]; · iapply owns_of_rep; iexact H5
        isplitl [H6]; · iapply owns_of_rep; iexact H6
        isplitl [H7]; · iapply owns_of_rep; iexact H7
        isplitl [H8]; · iapply owns_of_rep; iexact H8
        iexists _; isplitr; swap
        · iexact H9
        · ipureintro
          unfold outRel
          rw [if_neg (fun h => q3 h.2)]
    · clear hv
      rw [if_neg q2, if_pos q1] at hacc
      iapply (run_A3 c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (a.1 3) (a.1 4) (a.1 5) (a.1 6) (iblk a V c (0 : Fin 10) t) (iblk a V c (1 : Fin 10) t) (iblk a V c (2 : Fin 10) t) (iblk a V c (3 : Fin 10) t) (iblk a V c (4 : Fin 10) t) (iblk a V c (5 : Fin 10) t) (iblk a V c (6 : Fin 10) t) (iblk a V c (7 : Fin 10) t) (iblk a V c (8 : Fin 10) t) q1 q2 v Y9 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [H8]; · iapply rep_of_owns; iexact H8
      isplitl [HT3]; · iexact HT3
      isplitl [HT4]; · iexact HT4
      isplitl [HT5]; · iexact HT5
      isplitl [HT6]; · iexact HT6
      isplitl [H9]; · iexact H9
      isplitl [HS]; · iexact HS
      iintro ⟨H0, H1, H2, H3, H4, H5, H6, H7, H8, HT3, HT4, HT5, HT6, H9, HS⟩
      isplitl [HS HT0 HT1 HT2 HT3 HT4 HT5 HT6 Hr]
      · isplitl [HS]
        · iexists _; isplitr; swap
          · iexact HS
          · ipureintro; intro _; exact hacc.symm
        isplitl [HT0]; · iexact HT0
        isplitl [HT1]; · iexact HT1
        isplitl [HT2]; · iexact HT2
        isplitl [HT3]; · iexact HT3
        isplitl [HT4]; · iexact HT4
        isplitl [HT5]; · iexact HT5
        isplitl [HT6]; · iexact HT6
        iexact Hr
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iapply owns_of_rep; iexact H7
      isplitl [H8]; · iapply owns_of_rep; iexact H8
      iexists _; isplitr; swap
      · iexact H9
      · ipureintro
        unfold outRel
        rw [if_neg (fun h => q2 h.1)]
  · by_cases q2 : isLive (F := F) (a.1 3) (a.1 4) (crd a t)
    · by_cases q3 : isLast (F := F) (a.1 6) (crd a t)
      · skip
        rw [if_pos q2, if_neg q1] at hacc
        obtain rfl := hv (fun h => q1 ((isStart_iff _).2 ((crd_val t).trans h)))
        iapply (run_B1 c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (a.1 3) (a.1 4) (a.1 5) (a.1 6) (iblk a V c (0 : Fin 10) t) (iblk a V c (1 : Fin 10) t) (iblk a V c (2 : Fin 10) t) (iblk a V c (3 : Fin 10) t) (iblk a V c (4 : Fin 10) t) (iblk a V c (5 : Fin 10) t) (iblk a V c (6 : Fin 10) t) (iblk a V c (7 : Fin 10) t) (iblk a V c (8 : Fin 10) t) q1 q2 q3 (accAt a V c t.val) _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        isplitl [H7]; · iapply rep_of_owns; iexact H7
        isplitl [H8]; · iapply rep_of_owns; iexact H8
        isplitl [HT3]; · iexact HT3
        isplitl [HT4]; · iexact HT4
        isplitl [HT5]; · iexact HT5
        isplitl [HT6]; · iexact HT6
        isplitl [H9]; · iexists Y9; iexact H9
        isplitl [HS]; · iexact HS
        iintro ⟨H0, H1, H2, H3, H4, H5, H6, H7, H8, HT3, HT4, HT5, HT6, H9, HS⟩
        isplitl [HS HT0 HT1 HT2 HT3 HT4 HT5 HT6 Hr]
        · isplitl [HS]
          · iexists _; isplitr; swap
            · iexact HS
            · ipureintro; intro _; exact hacc.symm
          isplitl [HT0]; · iexact HT0
          isplitl [HT1]; · iexact HT1
          isplitl [HT2]; · iexact HT2
          isplitl [HT3]; · iexact HT3
          isplitl [HT4]; · iexact HT4
          isplitl [HT5]; · iexact HT5
          isplitl [HT6]; · iexact HT6
          iexact Hr
        isplitl [H0]; · iapply owns_of_rep; iexact H0
        isplitl [H1]; · iapply owns_of_rep; iexact H1
        isplitl [H2]; · iapply owns_of_rep; iexact H2
        isplitl [H3]; · iapply owns_of_rep; iexact H3
        isplitl [H4]; · iapply owns_of_rep; iexact H4
        isplitl [H5]; · iapply owns_of_rep; iexact H5
        isplitl [H6]; · iapply owns_of_rep; iexact H6
        isplitl [H7]; · iapply owns_of_rep; iexact H7
        isplitl [H8]; · iapply owns_of_rep; iexact H8
        iexists _; isplitr; swap
        · iexact H9
        · ipureintro
          unfold outRel outAt
          rw [if_pos ⟨q2, q3⟩, hacc]
      · skip
        rw [if_pos q2, if_neg q1] at hacc
        obtain rfl := hv (fun h => q1 ((isStart_iff _).2 ((crd_val t).trans h)))
        iapply (run_B2 c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (a.1 3) (a.1 4) (a.1 5) (a.1 6) (iblk a V c (0 : Fin 10) t) (iblk a V c (1 : Fin 10) t) (iblk a V c (2 : Fin 10) t) (iblk a V c (3 : Fin 10) t) (iblk a V c (4 : Fin 10) t) (iblk a V c (5 : Fin 10) t) (iblk a V c (6 : Fin 10) t) (iblk a V c (7 : Fin 10) t) (iblk a V c (8 : Fin 10) t) q1 q2 q3 (accAt a V c t.val) Y9 _)
        isplitl [H0]; · iapply rep_of_owns; iexact H0
        isplitl [H1]; · iapply rep_of_owns; iexact H1
        isplitl [H2]; · iapply rep_of_owns; iexact H2
        isplitl [H3]; · iapply rep_of_owns; iexact H3
        isplitl [H4]; · iapply rep_of_owns; iexact H4
        isplitl [H5]; · iapply rep_of_owns; iexact H5
        isplitl [H6]; · iapply rep_of_owns; iexact H6
        isplitl [H7]; · iapply rep_of_owns; iexact H7
        isplitl [H8]; · iapply rep_of_owns; iexact H8
        isplitl [HT3]; · iexact HT3
        isplitl [HT4]; · iexact HT4
        isplitl [HT5]; · iexact HT5
        isplitl [HT6]; · iexact HT6
        isplitl [H9]; · iexact H9
        isplitl [HS]; · iexact HS
        iintro ⟨H0, H1, H2, H3, H4, H5, H6, H7, H8, HT3, HT4, HT5, HT6, H9, HS⟩
        isplitl [HS HT0 HT1 HT2 HT3 HT4 HT5 HT6 Hr]
        · isplitl [HS]
          · iexists _; isplitr; swap
            · iexact HS
            · ipureintro; intro _; exact hacc.symm
          isplitl [HT0]; · iexact HT0
          isplitl [HT1]; · iexact HT1
          isplitl [HT2]; · iexact HT2
          isplitl [HT3]; · iexact HT3
          isplitl [HT4]; · iexact HT4
          isplitl [HT5]; · iexact HT5
          isplitl [HT6]; · iexact HT6
          iexact Hr
        isplitl [H0]; · iapply owns_of_rep; iexact H0
        isplitl [H1]; · iapply owns_of_rep; iexact H1
        isplitl [H2]; · iapply owns_of_rep; iexact H2
        isplitl [H3]; · iapply owns_of_rep; iexact H3
        isplitl [H4]; · iapply owns_of_rep; iexact H4
        isplitl [H5]; · iapply owns_of_rep; iexact H5
        isplitl [H6]; · iapply owns_of_rep; iexact H6
        isplitl [H7]; · iapply owns_of_rep; iexact H7
        isplitl [H8]; · iapply owns_of_rep; iexact H8
        iexists _; isplitr; swap
        · iexact H9
        · ipureintro
          unfold outRel
          rw [if_neg (fun h => q3 h.2)]
    · skip
      rw [if_neg q2, if_neg q1] at hacc
      obtain rfl := hv (fun h => q1 ((isStart_iff _).2 ((crd_val t).trans h)))
      iapply (run_C c (crd a t) (ms0 a t) (hs0 a t) (ms1 a t) (hs1 a t) (ms2 a t) (hs2 a t) (ms3 a t) (hs3 a t) (ms4 a t) (hs4 a t) (ms5 a t) (hs5 a t) (ms6 a t) (hs6 a t) (ms7 a t) (hs7 a t) (ms8 a t) (hs8 a t) (ms9 a t) (hs9 a t) (a.1 3) (a.1 4) (a.1 5) (a.1 6) (iblk a V c (0 : Fin 10) t) (iblk a V c (1 : Fin 10) t) (iblk a V c (2 : Fin 10) t) (iblk a V c (3 : Fin 10) t) (iblk a V c (4 : Fin 10) t) (iblk a V c (5 : Fin 10) t) (iblk a V c (6 : Fin 10) t) (iblk a V c (7 : Fin 10) t) (iblk a V c (8 : Fin 10) t) q1 q2 (accAt a V c t.val) Y9 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [H6]; · iapply rep_of_owns; iexact H6
      isplitl [H7]; · iapply rep_of_owns; iexact H7
      isplitl [H8]; · iapply rep_of_owns; iexact H8
      isplitl [HT3]; · iexact HT3
      isplitl [HT4]; · iexact HT4
      isplitl [HT5]; · iexact HT5
      isplitl [HT6]; · iexact HT6
      isplitl [H9]; · iexact H9
      isplitl [HS]; · iexact HS
      iintro ⟨H0, H1, H2, H3, H4, H5, H6, H7, H8, HT3, HT4, HT5, HT6, H9, HS⟩
      isplitl [HS HT0 HT1 HT2 HT3 HT4 HT5 HT6 Hr]
      · isplitl [HS]
        · iexists _; isplitr; swap
          · iexact HS
          · ipureintro; intro _; exact hacc.symm
        isplitl [HT0]; · iexact HT0
        isplitl [HT1]; · iexact HT1
        isplitl [HT2]; · iexact HT2
        isplitl [HT3]; · iexact HT3
        isplitl [HT4]; · iexact HT4
        isplitl [HT5]; · iexact HT5
        isplitl [HT6]; · iexact HT6
        iexact Hr
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]; · iapply owns_of_rep; iexact H6
      isplitl [H7]; · iapply owns_of_rep; iexact H7
      isplitl [H8]; · iapply owns_of_rep; iexact H8
      iexists _; isplitr; swap
      · iexact H9
      · ipureintro
        unfold outRel
        rw [if_neg (fun h => q2 h.1)]

set_option maxHeartbeats 4000000 in
/-- The body keeps to the proof data at every point. -/
theorem body_obligation : (rdat a V c).BodyObligation (defs₀ (F := F)) Variants.none () Set.univ := by
  intro t Y hY
  rw [bigSep_W0, bigSep_W0]
  rw [finds0 a V c t _ (hY (0 : Fin 10))]
  rw [finds1 a V c t _ (hY (1 : Fin 10))]
  rw [finds2 a V c t _ (hY (2 : Fin 10))]
  rw [finds3 a V c t _ (hY (3 : Fin 10))]
  rw [finds4 a V c t _ (hY (4 : Fin 10))]
  rw [finds5 a V c t _ (hY (5 : Fin 10))]
  rw [finds6 a V c t _ (hY (6 : Fin 10))]
  rw [finds7 a V c t _ (hY (7 : Fin 10))]
  rw [finds8 a V c t _ (hY (8 : Fin 10))]
  rewrite [show (rdat a V c).Φ t.succ = Phi a V c t.succ from rfl, show (rdat a V c).Φ t.castSucc = Phi a V c t.castSucc from rfl,
    show (rdat a V c).owesAt () t.succ = (rdat a V c).owesAt () t.castSucc from rfl]
  iintro ⟨HP, Ho, H0, H1, H2, H3, H4, H5, H6, H7, H8, H9⟩
  have hb := body_at a V c t (Y (9 : Fin 10))
  iapply wp_wand_r
  isplitr [Ho]
  · iapply hb
    isplitl [HP]; · iexact HP
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %u ⟨HP, H0, H1, H2, H3, H4, H5, H6, H7, H8, ⟨%X, %hX, H9⟩⟩
  isplitl [HP]; · iexact HP
  isplitl [Ho]; · iexact Ho
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H7]; · iexists _; isplitr; swap; (· iexact H7); ipureintro; rfl
  isplitl [H8]; · iexists _; isplitr; swap; (· iexact H8); ipureintro; rfl
  iexists X; isplitr; swap; (· iexact H9)
  ipureintro; exact hX

end Cert.Proof.Moe

end
-- ==== Proof.MTables.lean ====
/-
  What the precondition says of the tables, word by word.
-/
module

public import proofs.«01_k».proof.Pre_tables_of_segments
public import Idealize.ShloMosaic.Lib.ValueIdx
public import Idealize.ShloMosaic.Lib.Pipeline.Value

@[expose] public section

set_option maxRecDepth 16384

noncomputable section

namespace Cert.Proof.MoeTables

open Cert.Pre_tables_of_segments
open Idealize.ShloMosaic
open Idealize.ShloMosaic.ValueIdx

theorem and1 (a b : BitVec 1) : IntOp.andi a b = 1#1 ↔ a = 1#1 ∧ b = 1#1 := by revert a b; decide
theorem or1 (a b : BitVec 1) : IntOp.ori a b = 1#1 ↔ a = 1#1 ∨ b = 1#1 := by revert a b; decide
theorem eq1 (a b : BitVec 1) : IntOp.cmpi .eq a b = 1#1 ↔ (a = 1#1 ↔ b = 1#1) := by revert a b; decide
theorem bit (b : Bool) : BitVec.ofBool b = 1#1 ↔ b = true := by cases b <;> decide
theorem eq32 (a b : BitVec 32) : IntOp.cmpi .eq a b = 1#1 ↔ a = b := by
  show BitVec.ofBool (a == b) = 1#1 ↔ _
  rw [bit]; exact beq_iff_eq
theorem ne32 (a b : BitVec 32) : IntOp.cmpi .ne a b = 1#1 ↔ a ≠ b := by
  show BitVec.ofBool (a != b) = 1#1 ↔ _
  rw [bit]; exact bne_iff_ne
theorem slt32 (a b : BitVec 32) : IntOp.cmpi .slt a b = 1#1 ↔ a.toInt < b.toInt := by
  show BitVec.ofBool (a.slt b) = 1#1 ↔ _
  rw [bit, BitVec.slt_eq_decide, decide_eq_true_eq]
theorem sle32 (a b : BitVec 32) : IntOp.cmpi .sle a b = 1#1 ↔ a.toInt ≤ b.toInt := by
  show BitVec.ofBool (a.sle b) = 1#1 ↔ _
  rw [bit, BitVec.sle_eq_decide, decide_eq_true_eq]
theorem sge32 (a b : BitVec 32) : IntOp.cmpi .sge a b = 1#1 ↔ b.toInt ≤ a.toInt := by
  show BitVec.ofBool (b.sle a) = 1#1 ↔ _
  rw [bit, BitVec.sle_eq_decide, decide_eq_true_eq]

variable {α : Type}

theorem alongW (h1 : S367.BroadcastsInDim S367x1 ![0]) (h2 : S367x1.BroadcastsInDim S367x65536 ![0, 1]) (v : S367.Idx → α) (w : Fin 367) (r : Fin 65536) :
    broadcastInDim S367x65536 ![0, 1] h2 (broadcastInDim S367x1 ![0] h1 v) (ix2 w r) = v (ix1 w) :=
  congrArg v (funext fun a => Fin.ext (by obtain rfl : a = 0 := Subsingleton.elim _ _; rfl))
theorem alongR (h1 : S65536.BroadcastsInDim S1x65536 ![1]) (h2 : S1x65536.BroadcastsInDim S367x65536 ![0, 1]) (v : S65536.Idx → α) (w : Fin 367) (r : Fin 65536) :
    broadcastInDim S367x65536 ![0, 1] h2 (broadcastInDim S1x65536 ![1] h1 v) (ix2 w r) = v (ix1 r) :=
  congrArg v (funext fun a => Fin.ext (by obtain rfl : a = 0 := Subsingleton.elim _ _; rfl))
theorem everyW (h : S_.BroadcastsInDim S367 ![]) (n : BitVec 32) (i : S367.Idx) : broadcastInDim S367 ![] h (constantI S_ 32 n) i = n := rfl
theorem everyR (h : S_.BroadcastsInDim S65536 ![]) (n : BitVec 32) (i : S65536.Idx) : broadcastInDim S65536 ![] h (constantI S_ 32 n) i = n := rfl

/-- The position after `w`, the last one its own. -/
def nx (w : Fin 367) : Fin 367 := ⟨min (w.val + 1) 366, by omega⟩
/-- The position before `w`, the first one its own. -/
def pv (w : Fin 367) : Fin 367 := ⟨w.val - 1, by omega⟩

theorem shiftUp (s1 : S367.Slices ![1] S366) (s2 : S367.Slices ![366] S1) (hc : Shape.Concatenates [S366, S1] S367 0) (v : S367.Idx → α) (w : Fin 367) :
    concatenate S367 0 [⟨S366, extractStridedSlice S366 ![1] v s1⟩, ⟨S1, extractStridedSlice S1 ![366] v s2⟩] hc (ix1 w) = v (ix1 (nx w)) := by
  by_cases hw : w.val < 366
  · refine (concatenate_pair_apply_left (0 : Fin S367.rank) _ _ hc (ix1 w) rfl (ix1 (⟨w.val, hw⟩ : Fin 366) : S366.Idx) ?_).trans ?_
    · intro b; obtain rfl : b = 0 := Subsingleton.elim _ _; rfl
    · refine congrArg v (funext fun a => Fin.ext ?_)
      obtain rfl : a = 0 := Subsingleton.elim _ _
      show 1 + w.val = min (w.val + 1) 366
      omega
  · refine (concatenate_pair_apply_right (0 : Fin S367.rank) _ _ hc (ix1 w) rfl rfl (ix1 (⟨0, by omega⟩ : Fin 1) : S1.Idx) ?_ ?_).trans ?_
    · intro b hb; exact absurd (Subsingleton.elim _ _) hb
    · show 0 + 366 = w.val; omega
    · refine congrArg v (funext fun a => Fin.ext ?_)
      obtain rfl : a = 0 := Subsingleton.elim _ _
      show 366 + 0 = min (w.val + 1) 366
      omega

theorem shiftDown (s1 : S367.Slices ![0] S1) (s2 : S367.Slices ![0] S366) (hc : Shape.Concatenates [S1, S366] S367 0) (v : S367.Idx → α) (w : Fin 367) :
    concatenate S367 0 [⟨S1, extractStridedSlice S1 ![0] v s1⟩, ⟨S366, extractStridedSlice S366 ![0] v s2⟩] hc (ix1 w) = v (ix1 (pv w)) := by
  by_cases hw : w.val < 1
  · refine (concatenate_pair_apply_left (0 : Fin S367.rank) _ _ hc (ix1 w) rfl (ix1 (⟨w.val, hw⟩ : Fin 1) : S1.Idx) ?_).trans ?_
    · intro b; obtain rfl : b = 0 := Subsingleton.elim _ _; rfl
    · refine congrArg v (funext fun a => Fin.ext ?_)
      obtain rfl : a = 0 := Subsingleton.elim _ _
      show 0 + w.val = w.val - 1
      omega
  · refine (concatenate_pair_apply_right (0 : Fin S367.rank) _ _ hc (ix1 w) rfl rfl (ix1 (⟨w.val - 1, by omega⟩ : Fin 366) : S366.Idx) ?_ ?_).trans ?_
    · intro b hb; exact absurd (Subsingleton.elim _ _) hb
    · show w.val - 1 + 1 = w.val; omega
    · refine congrArg v (funext fun a => Fin.ext ?_)
      obtain rfl : a = 0 := Subsingleton.elim _ _
      show 0 + (w.val - 1) = w.val - 1
      omega

variable {F : FTy → Type} [FloatOps F] [Cert.Pre_tables_of_segments.Facts]

theorem andi_at {s : Shape} {n : Nat} (a b : IVec s n) (i : s.Idx) : andi a b i = IntOp.andi (a i) (b i) := rfl
theorem ori_at {s : Shape} {n : Nat} (a b : IVec s n) (i : s.Idx) : ori a b i = IntOp.ori (a i) (b i) := rfl
theorem noti_at {s : Shape} (a : IVec s 1) (i : s.Idx) : noti a i = 1#1 ↔ ¬ a i = 1#1 := by
  show ~~~(a i) = 1#1 ↔ _
  generalize (a i) = b; revert b; decide
theorem cmpi_at {s : Shape} {n : Nat} (p : CmpIPredicate) (a b : IVec s n) (i : s.Idx) : cmpi p a b i = IntOp.cmpi p (a i) (b i) := rfl
theorem addi_at {s : Shape} {n : Nat} (a b : IVec s n) (i : s.Idx) : addi a b i = a i + b i := rfl
theorem muli_at {s : Shape} {n : Nat} (a b : IVec s n) (i : s.Idx) : muli a b i = a i * b i := rfl
theorem select_at {s : Shape} {α : Type} (c : IVec s 1) (a b : s.Idx → α) (i : s.Idx) : select c a b i = if c i = 1#1 then a i else b i := rfl
theorem ite1 (p : Prop) [Decidable p] (a b : BitVec 1) : (if p then a else b) = 1#1 ↔ (p ∧ a = 1#1) ∨ (¬p ∧ b = 1#1) := by
  by_cases hp : p <;> simp [hp]
theorem iota_W (w : Fin 367) : iotaInDim S367 32 0 (ix1 w) = BitVec.ofNat 32 w.val := rfl
theorem iota_R (r : Fin 65536) : iotaInDim S65536 32 0 (ix1 r) = BitVec.ofNat 32 r.val := rfl

/-- A segment that holds rows. -/
def live (lo hi : S367.Idx → BitVec 32) (w : Fin 367) : Prop := (lo (ix1 w)).toInt < (hi (ix1 w)).toInt

/-- The tables' facts, in plain numbers. -/
structure Tables (seg : S65536.Idx → BitVec 32) (tile ea eb lo hi first last : S367.Idx → BitVec 32) : Prop where
  tile_lt : ∀ w : Fin 367, (tile (ix1 w)).toNat < 256
  ea_lt : ∀ w : Fin 367, (ea (ix1 w)).toNat < 32
  eb_lt : ∀ w : Fin 367, (eb (ix1 w)).toNat < 32
  ea_ne : ∀ w : Fin 367, ea (ix1 w) ≠ eb (ix1 w)
  lo_le : ∀ w : Fin 367, 0 ≤ (lo (ix1 w)).toInt ∧ (lo (ix1 w)).toInt ≤ 256
  hi_le : ∀ w : Fin 367, (hi (ix1 w)).toInt ≤ 256
  mono : ∀ w : Fin 367, (tile (ix1 w)).toNat ≤ (tile (ix1 (nx w))).toNat
  next : ∀ w : Fin 367, (live lo hi (nx w) ∧ live lo hi w) ∨ (¬ live lo hi (nx w) ∧ tile (ix1 w) = tile (ix1 (nx w)))
  first_iff : ∀ w : Fin 367, live lo hi w → (first (ix1 w) = 1#32 ↔ w.val = 0 ∨ tile (ix1 w) ≠ tile (ix1 (pv w)))
  last_or : ∀ w : Fin 367, live lo hi w → last (ix1 w) = 1#32 ∨ (w.val < 366 ∧ live lo hi (nx w) ∧ tile (ix1 w) = tile (ix1 (nx w)))
  seg_lt : ∀ r : Fin 65536, (seg (ix1 r)).toNat < 367
  inside : ∀ (w : Fin 367) (r : Fin 65536), ((tile (ix1 w)).toNat * 256 + (lo (ix1 w)).toInt ≤ r.val ∧ (r.val : ℤ) < (tile (ix1 w)).toNat * 256 + (hi (ix1 w)).toInt)
    ↔ (seg (ix1 r)).toNat = w.val

theorem small (v : BitVec 32) (n : Nat) (hn : n < 2 ^ 31) (h0 : 0 ≤ v.toInt) (h : v.toInt < n) : v.toNat < n := by
  rw [BitVec.toInt_eq_toNat_cond] at h0 h
  split at h <;> omega

theorem small_toInt (v : BitVec 32) (h : v.toNat < 2 ^ 31) : v.toInt = v.toNat := by
  rw [BitVec.toInt_eq_toNat_cond, if_pos (by omega)]

theorem place (t l : BitVec 32) (ht : t.toNat < 256) (hl : l.toInt ≤ 256) : (t * 256#32 + l).toInt = t.toNat * 256 + l.toInt := by
  have h1 : (t * 256#32).toNat = t.toNat * 256 := by
    rw [BitVec.toNat_mul]; show t.toNat * 256 % 2 ^ 32 = _; omega
  have e : (t * 256#32 + l).toNat = (t.toNat * 256 + l.toNat) % 2 ^ 32 := by rw [BitVec.toNat_add, h1]
  have hlt := l.isLt
  rw [BitVec.toInt_eq_toNat_cond] at hl ⊢
  rw [BitVec.toInt_eq_toNat_cond, e]
  split at hl <;> split <;> omega

theorem tables_of (seg : IVec S65536 32) (tile ea eb lo hi first last : IVec S367 32) (x8) (x9) (x10) (x11) (x12) (x13)
    (h : Cert.Pre_tables_of_segments.fn (F := F) seg tile ea eb lo hi first last x8 x9 x10 x11 x12 x13 = fun _ => 1#1) :
    Tables seg tile ea eb lo hi first last := by
  have key := fun (w : Fin 367) (r : Fin 65536) => by
    have e := congrFun h (ix2 w r)
    unfold fn fn_part1 fn_part2 fn_part3 fn_part4 fn_where at e
    dsimp only at e
    simp only [andi_at, cmpi_at, and1, eq1] at e
    obtain ⟨⟨e1, e2⟩, e3⟩ := e
    rw [alongW] at e1
    rw [alongR] at e2
    rw [alongR, alongW, alongR, alongW, alongW] at e3
    simp only [andi_at, ori_at, noti_at, cmpi_at, select_at, and1, or1, ite1, eq1] at e1 e2 e3
    repeat rw [everyW] at e1
    repeat rw [everyR] at e2
    repeat rw [shiftUp] at e1
    rw [shiftDown, iota_W] at e1
    rw [iota_R, iota_W] at e3
    simp only [addi_at, muli_at, cmpi_at] at e1 e3
    repeat rw [everyW] at e3
    simp only [eq32, ne32, slt32, sle32, sge32] at e1 e2 e3
    exact And.intro e1 (And.intro e2 e3)
  have r0 : Fin 65536 := ⟨0, by omega⟩
  have w0 : Fin 367 := ⟨0, by omega⟩
  have htile : ∀ w : Fin 367, (tile (ix1 w)).toNat < 256 := fun w => by
    obtain ⟨⟨⟨⟨⟨⟨⟨⟨⟨h1, h2⟩, -⟩, -⟩, -⟩, -⟩, -⟩, -⟩, -⟩, -⟩ := key w r0
    exact small _ 256 (by omega) h1 h2
  have hlo : ∀ w : Fin 367, 0 ≤ (lo (ix1 w)).toInt ∧ (lo (ix1 w)).toInt ≤ 256 := fun w => by
    obtain ⟨⟨⟨⟨⟨⟨⟨⟨-, h1⟩, h2⟩, -⟩, -⟩, -⟩, -⟩, -⟩, -⟩ := key w r0
    exact ⟨h1, h2⟩
  have hhi : ∀ w : Fin 367, (hi (ix1 w)).toInt ≤ 256 := fun w => by
    obtain ⟨⟨⟨⟨⟨⟨-, h1⟩, -⟩, -⟩, -⟩, -⟩, -⟩ := key w r0
    exact h1
  have hseg : ∀ r : Fin 65536, (seg (ix1 r)).toNat < 367 := fun r => by
    obtain ⟨-, ⟨h1, h2⟩, -⟩ := key w0 r
    exact small _ 367 (by omega) h1 h2
  refine ⟨htile, fun w => ?_, fun w => ?_, fun w => ?_, hlo, hhi, fun w => ?_, fun w => ?_, fun w hw => ?_, fun w hw => ?_, hseg, fun w r => ?_⟩
  · obtain ⟨⟨⟨⟨⟨-, ⟨⟨⟨h1, h2⟩, -⟩, -⟩, -⟩, -⟩, -⟩, -⟩, -⟩ := key w r0
    exact small _ 32 (by omega) h1 h2
  · obtain ⟨⟨⟨⟨⟨-, ⟨⟨-, h1⟩, h2⟩, -⟩, -⟩, -⟩, -⟩, -⟩ := key w r0
    exact small _ 32 (by omega) h1 h2
  · obtain ⟨⟨⟨⟨⟨-, -, h1⟩, -⟩, -⟩, -⟩, -⟩ := key w r0
    exact h1
  · obtain ⟨⟨⟨⟨-, h1, -⟩, -⟩, -⟩, -⟩ := key w r0
    rw [small_toInt _ (by have := htile w; omega), small_toInt _ (by have := htile (nx w); omega)] at h1
    exact_mod_cast h1
  · obtain ⟨⟨⟨⟨-, -, h1⟩, -⟩, -⟩, -⟩ := key w r0
    exact h1
  · obtain ⟨⟨⟨-, h1⟩, -⟩, -⟩ := key w r0
    refine (h1.resolve_left (not_not_intro hw)).trans (or_congr_left ?_)
    constructor
    · intro e
      have := congrArg BitVec.toNat e
      rw [BitVec.toNat_ofNat] at this
      have hwl := w.isLt
      have h0 : (0#32).toNat = 0 := rfl
      omega
    · intro e; rw [e]
  · obtain ⟨⟨-, h1⟩, -⟩ := key w r0
    rcases h1 with (h1 | h1) | ⟨⟨h1, h2⟩, h3⟩
    · exact absurd hw h1
    · exact .inl h1
    · refine .inr ⟨?_, h2, h3⟩
      have hwl := w.isLt
      have e : (BitVec.ofNat 32 w.val).toNat = w.val := by rw [BitVec.toNat_ofNat]; omega
      rw [small_toInt _ (by omega), e, show (366#32 : BitVec 32).toInt = 366 from rfl] at h1
      omega
  · obtain ⟨-, -, h1⟩ := key w r
    have hwl := w.isLt
    have hrl := r.isLt
    have e : (BitVec.ofNat 32 r.val).toNat = r.val := by rw [BitVec.toNat_ofNat]; omega
    rw [place _ _ (htile w) (hlo w).2, place _ _ (htile w) (hhi w), small_toInt (BitVec.ofNat 32 r.val) (by omega), e] at h1
    refine h1.trans ⟨fun h => ?_, fun h => ?_⟩
    · rw [h, BitVec.toNat_ofNat]; omega
    · rw [← h]; exact (BitVec.eq_of_toNat_eq (by rw [BitVec.toNat_ofNat]; have := (seg (ix1 r)).isLt; omega))

end Cert.Proof.MoeTables

end
-- ==== Proof.MLaunch.lean ====
/-
  The expert kernel's whole run: at tables in range it ends, leaves its arguments as they were, and its
  result as the proof data describe it.
-/
module

public import proofs.«01_k».proof.Proof.MBody
public import proofs.«01_k».proof.Proof.MTables

@[expose] public section

set_option maxRecDepth 16384
set_option Elab.async false

noncomputable section

namespace Cert.Proof.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (RDat Cfg Window)

variable {F : FTy → Type} [FloatOps F]

/-- The propositions the proof speaks in. -/
local notation "𝕄" => MT nD τ sig Unit (Elt F) ℕ (UR sig nD τ) ℕ

/-! ## Tables in range are admissible -/

/-- Every word of a table is below a bound. -/
def Below (n : ℕ) (T : S367.Idx → BitVec 32) : Prop := ∀ j, (T j).toNat < n

theorem blk2 (n b0 s1 : ℕ) (v : BitVec 32) (h : v.toNat < n) (a : Fin 2) :
    ((![v.toNat, (0#32).toNat] : Fin 2 → ℕ) a + 1) * (![b0, s1] : Fin 2 → ℕ) a ≤ (![n * b0, s1] : Fin 2 → ℕ) a := by
  match a with
  | 0 => exact Nat.mul_le_mul_right b0 h
  | 1 => exact le_of_eq (Nat.one_mul _)

theorem blk3 (n s1 s2 : ℕ) (v : BitVec 32) (h : v.toNat < n) (a : Fin 3) :
    ((![v.toNat, (0#32).toNat, (0#32).toNat] : Fin 3 → ℕ) a + 1) * (![1, s1, s2] : Fin 3 → ℕ) a ≤ (![n, s1, s2] : Fin 3 → ℕ) a := by
  match a with
  | 0 => exact (Nat.mul_one _).trans_le h
  | 1 => exact le_of_eq (Nat.one_mul _)
  | 2 => exact le_of_eq (Nat.one_mul _)

theorem ok_of (pf : pre0.Contents (Elt F)) (h0 : Below 256 (pf 0)) (h1 : Below 32 (pf 1)) (h2 : Below 32 (pf 2)) : ok0 (F := F) pf :=
  ⟨fun _ => ⟨fun a => blk2 256 256 1152 _ (h0 _) a, .inl rfl⟩,
    fun _ => ⟨fun a => blk3 32 1024 512 _ (h1 _) a, .inr (Affine.block_words_dvd (s := S32x1024x512) (p := EltTy.packing .bf16) (by decide) (by decide))⟩,
    fun _ => ⟨fun a => blk3 32 1024 512 _ (h1 _) a, .inr (Affine.block_words_dvd (s := S32x1024x512) (p := EltTy.packing .bf16) (by decide) (by decide))⟩,
    fun _ => ⟨fun a => blk3 32 512 1024 _ (h1 _) a, .inr (Affine.block_words_dvd (s := S32x512x1024) (p := EltTy.packing .bf16) (by decide) (by decide))⟩,
    fun _ => ⟨fun a => blk3 32 1024 512 _ (h2 _) a, .inr (Affine.block_words_dvd (s := S32x1024x512) (p := EltTy.packing .bf16) (by decide) (by decide))⟩,
    fun _ => ⟨fun a => blk3 32 1024 512 _ (h2 _) a, .inr (Affine.block_words_dvd (s := S32x1024x512) (p := EltTy.packing .bf16) (by decide) (by decide))⟩,
    fun _ => ⟨fun a => blk3 32 512 1024 _ (h2 _) a, .inr (Affine.block_words_dvd (s := S32x512x1024) (p := EltTy.packing .bf16) (by decide) (by decide))⟩,
    fun _ => ⟨fun a => blk2 256 256 1024 _ (h0 _) a, .inl rfl⟩⟩

/-! ## The memory the kernel starts from -/

variable (m : (ℓ : Loc nD τ sig) → Buf (Elt F) ℓ)

/-- The one device. -/
abbrev d0 : Dev nD := 0

/-- The tables' contents. -/
def pfOf : pre0.Contents (Elt F) := fun k => m ((d0 : Thread nD τ).loc (pre0.ref k))

/-- Tiles and experts the tables name exist. -/
structure InRange : Prop where
  tile : Below 256 (pfOf m 0)
  ea : Below 32 (pfOf m 1)
  eb : Below 32 (pfOf m 2)

variable (hr : InRange m)

def adm : (pcfg0 (F := F)).Adm := ⟨pfOf m, ok_of _ hr.tile hr.ea hr.eb⟩

/-- What every buffer holds when the call is reached. -/
def Vm (c : Dev nD) (b : Ref sig .tc) : Buf (Elt F) ((c : Thread nD τ).loc b) := StableHlo.after (hostOps0 (F := F)) (fun b => m (c, b)) b

theorem Vm_kept (c : Dev nD) (b : Ref sig .tc) (h : b ∉ [main_v0, main_v1, main_v2, main_v3]) : Vm m c b = m ((c : Thread nD τ).loc b) :=
  StableHlo.after_of_writes_sub _ _ (StableHlo.forall_writes_sub_of_map (W := [main_v0, main_v1, main_v2, main_v3]) rfl) h

theorem dev_eq (c : Dev nD) : c = d0 := Subsingleton.elim (α := Fin 1) c d0

theorem Vm_tables (c : Dev nD) (k : Fin 7) : Vm m c (pre0.ref k) = pfOf m k := by
  obtain rfl := dev_eq c
  refine Vm_kept m d0 (pre0.ref k) ?_
  revert k; decide

theorem prefHeld_eq (c : Dev nD) (q : Fin 7 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1) ∗ (((c : Thread nD τ).loc main_arg3) ↦{q 2} v 2)
        ∗ (((c : Thread nD τ).loc main_arg4) ↦{q 3} v 3) ∗ (((c : Thread nD τ).loc main_arg5) ↦{q 4} v 4) ∗ (((c : Thread nD τ).loc main_arg6) ↦{q 5} v 5)
        ∗ (((c : Thread nD τ).loc main_arg7) ↦{q 6} v 6)) := by
  unfold Pipeline.prefHeld
  rw [show (Finset.univ : Finset (Fin 7)) = insert (0 : Fin 7) (insert 1 (insert 2 (insert 3 (insert 4 (insert 5 {(6 : Fin 7)}))))) from by decide,
    bigSep_insert (by decide), bigSep_insert (by decide), bigSep_insert (by decide), bigSep_insert (by decide), bigSep_insert (by decide),
    bigSep_insert (by decide), bigSep_singleton]
  rfl

theorem acc_back (c : Dev nD) (v : S256x1024.Idx → Elt F .f32) :
    (acc0.view.loc (c : Thread nD τ) ↦[acc0.view.set]{fullShare} acc0.view.rep v : sProp 𝕄)
      ⊢ iprop(∃ f : Buf (Elt F) ((c : Thread nD τ).loc cc0_scratch0), ((c : Thread nD τ).loc cc0_scratch0) ↦{fullShare} f) := by
  rw [(Memref.isWhole_whole cc0_scratch0).set_eq_univ]
  iintro H; iexists _; iexact H

variable (a : (pcfg0 (F := F)).Adm) (V : (c : Dev nD) → (b : Ref sig .tc) → Buf (Elt F) ((c : Thread nD τ).loc b))

theorem phi_in (c : Dev nD) : iprop(Pipeline.ΦA (U := UR sig nD τ) spec0 c ∗ Pipeline.ΦT (U := UR sig nD τ) pre0 a.1 c) ⊢ (rdat a V c).Φ 0 := by
  unfold Pipeline.ΦA Pipeline.ΦT
  rw [prefHeld_eq, scopedRest0_eq, show (rdat a V c).Φ 0 = Phi a V c 0 from rfl]
  unfold Phi
  iintro ⟨⟨⟨%f, HS⟩, HR⟩, HT0, HT1, HT2, HT3, HT4, HT5, HT6⟩
  ihave HS := (acc_whole c f) $$ HS
  isplitl [HS]
  · iexists _; isplitr; swap; (· iexact HS); ipureintro; intro h; exact absurd rfl h
  isplitl [HT0]; · iexact HT0
  isplitl [HT1]; · iexact HT1
  isplitl [HT2]; · iexact HT2
  isplitl [HT3]; · iexact HT3
  isplitl [HT4]; · iexact HT4
  isplitl [HT5]; · iexact HT5
  isplitl [HT6]; · iexact HT6
  iexact HR

theorem phi_out (c : Dev nD) : (rdat a V c).Φ (Fin.last (cfgA a).N) ⊢ Pipeline.ΦA (U := UR sig nD τ) spec0 c := by
  unfold Pipeline.ΦA
  rw [scopedRest0_eq, show (rdat a V c).Φ (Fin.last (cfgA a).N) = Phi a V c (Fin.last (cfgA a).N) from rfl]
  unfold Phi
  iintro ⟨⟨%v, -, HS⟩, -, -, -, -, -, -, -, HR⟩
  isplitl [HS]
  · iapply acc_back; iexact HS
  iexact HR

/-! ## The run -/

set_option maxHeartbeats 4000000 in
theorem run_main [∀ e, Nonempty (Elt F e)] (g : Dev nD → PrngReg) :
    θ_run (defs (F := F)) (onTc (τ := τ) (main (F := F))) ⟨m, fun _ => 0, g⟩
      (fun r => RDat.FramePost (cfgA (adm m hr)) (rdat (adm m hr) (Vm m)) (Vm m) r ∧ r.2.sem = fun _ => 0) :=
  RDat.θ_run_frameP_track_shared (Q' := _) (pcfgs (F := F)) (fun _ => adm m hr) (0 : Fin 1) launch₀0 (defs₀ (F := F)) Variants.none
    (rdat (adm m hr) (Vm m)) m g main (fun c => body_obligation (adm m hr) (Vm m) c)
    (fun _ _ _ => rfl) (fun _ _ => rfl) (Vm m)
    (Pipeline.hmainP_prefix (pcfgs (F := F)) (0 : Fin 1) (defs₀ (F := F)) Variants.none m main hostOps0 hostOps0_sub ⟨rfl, rfl, rfl, rfl⟩ main_chain)
    (fun _ _ => rfl) (fun c k => Vm_tables m c k)
    (fun c => phi_in (adm m hr) (Vm m) c) (fun c => phi_out (adm m hr) (Vm m) c) (fun _ h => h)

end Cert.Proof.Moe

end
-- ==== Proof.MSame.lean ====
/-
  The expert kernel's program as printed for its own floats and as printed for the ideal ones: one text.
-/
module

public import proofs.«01_k».proof.Defs
public import proofs.«01_k».proof.Proof.Gen.Kernel2
public import proofs.«01_k».proof.Proof.Gen.Kernel2Ideal
public import Idealize.ShloMosaic.Adequacy

@[expose] public section

open Idealize.ShloMosaic Idealize.ShloMosaic.Pipeline Idealize.ShloMosaic.TcCoe
namespace Cert.Proof.Moe
variable {F : FTy → Type} [FloatOps F]

set_option maxHeartbeats 4000000
theorem tpcfg : (Cert.Kernel2.pcfgs (F := F)) = Cert.Kernel2Ideal.pcfgs (F := F) := rfl
theorem tmoe : (Cert.Kernel2.cc0__moe_kernel (F := F)) = Cert.Kernel2Ideal.cc0__moe_kernel (F := F) := rfl
theorem tbody : (Cert.Kernel2.defs₀ (F := F)) = Cert.Kernel2Ideal.defs₀ (F := F) := by
  delta Cert.Kernel2.defs₀ Cert.Kernel2Ideal.defs₀
  refine congrArg Defs.onTc ?_
  funext l a
  match l, a with
  | ⟨0, _⟩, (t, s) =>
    change Cert.Kernel2.cc0__moe_kernel (F := F) _ _ _ _ _ _ _ _ _ _ _ _ _ _ _ _ _ _ _ _ _ _ _ _ _ _ _ _ _ _ _ _ _ _ _ _ _ = _
    rw [tmoe]
    rfl
theorem tdefs : (Cert.Kernel2.defs (F := F)) = Cert.Kernel2Ideal.defs (F := F) :=
  congrArg (Pipeline.defs (Cert.Kernel2Ideal.pcfgs (F := F))) tbody
theorem tmain : (Cert.Kernel2.main (F := F)) = Cert.Kernel2Ideal.main (F := F) := rfl
theorem run_same (s : MemSt Cert.Kernel2Ideal.nD Cert.Kernel2Ideal.τ Cert.Kernel2Ideal.sig (Elt F)) (Q)
    (h : θ_run (Cert.Kernel2Ideal.defs (F := F)) (onTc (Cert.Kernel2Ideal.main (F := F))) s Q) :
    θ_run (Cert.Kernel2.defs (F := F)) (onTc (Cert.Kernel2.main (F := F))) s Q := by
  have e := congr (congrArg (fun d p => θ_run d p s Q) (tdefs (F := F))) (congrArg onTc (tmain (F := F)))
  exact e.mpr h
end Cert.Proof.Moe
end
-- ==== Proof.MFrames.lean ====
/-
  The expert kernel's frames at both readings, and its reference's.
-/
module

public import proofs.«01_k».proof.Defs
public import proofs.«01_k».proof.Proof.Gen.Kernel2
public import proofs.«01_k».proof.Proof.Gen.Reference2Ideal
public import proofs.«01_k».proof.Proof.Gen.Pre_tables_of_segments
public import proofs.«01_k».proof.Proof.MLaunch
public import proofs.«01_k».proof.Proof.MSame
public import Idealize.ShloMosaic.Adequacy
public import Idealize.ShloMosaic.Init
public import Idealize.ShloMosaic.Lib.Claim
public import Idealize.ShloMosaic.Lib.StableHlo.RunHlo

@[expose] public section

set_option maxRecDepth 16384
set_option Elab.async false

noncomputable section

namespace Cert.Proof.Moe

open Cert.Kernel2Ideal Cert.Kernel2Ideal.Gen
open Idealize.ShloMosaic Idealize.SL.Sem
open Idealize.ShloMosaic.TcCoe
open Idealize.ShloMosaic.ValueIdx
open Idealize.ShloMosaic.Pipeline (RDat)
open Cert.Proof.MoeTables (Tables tables_of)

variable {F : FTy → Type} [FloatOps F]

/-- The tables' facts of the memory the kernel starts from. -/
def TablesOf (m : (ℓ : Loc nD τ sig) → Buf (Elt F) ℓ) : Prop :=
  Tables (m ((d0 : Thread nD τ).loc main_arg0)) (pfOf m 0) (pfOf m 1) (pfOf m 2) (pfOf m 3) (pfOf m 4) (pfOf m 5) (pfOf m 6)

theorem below (n : ℕ) (T : S367.Idx → BitVec 32) (h : ∀ w : Fin 367, (T (ix1 w)).toNat < n) : Below n T := fun j => by
  rw [eq_ix1 j]; exact h (j 0)

theorem inRange_of {m : (ℓ : Loc nD τ sig) → Buf (Elt F) ℓ} (h : TablesOf m) : InRange m :=
  ⟨below _ _ h.tile_lt, below _ _ h.ea_lt, below _ _ h.eb_lt⟩

theorem tables_ideal {m : (ℓ : Loc nD τ sig) → Buf (Elt Ideal) ℓ} (h : Cert.Pre_Kernel2Ideal m) : TablesOf (F := Ideal) m :=
  tables_of (F := Ideal) _ _ _ _ _ _ _ _ _ _ _ _ _ _ (h d0)
theorem tables_bits {m : (ℓ : Loc Cert.Kernel2.nD Cert.Kernel2.τ Cert.Kernel2.sig) → Buf (Elt Bits) ℓ} (h : Cert.Pre_Kernel2 m) : TablesOf (F := Bits) m :=
  tables_of (F := Bits) _ _ _ _ _ _ _ _ _ _ _ _ _ _ (h d0)

/-- What a run leaves of an argument no window stages. -/
theorem rest_kept (m : (ℓ : Loc nD τ sig) → Buf (Elt F) ℓ) (hr : InRange m) {r : PUnit × MemSt nD τ sig (Elt F)}
    (h : RDat.FramePost (cfgA (adm m hr)) (rdat (adm m hr) (Vm m)) (Vm m) r) (c : Dev nD) (b : Ref sig .tc)
    (hb : b ∈ Pipeline.restRefs sig spec0) (hv : b ∉ [main_v0, main_v1, main_v2, main_v3]) :
    r.2.mem ((c : Thread nD τ).loc b) = m ((c : Thread nD τ).loc b) := ((h c).2 b hb).trans (Vm_kept m c b hv)

/-- A run leaves the arguments as they were. -/
theorem args_kept (m : (ℓ : Loc nD τ sig) → Buf (Elt F) ℓ) (hr : InRange m) {r : PUnit × MemSt nD τ sig (Elt F)}
    (h : RDat.FramePost (cfgA (adm m hr)) (rdat (adm m hr) (Vm m)) (Vm m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13) :=
  ⟨rest_kept m hr h c main_arg0 (Pipeline.mem_restRefs_of main_arg0 rfl (by decide)) (by decide),
    rest_kept m hr h c main_arg1 (Pipeline.mem_restRefs_of main_arg1 rfl (by decide)) (by decide),
    rest_kept m hr h c main_arg2 (Pipeline.mem_restRefs_of main_arg2 rfl (by decide)) (by decide),
    rest_kept m hr h c main_arg3 (Pipeline.mem_restRefs_of main_arg3 rfl (by decide)) (by decide),
    rest_kept m hr h c main_arg4 (Pipeline.mem_restRefs_of main_arg4 rfl (by decide)) (by decide),
    rest_kept m hr h c main_arg5 (Pipeline.mem_restRefs_of main_arg5 rfl (by decide)) (by decide),
    rest_kept m hr h c main_arg6 (Pipeline.mem_restRefs_of main_arg6 rfl (by decide)) (by decide),
    rest_kept m hr h c main_arg7 (Pipeline.mem_restRefs_of main_arg7 rfl (by decide)) (by decide),
    ((RDat.FramePost.arr_in h c (0 : Fin 10) rfl).trans (Vm_kept m c main_arg8 (by decide))),
    rest_kept m hr h c main_arg9 (Pipeline.mem_restRefs_of main_arg9 rfl (by decide)) (by decide),
    rest_kept m hr h c main_arg10 (Pipeline.mem_restRefs_of main_arg10 rfl (by decide)) (by decide),
    rest_kept m hr h c main_arg11 (Pipeline.mem_restRefs_of main_arg11 rfl (by decide)) (by decide),
    ((RDat.FramePost.arr_in h c (7 : Fin 10) rfl).trans (Vm_kept m c main_arg12 (by decide))),
    rest_kept m hr h c main_arg13 (Pipeline.mem_restRefs_of main_arg13 rfl (by decide)) (by decide)⟩

theorem frame_kernel2Ideal : Cert.quiescent_Kernel2Ideal := fun m g h =>
  (θ_run Cert.Kernel2Ideal.defs _ _).mono (fun _ r => ⟨fun c => args_kept m (inRange_of (tables_ideal h)) r.1 c, r.2⟩)
    (run_main (F := Ideal) m (inRange_of (tables_ideal h)) g)
set_option maxHeartbeats 4000000 in
theorem frame_kernel2 : Cert.quiescent_Kernel2 := fun m g h => by
  refine run_same (F := Bits) _ _ ?_
  refine (θ_run Cert.Kernel2Ideal.defs _ _).mono (fun _ r => ?_) (run_main (F := Bits) m (inRange_of (tables_bits h)) g)
  exact ⟨fun c => args_kept (F := Bits) m (inRange_of (tables_bits h)) r.1 c, r.2⟩

set_option maxHeartbeats 8000000 in
theorem frame_reference2Ideal : Cert.quiescent_Reference2Ideal := by
  intro m g _
  hlo_run
  · exact fun _ => ⟨trivial, trivial, trivial, trivial, trivial, trivial, trivial, trivial, trivial, trivial, trivial, trivial, trivial, trivial⟩
  · exact sem_eq_zero_of_no_sems (by decide) _

end Cert.Proof.Moe

end
-- ==== Proof.MPoint.lean ====
/-
  What the expert kernel's payloads are over the extended reals, element by element.
-/
module

public import proofs.«01_k».proof.Proof.MRun
public import proofs.«01_k».proof.Proof.MTables
public import Idealize.ShloMosaic.Lib.Pointwise

@[expose] public section

set_option maxRecDepth 16384
set_option Elab.async false

noncomputable section

namespace Cert.Proof.Moe

open Cert.Kernel2Ideal Cert.Kernel2Ideal.Gen
open Idealize.ShloMosaic

/-- The two constants of the norm: the row's length, and what is added under the root. -/
def rowLen : EReal := Ideal.ofBits .f32 0x44800000#32
def under : EReal := Ideal.ofBits .f32 0x358637BD#32

/-- The root mean square norm of a row, times its gain. -/
def nrm (x g : Fin 1024 → EReal) (k : Fin 1024) : EReal :=
  x k * Ideal.rsqrt (Ideal.div (∑ j : Fin 1024, x j * x j) rowLen + under) * g k

def sil (u : EReal) : EReal := u * Ideal.div 1 (1 + Ideal.exp (-u))

/-- One expert's feed-forward on a row. -/
def expert (h : Fin 1024 → EReal) (w1 w3 : Fin 1024 → Fin 512 → EReal) (w2 : Fin 512 → Fin 1024 → EReal) (k : Fin 1024) : EReal :=
  ∑ f : Fin 512, sil (∑ d : Fin 1024, h d * w1 d f) * (∑ d : Fin 1024, h d * w3 d f) * w2 f k

theorem pay1_apply (i : Fin 256) (k : Fin 1024) : k0_pay1 (F := Ideal) (ix2 i k) = 0 := by
  pointwise [k0_pay1]

theorem pay2_apply (v : FVec Ideal S256x1024 .f32) (b : BitVec 1) (u : FVec Ideal S256x1024 .f32) (i : Fin 256) (k : Fin 1024) :
    k0_pay2 (F := Ideal) v b u (ix2 i k) = (if b = 1#1 then 0 else u (ix2 i k)) + v (ix2 i k) := by
  pointwise [k0_pay2]
  by_cases h : b = 1#1
  · subst h; simp [Scalar.select]
  · rw [if_neg h]; simp [Scalar.select, h]

/-- A row's first 1024 places: its values. The two after them are its weights. -/
def val (x : S256x1152.Idx → EReal) (i : Fin 256) (j : Fin 1024) : EReal := x (ix2 i ⟨j.val, by omega⟩)

theorem rowsOf_apply (x : S256x1152.Idx → EReal) (i : Fin 256) (j : Fin 1024) : rowsOf (F := Ideal) x (ix2 i j) = val x i j := by
  refine congrArg x (funext fun a => ?_)
  fin_cases a <;> exact Fin.ext (by simp [Rect.toLoadRect, Rect.unit, LoadRect.idx])
theorem wtA_apply (x : S256x1152.Idx → EReal) (i : Fin 256) : wtA (F := Ideal) x (ix2 i 0) = x (ix2 i 1024) := by
  refine congrArg x (funext fun a => ?_)
  fin_cases a <;> exact Fin.ext (by simp [Rect.toLoadRect, Rect.unit, LoadRect.idx])
theorem wtB_apply (x : S256x1152.Idx → EReal) (i : Fin 256) : wtB (F := Ideal) x (ix2 i 0) = x (ix2 i 1025) := by
  refine congrArg x (funext fun a => ?_)
  fin_cases a <;> exact Fin.ext (by simp [Rect.toLoadRect, Rect.unit, LoadRect.idx])

theorem pay3_apply (x : S256x1152.Idx → EReal) (u : FVec Ideal S256x1024 .f32) (g : FVec Ideal S1x1024 .f32) (i : Fin 256) (k : Fin 1024) :
    k0_pay3 (F := Ideal) (rowsOf (F := Ideal) x) u g (ix2 i k)
      = nrm (fun j => val x i j + u (ix2 i j)) (fun j => g (ix2 (0 : Fin 1) j)) k := by
  pointwise [k0_pay3, nrm, rowLen, under, rowsOf_apply]

theorem pay7_apply (x : S256x1152.Idx → EReal) (g : FVec Ideal S1x1024 .f32) (i : Fin 256) (k : Fin 1024) :
    k0_pay7 (F := Ideal) (rowsOf (F := Ideal) x) g (ix2 i k) = nrm (val x i) (fun j => g (ix2 (0 : Fin 1) j)) k := by
  pointwise [k0_pay7, nrm, rowLen, under, rowsOf_apply]

theorem pay8_apply (x : S256x1024.Idx → EReal) (g : FVec Ideal S1x1024 .f32) (w : FVec Ideal S1x1024x512 .bf16) (i : Fin 256) (f : Fin 512) :
    k0_pay8 (F := Ideal) x g w (ix2 i f) = ∑ d : Fin 1024, k0_pay7 (F := Ideal) x g (ix2 i d) * w (ix3 (0 : Fin 1) d f) := by
  pointwise [k0_pay8]

theorem pay9_apply (x : S256x1024.Idx → EReal) (g : FVec Ideal S1x1024 .f32) (w : FVec Ideal S1x1024x512 .bf16) (i : Fin 256) (f : Fin 512) :
    k0_pay9 (F := Ideal) x g w (ix2 i f) = ∑ d : Fin 1024, k0_pay7 (F := Ideal) x g (ix2 i d) * w (ix3 (0 : Fin 1) d f) := by
  pointwise [k0_pay9]

theorem pay10_apply (x : S256x1024.Idx → EReal) (g : FVec Ideal S1x1024 .f32) (w : FVec Ideal S1x1024x512 .bf16) (i : Fin 256) (f : Fin 512) :
    k0_pay10 (F := Ideal) x g w (ix2 i f) = Ideal.exp (-(k0_pay8 (F := Ideal) x g w (ix2 i f))) := by
  pointwise [k0_pay10, zero_sub]

/-- Whether the row `i` of a tile lies between the bounds of a segment. -/
def within (lo hi : BitVec 32) (i : Fin 256) : Prop := lo.toInt ≤ i.val ∧ (i.val : Int) < hi.toInt

instance (lo hi : BitVec 32) (i : Fin 256) : Decidable (within lo hi i) := inferInstanceAs (Decidable (_ ∧ _))

theorem pay4_apply (lo hi : BitVec 32) (i : Fin 256) :
    (k0_pay4 (F := Ideal) lo hi (ix2 i 0) = 1#1) ↔ within lo hi i := by
  have e : (BitVec.ofNat 32 i.val).toInt = i.val := by
    have := i.isLt
    rw [BitVec.toInt_eq_toNat_cond, BitVec.toNat_ofNat, Nat.mod_eq_of_lt (by omega), if_pos (by omega)]
  pointwise [k0_pay4]
  rw [MoeTables.and1, MoeTables.sge32, MoeTables.slt32, e, within]

theorem pay5_apply (lo hi : BitVec 32) (x : S256x1152.Idx → EReal) (i : Fin 256) :
    k0_pay5 (F := Ideal) lo hi (wtA (F := Ideal) x) (ix2 i 0) = if within lo hi i then x (ix2 i 1024) else 0 := by
  rw [← wtA_apply x]
  pointwise [k0_pay5]
  by_cases h : within lo hi i
  · rw [if_pos h]; exact if_pos ((pay4_apply lo hi i).mpr h)
  · rw [if_neg h]; exact if_neg (fun e => h ((pay4_apply lo hi i).mp e))

theorem pay6_apply (lo hi : BitVec 32) (x : S256x1152.Idx → EReal) (i : Fin 256) :
    k0_pay6 (F := Ideal) lo hi (wtB (F := Ideal) x) (ix2 i 0) = if within lo hi i then x (ix2 i 1025) else 0 := by
  rw [← wtB_apply x]
  pointwise [k0_pay6]
  by_cases h : within lo hi i
  · rw [if_pos h]; exact if_pos ((pay4_apply lo hi i).mpr h)
  · rw [if_neg h]; exact if_neg (fun e => h ((pay4_apply lo hi i).mp e))

theorem contrib_apply (x0 : S256x1152.Idx → EReal) (x1 x2 : S1x1024x512.Idx → EReal) (x3 : S1x512x1024.Idx → EReal)
    (x4 x5 : S1x1024x512.Idx → EReal) (x6 : S1x512x1024.Idx → EReal) (x7 : S1x1024.Idx → EReal) (lo hi : BitVec 32) (i : Fin 256) (k : Fin 1024) :
    contrib (F := Ideal) x0 x1 x2 x3 x4 x5 x6 x7 lo hi (ix2 i k)
      = k0_pay5 (F := Ideal) lo hi (wtA (F := Ideal) x0) (ix2 i 0)
          * expert (nrm (val x0 i) (fun j => x7 (ix2 (0 : Fin 1) j))) (fun d f => x1 (ix3 (0 : Fin 1) d f)) (fun d f => x2 (ix3 (0 : Fin 1) d f))
              (fun f d => x3 (ix3 (0 : Fin 1) f d)) k
        + k0_pay6 (F := Ideal) lo hi (wtB (F := Ideal) x0) (ix2 i 0)
          * expert (nrm (val x0 i) (fun j => x7 (ix2 (0 : Fin 1) j))) (fun d f => x4 (ix3 (0 : Fin 1) d f)) (fun d f => x5 (ix3 (0 : Fin 1) d f))
              (fun f d => x6 (ix3 (0 : Fin 1) f d)) k := by
  simp only [contrib]
  pointwise [k0_pay12, k0_pay11, pay10_apply, pay8_apply, pay9_apply, pay7_apply, expert, sil, zero_sub]

/-- A row's two experts, each times the row's weight for it. -/
def mix (ca cb : EReal) (h : Fin 1024 → EReal) (a1 a3 : Fin 1024 → Fin 512 → EReal) (a2 : Fin 512 → Fin 1024 → EReal)
    (b1 b3 : Fin 1024 → Fin 512 → EReal) (b2 : Fin 512 → Fin 1024 → EReal) (k : Fin 1024) : EReal :=
  ca * expert h a1 a3 a2 k + cb * expert h b1 b3 b2 k

theorem contrib_within (x0 : S256x1152.Idx → EReal) (x1 x2 : S1x1024x512.Idx → EReal) (x3 : S1x512x1024.Idx → EReal)
    (x4 x5 : S1x1024x512.Idx → EReal) (x6 : S1x512x1024.Idx → EReal) (x7 : S1x1024.Idx → EReal) (lo hi : BitVec 32) (i : Fin 256) (k : Fin 1024)
    (h : within lo hi i) :
    contrib (F := Ideal) x0 x1 x2 x3 x4 x5 x6 x7 lo hi (ix2 i k)
      = mix (x0 (ix2 i 1024)) (x0 (ix2 i 1025)) (nrm (val x0 i) (fun j => x7 (ix2 (0 : Fin 1) j)))
          (fun d f => x1 (ix3 (0 : Fin 1) d f)) (fun d f => x2 (ix3 (0 : Fin 1) d f)) (fun f d => x3 (ix3 (0 : Fin 1) f d))
          (fun d f => x4 (ix3 (0 : Fin 1) d f)) (fun d f => x5 (ix3 (0 : Fin 1) d f)) (fun f d => x6 (ix3 (0 : Fin 1) f d)) k := by
  rw [contrib_apply, pay5_apply, pay6_apply, if_pos h, if_pos h]; rfl

theorem contrib_outside (x0 : S256x1152.Idx → EReal) (x1 x2 : S1x1024x512.Idx → EReal) (x3 : S1x512x1024.Idx → EReal)
    (x4 x5 : S1x1024x512.Idx → EReal) (x6 : S1x512x1024.Idx → EReal) (x7 : S1x1024.Idx → EReal) (lo hi : BitVec 32) (i : Fin 256) (k : Fin 1024)
    (h : ¬ within lo hi i) :
    contrib (F := Ideal) x0 x1 x2 x3 x4 x5 x6 x7 lo hi (ix2 i k) = 0 := by
  rw [contrib_apply, pay5_apply, pay6_apply, if_neg h, if_neg h, zero_mul, zero_mul, add_zero]

end Cert.Proof.Moe
end
-- ==== Proof.MRef.lean ====
/-
  What the feed-forward's reference computes, at a row and a column.
-/
module

public import proofs.«01_k».proof.Proof.MPoint
public import proofs.«01_k».proof.Proof.MFrames
public import Idealize.ShloMosaic.Lib.Routing.OpsSet

@[expose] public section

set_option maxRecDepth 16384
set_option Elab.async false

noncomputable section

namespace Cert.Proof.Moe

open Cert.Kernel2Ideal Cert.Kernel2Ideal.Gen
open Idealize.ShloMosaic Idealize.SL.Sem
open Idealize.ShloMosaic.TcCoe
open Idealize.ShloMosaic.Pipeline (RDat)

/-- A segment's word in a table, at a row. -/
def expertOf (T : S367.Idx → BitVec 32) (hT : ∀ w : Fin 367, (T (ix1 w)).toNat < 32) (w : Fin 367) : Fin 32 := ⟨(T (ix1 w)).toNat, hT w⟩

/-- The arguments' contents. -/
abbrev aSeg (m : (ℓ : Loc nD τ sig) → Buf (Elt Ideal) ℓ) : S65536.Idx → BitVec 32 := m ((d0 : Thread nD τ).loc main_arg0)
abbrev aA (m : (ℓ : Loc nD τ sig) → Buf (Elt Ideal) ℓ) : S367.Idx → BitVec 32 := m ((d0 : Thread nD τ).loc main_arg2)
abbrev aB (m : (ℓ : Loc nD τ sig) → Buf (Elt Ideal) ℓ) : S367.Idx → BitVec 32 := m ((d0 : Thread nD τ).loc main_arg3)
abbrev aX (m : (ℓ : Loc nD τ sig) → Buf (Elt Ideal) ℓ) : S65536x1152.Idx → EReal := m ((d0 : Thread nD τ).loc main_arg8)
abbrev aW1 (m : (ℓ : Loc nD τ sig) → Buf (Elt Ideal) ℓ) : S32x1024x512.Idx → EReal := m ((d0 : Thread nD τ).loc main_arg9)
abbrev aW3 (m : (ℓ : Loc nD τ sig) → Buf (Elt Ideal) ℓ) : S32x1024x512.Idx → EReal := m ((d0 : Thread nD τ).loc main_arg10)
abbrev aW2 (m : (ℓ : Loc nD τ sig) → Buf (Elt Ideal) ℓ) : S32x512x1024.Idx → EReal := m ((d0 : Thread nD τ).loc main_arg11)
abbrev aG2 (m : (ℓ : Loc nD τ sig) → Buf (Elt Ideal) ℓ) : S1x1024.Idx → EReal := m ((d0 : Thread nD τ).loc main_arg12)
abbrev aGf (m : (ℓ : Loc nD τ sig) → Buf (Elt Ideal) ℓ) : S1024.Idx → EReal := m ((d0 : Thread nD τ).loc main_arg13)

/-- A row's segment. -/
abbrev segOf (m : (ℓ : Loc nD τ sig) → Buf (Elt Ideal) ℓ) (ht : TablesOf (F := Ideal) m) (r : Fin 65536) : Fin 367 := ⟨(aSeg m (ix1 r)).toNat, ht.seg_lt r⟩

/-- What the result holds at a row and a column: the row plus its two experts' mix, normed. -/
def want (m : (ℓ : Loc nD τ sig) → Buf (Elt Ideal) ℓ) (ht : TablesOf (F := Ideal) m) (r : Fin 65536) (k : Fin 1024) : EReal :=
  let x : Fin 1024 → EReal := fun j => aX m (ix2 r ⟨j.val, by omega⟩)
  let a := expertOf (aA m) ht.ea_lt (segOf m ht r)
  let b := expertOf (aB m) ht.eb_lt (segOf m ht r)
  nrm (fun j => x j + mix (aX m (ix2 r 1024)) (aX m (ix2 r 1025)) (nrm x (fun j => aG2 m (ix2 (0 : Fin 1) j)))
    (fun d f => aW1 m (ix3 a d f)) (fun d f => aW3 m (ix3 a d f)) (fun f d => aW2 m (ix3 a f d))
    (fun d f => aW1 m (ix3 b d f)) (fun d f => aW3 m (ix3 b d f)) (fun f d => aW2 m (ix3 b f d)) j) (fun j => aGf m (ix1 j)) k

/-- A segment's word read at a row's segment, as the reference reads it: a segment's number is never negative. -/
theorem gather_at (T : Cert.Reference2Ideal.S367.Idx → BitVec 32) (seg : Cert.Reference2Ideal.S65536.Idx → BitVec 32) (hseg : ∀ r : Fin 65536, (seg (ix1 r)).toNat < 367)
    (h1 : Cert.Reference2Ideal.S65536.BroadcastsInDim Cert.Reference2Ideal.S65536x1 ![0]) (h2 h3 : Cert.Reference2Ideal.S_.BroadcastsInDim Cert.Reference2Ideal.S65536 ![]) (r : Fin 65536) :
    Host.gather Cert.Reference2Ideal.gather_S367_S65536x1_S65536_n_0_n_n_0_1_1 T
        (broadcastInDim Cert.Reference2Ideal.S65536x1 ![0] h1
          (select (cmpi .slt seg (broadcastInDim Cert.Reference2Ideal.S65536 ![] h2 (constantI Cert.Reference2Ideal.S_ 32 0#32)))
            (addi seg (broadcastInDim Cert.Reference2Ideal.S65536 ![] h3 (constantI Cert.Reference2Ideal.S_ 32 367#32))) seg)) (ix1 r)
      = T (ix1 ⟨(seg (ix1 r)).toNat, hseg r⟩) := by
  refine Routing.gather_take1 _ rfl rfl rfl rfl T _ r _ ?_ (by decide)
  pointwise
  have := hseg r
  refine (if_neg ?_).trans ?_
  · show ¬ IntOp.cmpi .slt (seg (ix1 r)) 0#32 = 1#1
    rw [MoeTables.slt32, MoeTables.small_toInt _ (by omega)]
    show ¬ ((seg (ix1 r)).toNat : Int) < 0
    omega
  · show seg (ix1 r) = _
    exact BitVec.eq_of_toNat_eq (by rw [BitVec.toNat_ofNat, Nat.mod_eq_of_lt (by omega)])

theorem is_expert (A : BitVec 32) (hA : A.toNat < 32) (e : Fin 32) (c : EReal) :
    Scalar.select (IntOp.cmpi .eq A (BitVec.ofNat 32 e.val)) c 0 = if e = ⟨A.toNat, hA⟩ then c else 0 := by
  have h : IntOp.cmpi .eq A (BitVec.ofNat 32 e.val) = 1#1 ↔ e = ⟨A.toNat, hA⟩ := by
    have := e.isLt
    rw [MoeTables.eq32]
    constructor
    · intro h; exact Fin.ext (by show e.val = A.toNat; rw [h, BitVec.toNat_ofNat, Nat.mod_eq_of_lt (by omega)])
    · rintro rfl; exact BitVec.eq_of_toNat_eq (by rw [BitVec.toNat_ofNat, Nat.mod_eq_of_lt (by omega)])
  by_cases he : e = ⟨A.toNat, hA⟩
  · rw [if_pos he]; exact if_pos (h.mpr he)
  · rw [if_neg he]; exact if_neg (fun x => he (h.mp x))

/-- The sum over all the experts is the sum over a row's two. -/
theorem two_experts (A B : BitVec 32) (hA : A.toNat < 32) (hB : B.toNat < 32) (hne : A ≠ B) (ca cb : EReal) (out : Fin 32 → EReal) :
    ∑ e : Fin 32, (Scalar.select (IntOp.cmpi .eq A (BitVec.ofNat 32 e.val)) ca 0 + Scalar.select (IntOp.cmpi .eq B (BitVec.ofNat 32 e.val)) cb 0) * out e
      = ca * out ⟨A.toNat, hA⟩ + cb * out ⟨B.toNat, hB⟩ := by
  have hab : (⟨A.toNat, hA⟩ : Fin 32) ≠ ⟨B.toNat, hB⟩ := fun e => hne (BitVec.eq_of_toNat_eq (Fin.mk.inj_iff.mp e))
  have h : ∀ e : Fin 32, (Scalar.select (IntOp.cmpi .eq A (BitVec.ofNat 32 e.val)) ca 0 + Scalar.select (IntOp.cmpi .eq B (BitVec.ofNat 32 e.val)) cb 0) * out e
      = (if e = ⟨A.toNat, hA⟩ then ca * out ⟨A.toNat, hA⟩ else 0) + (if e = ⟨B.toNat, hB⟩ then cb * out ⟨B.toNat, hB⟩ else 0) := by
    intro e
    rw [is_expert A hA, is_expert B hB]
    by_cases h1 : e = ⟨A.toNat, hA⟩
    · subst h1; rw [if_pos rfl, if_neg hab, if_pos rfl, if_neg hab, add_zero, add_zero]
    · by_cases h2 : e = ⟨B.toNat, hB⟩
      · subst h2; rw [if_neg h1, if_pos rfl, if_neg h1, if_pos rfl, zero_add, zero_add]
      · rw [if_neg h1, if_neg h2, if_neg h1, if_neg h2, add_zero, zero_mul]
  rw [Finset.sum_congr rfl (fun e _ => h e), Finset.sum_add_distrib, Finset.sum_ite_eq' , Finset.sum_ite_eq', if_pos (Finset.mem_univ _), if_pos (Finset.mem_univ _)]

theorem expert_comm (h : Fin 1024 → EReal) (w1 w3 : Fin 1024 → Fin 512 → EReal) (w2 : Fin 512 → Fin 1024 → EReal) (k : Fin 1024) :
    expert h w1 w3 w2 k = ∑ f : Fin 512, sil (∑ d : Fin 1024, w1 d f * h d) * (∑ d : Fin 1024, w3 d f * h d) * w2 f k := by
  refine Finset.sum_congr rfl fun f _ => ?_
  rw [Finset.sum_congr rfl (fun d _ => mul_comm (h d) (w1 d f)), Finset.sum_congr rfl (fun d _ => mul_comm (h d) (w3 d f))]

theorem combine (x gf : Fin 1024 → EReal) (A B : BitVec 32) (hA : A.toNat < 32) (hB : B.toNat < 32) (hne : A ≠ B) (ca cb : EReal)
    (out : Fin 32 → Fin 1024 → EReal) (k : Fin 1024) :
    nrm (fun j => x j + ∑ e : Fin 32, (Scalar.select (IntOp.cmpi .eq A (BitVec.ofNat 32 e.val)) ca 0
        + Scalar.select (IntOp.cmpi .eq B (BitVec.ofNat 32 e.val)) cb 0) * out e j) gf k
      = nrm (fun j => x j + (ca * out ⟨A.toNat, hA⟩ j + cb * out ⟨B.toNat, hB⟩ j)) gf k := by
  refine congrArg (fun f => nrm f gf k) (funext fun j => ?_)
  rw [two_experts A B hA hB hne ca cb (fun e => out e j)]

/-- The same, as the reference sums it: over all the experts. -/
theorem want_eq (m : (ℓ : Loc nD τ sig) → Buf (Elt Ideal) ℓ) (ht : TablesOf (F := Ideal) m) (r : Fin 65536) (k : Fin 1024) :
    nrm (fun j => aX m (ix2 r ⟨j.val, by omega⟩)
      + ∑ e : Fin 32, (Scalar.select (IntOp.cmpi .eq (aA m (ix1 (segOf m ht r))) (BitVec.ofNat 32 e.val)) (aX m (ix2 r 1024)) 0
          + Scalar.select (IntOp.cmpi .eq (aB m (ix1 (segOf m ht r))) (BitVec.ofNat 32 e.val)) (aX m (ix2 r 1025)) 0)
        * ∑ f : Fin 512, sil (∑ d : Fin 1024, aW1 m (ix3 e d f) * nrm (fun j => aX m (ix2 r ⟨j.val, by omega⟩)) (fun j => aG2 m (ix2 (0 : Fin 1) j)) d)
            * (∑ d : Fin 1024, aW3 m (ix3 e d f) * nrm (fun j => aX m (ix2 r ⟨j.val, by omega⟩)) (fun j => aG2 m (ix2 (0 : Fin 1) j)) d)
            * aW2 m (ix3 e f j)) (fun j => aGf m (ix1 j)) k
      = want m ht r k := by
  refine (combine _ _ (aA m (ix1 (segOf m ht r))) (aB m (ix1 (segOf m ht r))) (ht.ea_lt _) (ht.eb_lt _) (ht.ea_ne _) _ _
    (fun e j => ∑ f : Fin 512, sil (∑ d : Fin 1024, aW1 m (ix3 e d f) * nrm (fun j => aX m (ix2 r ⟨j.val, by omega⟩)) (fun j => aG2 m (ix2 (0 : Fin 1) j)) d)
            * (∑ d : Fin 1024, aW3 m (ix3 e d f) * nrm (fun j => aX m (ix2 r ⟨j.val, by omega⟩)) (fun j => aG2 m (ix2 (0 : Fin 1) j)) d)
            * aW2 m (ix3 e f j)) k).trans ?_
  unfold want mix
  simp only [expert_comm]
  rfl

end Cert.Proof.Moe

end
-- ==== Proof.MBlocks.lean ====
/-
  The blocks and the words the expert kernel reads at a segment, by the places of its arguments.
-/
module

public import proofs.«01_k».proof.Proof.MRef
public import Idealize.ShloMosaic.Lib.Pipeline.ValueKit.Geometry
public import Idealize.ShloMosaic.Lib.StableHlo.ReadAt

@[expose] public section

set_option maxRecDepth 16384
set_option Elab.async false

noncomputable section

namespace Cert.Proof.Moe

open Cert.Kernel2Ideal Cert.Kernel2Ideal.Gen
open Idealize.ShloMosaic Idealize.SL.Sem
open Idealize.ShloMosaic.TcCoe
open Idealize.ShloMosaic.Pipeline (RDat Cfg Window)

theorem cast_val : ∀ n : Fin 367, (Scalar.indexCast (BitVec.ofNat 32 n.val)).toNat = n.val := by decide +kernel

theorem word1_eq (T : S367.Idx → BitVec 32) (i : grid0.Coords) : word1 (F := Ideal) T i = T (ix1 (i 0)) := by
  refine congrArg T (funext fun b => Fin.ext ?_)
  match b with
  | 0 =>
    show (Scalar.indexCast (BitVec.ofNat 32 (i 0).val)).toNat + 1 * 0 = (i 0).val
    rw [cast_val (i 0)]
    exact Nat.add_zero _

theorem word2_eq (T : S367.Idx → BitVec 32) (i : grid0.Coords) : word2 (F := Ideal) T i = T (ix1 (i 0)) := word1_eq T i

variable (a : (pcfg0 (F := Ideal)).Adm) (V : (c : Dev nD) → (b : Ref sig .tc) → Buf (Elt Ideal) ((c : Thread nD τ).loc b)) (c : Dev nD)

/-- A point's segment. -/
def pt (t : Fin (cfgA a).N) : Fin 367 := ⟨t.val, t.isLt⟩

theorem crd_eq (t : Fin (cfgA a).N) : (crd a t 0 : Fin 367) = pt a t := Fin.ext (crd_val t)

theorem word1_nat (T : S367.Idx → BitVec 32) (t : Fin (cfgA a).N) : (word1 (F := Ideal) T (crd a t)).toNat = (T (ix1 (pt a t))).toNat := by
  rw [word1_eq, crd_eq]

/-- Where a block's element sits in the array. -/
theorem place (w : Fin (cfgA a).W) (t : Fin (cfgA a).N) (hk : ((cfgA a).win w).kind = .blocked)
    (y : (((cfgA a).win w).xblock (crd a t)).Idx) (b : Fin ((cfgA a).win w).shape.rank) :
    ((((cfgA a).win w).rect t).emb y b : ℕ) = ((cfgA a).win w).index t b * ((cfgA a).win w).size b + (y b : ℕ) :=
  ((cfgA a).win w).rect_emb_val t y b hk

theorem index0 (t : Fin (cfgA a).N) : ((cfgA a).win (0 : Fin 10)).index t = ![(a.1 0 (ix1 (pt a t)) : BitVec 32).toNat, 0] :=
  congrArg (fun n : Nat => ![n, 0]) (word1_nat a (a.1 0) t)
theorem index9 (t : Fin (cfgA a).N) : ((cfgA a).win (9 : Fin 10)).index t = ![(a.1 0 (ix1 (pt a t)) : BitVec 32).toNat, 0] := index0 a t
theorem index1 (t : Fin (cfgA a).N) : ((cfgA a).win (1 : Fin 10)).index t = ![(a.1 1 (ix1 (pt a t)) : BitVec 32).toNat, 0, 0] :=
  congrArg (fun n : Nat => ![n, 0, 0]) (word1_nat a (a.1 1) t)
theorem index4 (t : Fin (cfgA a).N) : ((cfgA a).win (4 : Fin 10)).index t = ![(a.1 2 (ix1 (pt a t)) : BitVec 32).toNat, 0, 0] :=
  congrArg (fun n : Nat => ![n, 0, 0]) (word1_nat a (a.1 2) t)

/-- The row of a point's tile. -/
def rowAt (h : Below 256 (a.1 0)) (t : Fin (cfgA a).N) (i : Fin 256) : Fin 65536 :=
  ⟨(a.1 0 (ix1 (pt a t)) : BitVec 32).toNat * 256 + i.val, by have := h (ix1 (pt a t)); have := i.isLt; omega⟩

theorem iblk0_at (h : Below 256 (a.1 0)) (t : Fin (cfgA a).N) (i : Fin 256) (k : Fin 1152) :
    iblk a V c (0 : Fin 10) t (ix2 i k) = V c main_arg8 (ix2 (rowAt a h t i) k) := by
  show V c main_arg8 ((((cfgA a).win (0 : Fin 10)).blk t).view.emb (ix2 i k)) = _
  refine congrArg (V c main_arg8) (funext fun b => Fin.ext ?_)
  refine (place a (0 : Fin 10) t rfl (ix2 i k) b).trans ?_
  rw [index0]
  match b with
  | 0 => rfl
  | 1 => show 0 * 1152 + k.val = k.val; omega

theorem emb9_at (h : Below 256 (a.1 0)) (t : Fin (cfgA a).N) (i : Fin 256) (k : Fin 1024) :
    (((cfgA a).win (9 : Fin 10)).blk t).view.emb (ix2 i k) = ix2 (rowAt a h t i) k := by
  refine funext fun b => Fin.ext ?_
  refine (place a (9 : Fin 10) t rfl (ix2 i k) b).trans ?_
  rw [index9]
  match b with
  | 0 => rfl
  | 1 => show 0 * 1024 + k.val = k.val; omega

theorem iblk1_at (h : Below 32 (a.1 1)) (t : Fin (cfgA a).N) (d : Fin 1024) (f : Fin 512) :
    iblk a V c (1 : Fin 10) t (ix3 (0 : Fin 1) d f) = V c main_v0 (ix3 ⟨(a.1 1 (ix1 (pt a t)) : BitVec 32).toNat, h _⟩ d f) := by
  refine congrArg (V c main_v0) (funext fun b => Fin.ext ?_)
  refine (place a (1 : Fin 10) t rfl (ix3 (0 : Fin 1) d f) b).trans ?_
  rw [index1]
  match b with
  | 0 => exact Nat.mul_one _
  | 1 => show 0 * 1024 + d.val = d.val; omega
  | 2 => show 0 * 512 + f.val = f.val; omega

theorem iblk2_at (h : Below 32 (a.1 1)) (t : Fin (cfgA a).N) (d : Fin 1024) (f : Fin 512) :
    iblk a V c (2 : Fin 10) t (ix3 (0 : Fin 1) d f) = V c main_v1 (ix3 ⟨(a.1 1 (ix1 (pt a t)) : BitVec 32).toNat, h _⟩ d f) := by
  refine congrArg (V c main_v1) (funext fun b => Fin.ext ?_)
  refine (place a (2 : Fin 10) t rfl (ix3 (0 : Fin 1) d f) b).trans ?_
  rw [show ((cfgA a).win (2 : Fin 10)).index t = _ from index1 a t]
  match b with
  | 0 => exact Nat.mul_one _
  | 1 => show 0 * 1024 + d.val = d.val; omega
  | 2 => show 0 * 512 + f.val = f.val; omega

theorem iblk3_at (h : Below 32 (a.1 1)) (t : Fin (cfgA a).N) (f : Fin 512) (d : Fin 1024) :
    iblk a V c (3 : Fin 10) t (ix3 (0 : Fin 1) f d) = V c main_v2 (ix3 ⟨(a.1 1 (ix1 (pt a t)) : BitVec 32).toNat, h _⟩ f d) := by
  refine congrArg (V c main_v2) (funext fun b => Fin.ext ?_)
  refine (place a (3 : Fin 10) t rfl (ix3 (0 : Fin 1) f d) b).trans ?_
  rw [show ((cfgA a).win (3 : Fin 10)).index t = _ from index1 a t]
  match b with
  | 0 => exact Nat.mul_one _
  | 1 => show 0 * 512 + f.val = f.val; omega
  | 2 => show 0 * 1024 + d.val = d.val; omega

theorem iblk4_at (h : Below 32 (a.1 2)) (t : Fin (cfgA a).N) (d : Fin 1024) (f : Fin 512) :
    iblk a V c (4 : Fin 10) t (ix3 (0 : Fin 1) d f) = V c main_v0 (ix3 ⟨(a.1 2 (ix1 (pt a t)) : BitVec 32).toNat, h _⟩ d f) := by
  refine congrArg (V c main_v0) (funext fun b => Fin.ext ?_)
  refine (place a (4 : Fin 10) t rfl (ix3 (0 : Fin 1) d f) b).trans ?_
  rw [index4]
  match b with
  | 0 => exact Nat.mul_one _
  | 1 => show 0 * 1024 + d.val = d.val; omega
  | 2 => show 0 * 512 + f.val = f.val; omega

theorem iblk5_at (h : Below 32 (a.1 2)) (t : Fin (cfgA a).N) (d : Fin 1024) (f : Fin 512) :
    iblk a V c (5 : Fin 10) t (ix3 (0 : Fin 1) d f) = V c main_v1 (ix3 ⟨(a.1 2 (ix1 (pt a t)) : BitVec 32).toNat, h _⟩ d f) := by
  refine congrArg (V c main_v1) (funext fun b => Fin.ext ?_)
  refine (place a (5 : Fin 10) t rfl (ix3 (0 : Fin 1) d f) b).trans ?_
  rw [show ((cfgA a).win (5 : Fin 10)).index t = _ from index4 a t]
  match b with
  | 0 => exact Nat.mul_one _
  | 1 => show 0 * 1024 + d.val = d.val; omega
  | 2 => show 0 * 512 + f.val = f.val; omega

theorem iblk6_at (h : Below 32 (a.1 2)) (t : Fin (cfgA a).N) (f : Fin 512) (d : Fin 1024) :
    iblk a V c (6 : Fin 10) t (ix3 (0 : Fin 1) f d) = V c main_v2 (ix3 ⟨(a.1 2 (ix1 (pt a t)) : BitVec 32).toNat, h _⟩ f d) := by
  refine congrArg (V c main_v2) (funext fun b => Fin.ext ?_)
  refine (place a (6 : Fin 10) t rfl (ix3 (0 : Fin 1) f d) b).trans ?_
  rw [show ((cfgA a).win (6 : Fin 10)).index t = _ from index4 a t]
  match b with
  | 0 => exact Nat.mul_one _
  | 1 => show 0 * 512 + f.val = f.val; omega
  | 2 => show 0 * 1024 + d.val = d.val; omega

theorem iblk7_at (t : Fin (cfgA a).N) (k : Fin 1024) : iblk a V c (7 : Fin 10) t (ix2 (0 : Fin 1) k) = V c main_arg12 (ix2 (0 : Fin 1) k) := by
  refine congrArg (V c main_arg12) (funext fun b => Fin.ext ?_)
  refine (place a (7 : Fin 10) t rfl (ix2 (0 : Fin 1) k) b).trans ?_
  match b with
  | 0 => rfl
  | 1 => show 0 * 1024 + k.val = k.val; omega

theorem iblk8_at (t : Fin (cfgA a).N) (k : Fin 1024) : iblk a V c (8 : Fin 10) t (ix2 (0 : Fin 1) k) = V c main_v3 (ix2 (0 : Fin 1) k) := by
  refine congrArg (V c main_v3) (funext fun b => Fin.ext ?_)
  refine (place a (8 : Fin 10) t rfl (ix2 (0 : Fin 1) k) b).trans ?_
  match b with
  | 0 => rfl
  | 1 => show 0 * 1024 + k.val = k.val; omega

/-! ## The lines before the call -/

variable (m : (ℓ : Loc nD τ sig) → Buf (Elt Ideal) ℓ)

theorem v0_at (e : Fin 32) (d : Fin 1024) (f : Fin 512) : Vm m d0 main_v0 (ix3 e d f) = aW1 m (ix3 e d f) := by
  unfold Vm hostOps0
  after_reads_at
theorem v1_at (e : Fin 32) (d : Fin 1024) (f : Fin 512) : Vm m d0 main_v1 (ix3 e d f) = aW3 m (ix3 e d f) := by
  unfold Vm hostOps0
  after_reads_at
theorem v2_at (e : Fin 32) (f : Fin 512) (d : Fin 1024) : Vm m d0 main_v2 (ix3 e f d) = aW2 m (ix3 e f d) := by
  unfold Vm hostOps0
  after_reads_at
theorem v3_at (k : Fin 1024) : Vm m d0 main_v3 (ix2 (0 : Fin 1) k) = aGf m (ix1 k) := by
  unfold Vm hostOps0
  after_reads_at

end Cert.Proof.Moe

end
-- ==== Proof.MSeq.lean ====
/-
  The accumulator at one place of a tile: segments of one tile follow one another, and one of them adds.
-/
module

public import Mathlib.Data.EReal.Operations

@[expose] public section

namespace Cert.Proof.Moe

section

variable (acc add : ℕ → EReal) (live first : ℕ → Prop) [DecidablePred live] [DecidablePred first] (tl : ℕ → ℕ) (w : ℕ)
  (hw : w < 367)
  (step : ∀ n, n < 367 → acc (n + 1) = if live n then (if first n then 0 else acc n) + add n else acc n)
  (mono : ∀ n, n + 1 < 367 → tl n ≤ tl (n + 1))
  (next : ∀ n, n + 1 < 367 → live (n + 1) → live n)
  (first_iff : ∀ n, n < 367 → live n → (first n ↔ n = 0 ∨ tl n ≠ tl (n - 1)))
  (hlive : live w)
  (zero : ∀ n, n < 367 → n ≠ w → tl n = tl w → add n = 0)

include next in
theorem live_below (k n : ℕ) (hn : n < 367) (hk : k ≤ n) (h : live n) : live k := by
  induction n with
  | zero => obtain rfl : k = 0 := by omega
            exact h
  | succ n ih =>
    by_cases e : k = n + 1
    · subst e; exact h
    · exact ih (by omega) (by omega) (next n hn h)

include mono in
theorem tl_le (k n : ℕ) (hn : n < 367) (hk : k ≤ n) : tl k ≤ tl n := by
  induction n with
  | zero => obtain rfl : k = 0 := by omega
            exact le_rfl
  | succ n ih =>
    by_cases e : k = n + 1
    · subst e; exact le_rfl
    · exact (ih (by omega) (by omega)).trans (mono n hn)

include hw step next first_iff hlive zero in
theorem acc_before (n : ℕ) (hn : n < w) (ht : tl n = tl w) : acc (n + 1) = 0 := by
  induction n with
  | zero =>
    have hl : live 0 := live_below live next 0 w hw (by omega) hlive
    rw [step 0 (by omega), if_pos hl, if_pos ((first_iff 0 (by omega) hl).mpr (.inl rfl)), zero 0 (by omega) (by omega) ht, add_zero]
  | succ n ih =>
    have hl : live (n + 1) := live_below live next (n + 1) w hw (by omega) hlive
    rw [step (n + 1) (by omega), if_pos hl, zero (n + 1) (by omega) (by omega) ht, add_zero]
    by_cases hf : first (n + 1)
    · rw [if_pos hf]
    · rw [if_neg hf]
      refine ih (by omega) ?_
      by_contra hne
      refine hf ((first_iff (n + 1) (by omega) hl).mpr (.inr ?_))
      show tl (n + 1) ≠ tl n
      rw [ht]; exact Ne.symm hne

include hw step next first_iff hlive zero in
theorem acc_at : acc (w + 1) = add w := by
  rw [step w hw, if_pos hlive]
  by_cases hf : first w
  · rw [if_pos hf, zero_add]
  · rw [if_neg hf]
    have h : ¬ (w = 0 ∨ tl w ≠ tl (w - 1)) := fun h => hf ((first_iff w hw hlive).mpr h)
    obtain ⟨h0, h1⟩ : w ≠ 0 ∧ tl w = tl (w - 1) := ⟨fun e => h (.inl e), by_contra fun e => h (.inr e)⟩
    have := acc_before acc add live first tl w hw step next first_iff hlive zero (w - 1) (by omega) h1.symm
    rw [show w - 1 + 1 = w from by omega] at this
    rw [this, zero_add]

include hw step mono next first_iff hlive zero in
theorem acc_after (n : ℕ) (hn : n < 367) (hwn : w ≤ n) (ht : tl n = tl w) : acc (n + 1) = add w := by
  induction n with
  | zero => obtain rfl : w = 0 := by omega
            exact acc_at acc add live first tl 0 hw step next first_iff hlive zero
  | succ n ih =>
    by_cases e : w = n + 1
    · subst e; exact acc_at acc add live first tl _ hw step next first_iff hlive zero
    · have h1 := tl_le tl mono w n (by omega) (by omega)
      have h2 := mono n hn
      have h3 : tl n = tl w := by omega
      have h4 := ih (by omega) (by omega) h3
      rw [step (n + 1) hn]
      by_cases hl : live (n + 1)
      · have hf : ¬ first (n + 1) := fun hf => by
          rcases (first_iff (n + 1) hn hl).mp hf with h | h
          · omega
          · exact h (by show tl (n + 1) = tl n; omega)
        rw [if_pos hl, if_neg hf, h4, zero (n + 1) hn (fun x => e x.symm) ht, add_zero]
      · rw [if_neg hl, h4]

end

/-- From a live segment on there is, in its tile, one that closes the tile. -/
theorem closing (live last : ℕ → Prop) (tl : ℕ → ℕ) (hlast : ∀ n, n < 367 → live n → last n ∨ (n < 366 ∧ live (n + 1) ∧ tl n = tl (n + 1)))
    (d w : ℕ) (hd : w + d = 366) (hl : live w) : ∃ n, w ≤ n ∧ n < 367 ∧ live n ∧ last n ∧ tl n = tl w := by
  induction d generalizing w with
  | zero =>
    rcases hlast w (by omega) hl with h | ⟨h, -⟩
    · exact ⟨w, le_rfl, by omega, hl, h, rfl⟩
    · omega
  | succ d ih =>
    rcases hlast w (by omega) hl with h | ⟨_, h1, h2⟩
    · exact ⟨w, le_rfl, by omega, hl, h, rfl⟩
    · obtain ⟨n, a, b, c, e, f⟩ := ih (w + 1) (by omega) h1
      exact ⟨n, by omega, b, c, e, by omega⟩

/-- The last segment of a tile. -/
theorem final (tl : ℕ → ℕ) (mono : ∀ n, n + 1 < 367 → tl n ≤ tl (n + 1)) (d w : ℕ) (hd : w + d = 366) :
    ∃ n, w ≤ n ∧ n < 367 ∧ tl n = tl w ∧ (n = 366 ∨ tl (n + 1) ≠ tl n) := by
  induction d generalizing w with
  | zero => exact ⟨w, le_rfl, by omega, rfl, .inl (by omega)⟩
  | succ d ih =>
    by_cases h : tl (w + 1) = tl w
    · obtain ⟨n, a, b, c, e⟩ := ih (w + 1) (by omega)
      exact ⟨n, by omega, b, by omega, e⟩
    · exact ⟨w, le_rfl, by omega, rfl, .inr h⟩

end Cert.Proof.Moe

end
-- ==== Proof.MKern.lean ====
/-
  What the expert kernel leaves in its result: at every row and column, the value its reference computes.
-/
module

public import proofs.«01_k».proof.Proof.MBlocks
public import proofs.«01_k».proof.Proof.MSeq
public import Idealize.ShloMosaic.Lib.Pipeline.ArrRel

@[expose] public section

set_option maxRecDepth 16384
set_option Elab.async false

noncomputable section

namespace Cert.Proof.Moe

open Cert.Kernel2Ideal Cert.Kernel2Ideal.Gen
open Idealize.ShloMosaic Idealize.SL.Sem
open Idealize.ShloMosaic.TcCoe
open Idealize.ShloMosaic.Pipeline (RDat Dat Cfg Window)

/-! ## The words' tests -/

theorem bitw : ∀ b : BitVec 1, Scalar.cmpi .ne (Scalar.extui b : BitVec 32) 0#32 = 1#1 ↔ b = 1#1 := by decide

theorem cond2_iff (x y : BitVec 32) : k0_cond2 x y = 1#1 ↔ x.toInt < y.toInt := (bitw _).trans (MoeTables.slt32 x y)
theorem cond3_iff (x : BitVec 32) : k0_cond3 x = 1#1 ↔ x = 1#32 := (bitw _).trans (MoeTables.eq32 x 1#32)

/-! ## The tables, by plain numbers -/

/-- The segment at a number, the last one beyond the end. -/
def sg (n : ℕ) : Fin 367 := ⟨min n 366, by omega⟩

theorem sg_of (n : ℕ) (h : n < 367) : sg n = ⟨n, h⟩ := Fin.ext (by show min n 366 = n; omega)

def tlN (tile : S367.Idx → BitVec 32) (n : ℕ) : ℕ := (tile (ix1 (sg n))).toNat
def liveN (lo hi : S367.Idx → BitVec 32) (n : ℕ) : Prop := MoeTables.live lo hi (sg n)
def oneN (T : S367.Idx → BitVec 32) (n : ℕ) : Prop := T (ix1 (sg n)) = 1#32

instance (T : S367.Idx → BitVec 32) : DecidablePred (oneN T) := fun n => inferInstanceAs (Decidable (T (ix1 (sg n)) = 1#32))

/-- A row's place in its tile. -/
def ri (r : Fin 65536) : Fin 256 := ⟨r.val % 256, by omega⟩

section

variable {seg : S65536.Idx → BitVec 32} {tile ea eb lo hi first last : S367.Idx → BitVec 32} (T : MoeTables.Tables seg tile ea eb lo hi first last)

include T

theorem nx_sg (n : ℕ) (h : n < 367) : MoeTables.nx (sg n) = sg (n + 1) := Fin.ext (by show min (min n 366 + 1) 366 = min (n + 1) 366; omega)
theorem pv_sg (n : ℕ) (h : n < 367) : MoeTables.pv (sg n) = sg (n - 1) := Fin.ext (by show min n 366 - 1 = min (n - 1) 366; omega)

theorem tl_mono (n : ℕ) (h : n + 1 < 367) : tlN tile n ≤ tlN tile (n + 1) := by
  have := T.mono (sg n)
  rwa [nx_sg T n (by omega)] at this

theorem live_next (n : ℕ) (h : n + 1 < 367) (hl : liveN lo hi (n + 1)) : liveN lo hi n := by
  have := T.next (sg n)
  rw [nx_sg T n (by omega)] at this
  rcases this with h | h
  · exact h.2
  · exact absurd hl h.1

theorem first_at (n : ℕ) (h : n < 367) (hl : liveN lo hi n) : oneN first n ↔ n = 0 ∨ tlN tile n ≠ tlN tile (n - 1) := by
  have := T.first_iff (sg n) hl
  rw [pv_sg T n h] at this
  refine this.trans (or_congr ?_ (not_congr BitVec.toNat_inj.symm))
  show min n 366 = 0 ↔ n = 0
  omega

theorem last_at (n : ℕ) (h : n < 367) (hl : liveN lo hi n) : oneN last n ∨ (n < 366 ∧ liveN lo hi (n + 1) ∧ tlN tile n = tlN tile (n + 1)) := by
  have := T.last_or (sg n) hl
  rw [nx_sg T n h] at this
  rcases this with h1 | ⟨h1, h2, h3⟩
  · exact .inl h1
  · refine .inr ⟨?_, h2, congrArg BitVec.toNat h3⟩
    have h1 : min n 366 < 366 := h1
    omega

theorem ins (w : Fin 367) (r : Fin 65536) :
    (((tile (ix1 w)).toNat : ℤ) * 256 + (lo (ix1 w)).toInt ≤ (r.val : ℤ) ∧ (r.val : ℤ) < ((tile (ix1 w)).toNat : ℤ) * 256 + (hi (ix1 w)).toInt)
      ↔ (seg (ix1 r)).toNat = w.val := T.inside w r
theorem lo_at (w : Fin 367) : 0 ≤ (lo (ix1 w)).toInt ∧ (lo (ix1 w)).toInt ≤ 256 := T.lo_le w
theorem hi_at (w : Fin 367) : (hi (ix1 w)).toInt ≤ 256 := T.hi_le w

theorem seg_facts (r : Fin 65536) (w : Fin 367) (hw : (seg (ix1 r)).toNat = w.val) :
    (tile (ix1 w)).toNat = r.val / 256 ∧ MoeTables.live lo hi w ∧ within (lo (ix1 w)) (hi (ix1 w)) (ri r) := by
  have h := (ins T w r).mpr hw
  have h1 := lo_at T w
  have h2 := hi_at T w
  have e : (tile (ix1 w)).toNat = r.val / 256 := by omega
  refine ⟨e, ?_, ?_, ?_⟩
  · show (lo (ix1 w)).toInt < (hi (ix1 w)).toInt
    omega
  · show _ ≤ ((r.val % 256 : ℕ) : ℤ)
    omega
  · show ((r.val % 256 : ℕ) : ℤ) < _
    omega

theorem seg_only (r : Fin 65536) (w : Fin 367) (ht : (tile (ix1 w)).toNat = r.val / 256) (h : within (lo (ix1 w)) (hi (ix1 w)) (ri r)) :
    (seg (ix1 r)).toNat = w.val := by
  refine (ins T w r).mp ?_
  have h1 : (lo (ix1 w)).toInt ≤ ((r.val % 256 : ℕ) : ℤ) := h.1
  have h2 : ((r.val % 256 : ℕ) : ℤ) < (hi (ix1 w)).toInt := h.2
  constructor <;> omega

end

/-! ## The accumulator -/

section

variable (a : (pcfg0 (F := Ideal)).Adm) (V : (c : Dev nD) → (b : Ref sig .tc) → Buf (Elt Ideal) ((c : Thread nD τ).loc b)) (c : Dev nD)

abbrev tTile : S367.Idx → BitVec 32 := a.1 0
abbrev tLo : S367.Idx → BitVec 32 := a.1 3
abbrev tHi : S367.Idx → BitVec 32 := a.1 4
abbrev tFirst : S367.Idx → BitVec 32 := a.1 5
abbrev tLast : S367.Idx → BitVec 32 := a.1 6

/-- A segment's point. -/
def pnt (w : Fin 367) : Fin (cfgA a).N := ⟨w.val, w.isLt⟩

theorem pt_pnt (w : Fin 367) : pt a (pnt a w) = w := rfl

theorem isLive_iff (T3 T4 : S367.Idx → BitVec 32) (t : Fin (cfgA a).N) : isLive (F := Ideal) T3 T4 (crd a t) ↔ MoeTables.live T3 T4 (pt a t) := by
  unfold isLive
  rw [word1_eq, word1_eq, crd_eq]
  exact cond2_iff _ _

theorem isLast_iff (T6 : S367.Idx → BitVec 32) (t : Fin (cfgA a).N) : isLast (F := Ideal) T6 (crd a t) ↔ T6 (ix1 (pt a t)) = 1#32 := by
  unfold isLast
  rw [word2_eq, crd_eq]
  exact cond3_iff _

theorem firstBit_iff (T5 : S367.Idx → BitVec 32) (t : Fin (cfgA a).N) : firstBit (F := Ideal) T5 (crd a t) = 1#1 ↔ T5 (ix1 (pt a t)) = 1#32 := by
  unfold firstBit
  rw [word2_eq, crd_eq]
  exact MoeTables.eq32 _ _

open Classical in
theorem started (t : Fin (cfgA a).N) : (if isStart (crd a t) then k0_pay1 (F := Ideal) else accAt a V c t.val) = accAt a V c t.val := by
  split_ifs with h
  · have h0 : t.val = 0 := (crd_val t).symm.trans ((isStart_iff _).1 h)
    rw [h0]; rfl
  · rfl

open Classical in
theorem acc_step (i : Fin 256) (k : Fin 1024) (t : Fin (cfgA a).N) :
    accAt a V c (t.val + 1) (ix2 i k)
      = if MoeTables.live (tLo a) (tHi a) (pt a t) then (if tFirst a (ix1 (pt a t)) = 1#32 then 0 else accAt a V c t.val (ix2 i k)) + addAt a V c t (ix2 i k)
        else accAt a V c t.val (ix2 i k) := by
  refine (congrFun (accAt_succ a V c t) (ix2 i k)).trans ?_
  unfold stepAcc
  rw [started]
  by_cases hl : MoeTables.live (tLo a) (tHi a) (pt a t)
  · rw [if_pos hl, if_pos ((isLive_iff a _ _ t).mpr hl), pay2_apply]
    by_cases hf : tFirst a (ix1 (pt a t)) = 1#32
    · rw [if_pos hf, if_pos ((firstBit_iff a _ t).mpr hf)]
    · rw [if_neg hf, if_neg (fun h => hf ((firstBit_iff a _ t).mp h))]
  · rw [if_neg hl, if_neg (fun h => hl ((isLive_iff a _ _ t).mp h))]

theorem word_at (T : S367.Idx → BitVec 32) (t : Fin (cfgA a).N) : word1 (F := Ideal) T (crd a t) = T (ix1 (pt a t)) := by
  rw [word1_eq, crd_eq]

theorem add_outside (t : Fin (cfgA a).N) (i : Fin 256) (k : Fin 1024) (h : ¬ within (tLo a (ix1 (pt a t))) (tHi a (ix1 (pt a t))) i) :
    addAt a V c t (ix2 i k) = 0 := by
  unfold addAt
  refine contrib_outside _ _ _ _ _ _ _ _ _ _ i k ?_
  exact (congrArg₂ (fun x y => ¬ within x y i) (word_at a (a.1 3) t) (word_at a (a.1 4) t)).mpr h

variable {seg : S65536.Idx → BitVec 32} {ea eb : S367.Idx → BitVec 32} (T : MoeTables.Tables seg (tTile a) ea eb (tLo a) (tHi a) (tFirst a) (tLast a))

include T in
open Classical in
/-- From a row's own segment on, while the tile lasts, the accumulator holds what that segment added. -/
theorem acc_val (r : Fin 65536) (w : Fin 367) (hw : (seg (ix1 r)).toNat = w.val) (k : Fin 1024) (n : ℕ) (hn : n < 367) (hwn : w.val ≤ n)
    (htl : tlN (tTile a) n = tlN (tTile a) w.val) : accAt a V c (n + 1) (ix2 (ri r) k) = addAt a V c (pnt a w) (ix2 (ri r) k) := by
  have hs := seg_facts T r w hw
  have key := acc_after (fun n => accAt a V c n (ix2 (ri r) k)) (fun n => addAt a V c (pnt a (sg n)) (ix2 (ri r) k))
    (liveN (tLo a) (tHi a)) (oneN (tFirst a)) (tlN (tTile a)) w.val w.isLt
    (fun n h => by
      have := acc_step a V c (ri r) k (pnt a (sg n))
      rw [show (pnt a (sg n)).val = n from congrArg Fin.val (sg_of n h)] at this
      exact this)
    (tl_mono T) (live_next T) (first_at T)
    (by unfold liveN; rw [sg_of _ w.isLt]; exact hs.2.1)
    (fun n h hne ht => by
      refine add_outside a V c _ _ _ fun hin => ?_
      rw [pt_pnt] at hin
      unfold tlN at ht
      rw [sg_of n h, sg_of _ w.isLt] at ht
      rw [sg_of n h] at hin
      have := seg_only T r ⟨n, h⟩ (ht.trans hs.1) hin
      exact hne (this.symm.trans hw))
    n hn hwn htl
  have e : sg w.val = w := sg_of _ w.isLt
  simpa only [e] using key

end

theorem mix_congr {ca ca' cb cb' : EReal} {h h' : Fin 1024 → EReal} {a1 a1' a3 a3' : Fin 1024 → Fin 512 → EReal} {a2 a2' : Fin 512 → Fin 1024 → EReal}
    {b1 b1' b3 b3' : Fin 1024 → Fin 512 → EReal} {b2 b2' : Fin 512 → Fin 1024 → EReal} (e1 : ca = ca') (e2 : cb = cb') (e3 : h = h') (e4 : a1 = a1') (e5 : a3 = a3')
    (e6 : a2 = a2') (e7 : b1 = b1') (e8 : b3 = b3') (e9 : b2 = b2') (k : Fin 1024) : mix ca cb h a1 a3 a2 b1 b3 b2 k = mix ca' cb' h' a1' a3' a2' b1' b3' b2' k := by
  subst e1 e2 e3 e4 e5 e6 e7 e8 e9; rfl

/-! ## What the result's block holds when it is written back -/

section

variable (m : (ℓ : Loc nD τ sig) → Buf (Elt Ideal) ℓ) (ht : TablesOf (F := Ideal) m)

/-- The tables as the kernel reads them. -/
abbrev am : (pcfg0 (F := Ideal)).Adm := adm (F := Ideal) m (inRange_of ht)

theorem tb_of : MoeTables.Tables (aSeg m) (tTile (am m ht)) (aA m) (aB m) (tLo (am m ht)) (tHi (am m ht)) (tFirst (am m ht)) (tLast (am m ht)) := ht

theorem tile_below : Below 256 ((am m ht).1 0) := (inRange_of ht).tile
theorem ea_below : Below 32 ((am m ht).1 1) := (inRange_of ht).ea
theorem eb_below : Below 32 ((am m ht).1 2) := (inRange_of ht).eb

theorem x_at (t : Fin (cfgA (am m ht)).N) (r : Fin 65536) (h : (tTile (am m ht) (ix1 (pt (am m ht) t))).toNat = r.val / 256) (k : Fin 1152) :
    iblk (am m ht) (Vm m) d0 (0 : Fin 10) t (ix2 (ri r) k) = aX m (ix2 r k) := by
  have e : rowAt (am m ht) (tile_below m ht) t (ri r) = r := Fin.ext (by
    show (tTile (am m ht) (ix1 (pt (am m ht) t))).toNat * 256 + r.val % 256 = r.val
    omega)
  refine (iblk0_at (am m ht) (Vm m) d0 (tile_below m ht) t (ri r) k).trans ?_
  rw [e]
  exact congrFun (Vm_kept m d0 main_arg8 (by decide)) (ix2 r k)

theorem g2_at (t : Fin (cfgA (am m ht)).N) (j : Fin 1024) : iblk (am m ht) (Vm m) d0 (7 : Fin 10) t (ix2 (0 : Fin 1) j) = aG2 m (ix2 (0 : Fin 1) j) :=
  (iblk7_at (am m ht) (Vm m) d0 t j).trans (congrFun (Vm_kept m d0 main_arg12 (by decide)) (ix2 (0 : Fin 1) j))

theorem gf_at (t : Fin (cfgA (am m ht)).N) (j : Fin 1024) : iblk (am m ht) (Vm m) d0 (8 : Fin 10) t (ix2 (0 : Fin 1) j) = aGf m (ix1 j) :=
  (iblk8_at (am m ht) (Vm m) d0 t j).trans (v3_at m j)

/-- What a row's own segment adds there. -/
theorem add_val (r : Fin 65536) (k : Fin 1024) :
    addAt (am m ht) (Vm m) d0 (pnt (am m ht) (segOf m ht r)) (ix2 (ri r) k)
      = mix (aX m (ix2 r 1024)) (aX m (ix2 r 1025)) (nrm (fun j => aX m (ix2 r ⟨j.val, by omega⟩)) (fun j => aG2 m (ix2 (0 : Fin 1) j)))
        (fun d f => aW1 m (ix3 (expertOf (aA m) ht.ea_lt (segOf m ht r)) d f)) (fun d f => aW3 m (ix3 (expertOf (aA m) ht.ea_lt (segOf m ht r)) d f))
        (fun f d => aW2 m (ix3 (expertOf (aA m) ht.ea_lt (segOf m ht r)) f d))
        (fun d f => aW1 m (ix3 (expertOf (aB m) ht.eb_lt (segOf m ht r)) d f)) (fun d f => aW3 m (ix3 (expertOf (aB m) ht.eb_lt (segOf m ht r)) d f))
        (fun f d => aW2 m (ix3 (expertOf (aB m) ht.eb_lt (segOf m ht r)) f d)) k := by
  have hs := seg_facts (tb_of m ht) r (segOf m ht r) rfl
  have hx := x_at m ht (pnt (am m ht) (segOf m ht r)) r hs.1
  have hin : within (word1 (F := Ideal) (tLo (am m ht)) (crd (am m ht) (pnt (am m ht) (segOf m ht r))))
      (word1 (F := Ideal) (tHi (am m ht)) (crd (am m ht) (pnt (am m ht) (segOf m ht r)))) (ri r) := by
    rw [word_at, word_at]
    exact hs.2.2
  refine (contrib_within _ _ _ _ _ _ _ _ _ _ (ri r) k hin).trans ?_
  have e0 : val (iblk (am m ht) (Vm m) d0 (0 : Fin 10) (pnt (am m ht) (segOf m ht r))) (ri r) = fun j : Fin 1024 => aX m (ix2 r ⟨j.val, by omega⟩) :=
    funext fun j => hx _
  have e7 : (fun j : Fin 1024 => iblk (am m ht) (Vm m) d0 (7 : Fin 10) (pnt (am m ht) (segOf m ht r)) (ix2 (0 : Fin 1) j)) = fun j => aG2 m (ix2 (0 : Fin 1) j) :=
    funext fun j => g2_at m ht _ j
  have e1 := funext fun d => funext fun f => (iblk1_at (am m ht) (Vm m) d0 (ea_below m ht) (pnt (am m ht) (segOf m ht r)) d f).trans (v0_at m _ d f)
  have e2 := funext fun d => funext fun f => (iblk2_at (am m ht) (Vm m) d0 (ea_below m ht) (pnt (am m ht) (segOf m ht r)) d f).trans (v1_at m _ d f)
  have e3 := funext fun f => funext fun d => (iblk3_at (am m ht) (Vm m) d0 (ea_below m ht) (pnt (am m ht) (segOf m ht r)) f d).trans (v2_at m _ f d)
  have e4 := funext fun d => funext fun f => (iblk4_at (am m ht) (Vm m) d0 (eb_below m ht) (pnt (am m ht) (segOf m ht r)) d f).trans (v0_at m _ d f)
  have e5 := funext fun d => funext fun f => (iblk5_at (am m ht) (Vm m) d0 (eb_below m ht) (pnt (am m ht) (segOf m ht r)) d f).trans (v1_at m _ d f)
  have e6 := funext fun f => funext fun d => (iblk6_at (am m ht) (Vm m) d0 (eb_below m ht) (pnt (am m ht) (segOf m ht r)) f d).trans (v2_at m _ f d)
  exact mix_congr (hx _) (hx _) (congrArg₂ (fun x g => nrm x g) e0 e7) e1 e2 e3 e4 e5 e6 k

/-- What a point that stores the result's block stores at a row of it, from the row's own segment on. -/
theorem out_val (r : Fin 65536) (k : Fin 1024) (t : Fin (cfgA (am m ht)).N) (hw : (segOf m ht r).val ≤ t.val)
    (htl : (tTile (am m ht) (ix1 (pt (am m ht) t))).toNat = r.val / 256) :
    outAt (am m ht) (Vm m) d0 t (ix2 (ri r) k) = want m ht r k := by
  have hs := seg_facts (tb_of m ht) r (segOf m ht r) rfl
  have hx := x_at m ht t r htl
  have hacc : ∀ j : Fin 1024, accAt (am m ht) (Vm m) d0 (t.val + 1) (ix2 (ri r) j) = _ := fun j =>
    (acc_val (am m ht) (Vm m) d0 (tb_of m ht) r (segOf m ht r) rfl j t.val t.isLt hw (by
      unfold tlN
      rw [sg_of _ t.isLt, sg_of _ (segOf m ht r).isLt]
      exact htl.trans hs.1.symm)).trans (add_val m ht r j)
  refine (pay3_apply _ _ _ (ri r) k).trans ?_
  exact congrArg₂ (fun x g => nrm x g k) (funext fun j => congrArg₂ (fun x y : EReal => x + y) (hx _) (hacc j)) (funext fun j => gf_at m ht t j)

/-! ## The result's block, point after point -/

theorem index9_ne (a : (pcfg0 (F := Ideal)).Adm) (t u : Fin (cfgA a).N) :
    ((cfgA a).win (9 : Fin 10)).index t ≠ ((cfgA a).win (9 : Fin 10)).index u ↔ (tTile a (ix1 (pt a t))).toNat ≠ (tTile a (ix1 (pt a u))).toNat := by
  refine not_congr ⟨fun h => ?_, fun h => ?_⟩
  · have := congrFun ((index9 a t).symm.trans (h.trans (index9 a u))) (0 : Fin 2)
    exact this
  · exact (index9 a t).trans ((congrArg (fun n : ℕ => ![n, 0]) h).trans (index9 a u).symm)

theorem flush9 (a : (pcfg0 (F := Ideal)).Adm) (t : Fin (cfgA a).N) :
    ((cfgA a).win (9 : Fin 10)).flush t = true ↔ t.val = 366 ∨ tlN (tTile a) (t.val + 1) ≠ tlN (tTile a) t.val := by
  have h0 : ((cfgA a).win (9 : Fin 10)).flush t
      = (true && (decide (t.val + 1 = (cfgA a).N) || decide (∃ h : t.val + 1 < (cfgA a).N, ((cfgA a).win (9 : Fin 10)).index ⟨t.val + 1, h⟩ ≠ ((cfgA a).win (9 : Fin 10)).index t))) := rfl
  rw [h0, Bool.true_and, Bool.or_eq_true, decide_eq_true_eq, decide_eq_true_eq]
  have ht : t.val < 367 := t.isLt
  have e0 : sg t.val = pt a t := sg_of _ ht
  unfold tlN
  rw [e0]
  by_cases h1 : t.val = 366
  · exact ⟨fun _ => .inl h1, fun _ => .inl (show t.val + 1 = 367 by omega)⟩
  · have hlt : t.val + 1 < (cfgA a).N := show t.val + 1 < 367 by omega
    have e1 : sg (t.val + 1) = pt a ⟨t.val + 1, hlt⟩ := sg_of _ (by omega)
    rw [e1]
    constructor
    · rintro (h | ⟨_, h⟩)
      · exact absurd (Nat.succ.inj (show t.val + 1 = 366 + 1 from h)) h1
      · exact .inr ((index9_ne a _ _).mp h)
    · rintro (h | h)
      · exact absurd h h1
      · exact .inr ⟨hlt, (index9_ne a _ _).mpr h⟩

/-- From the point that closes a row's tile on, while the tile lasts, the result's block holds the row's value. -/
theorem leaves_val (r : Fin 65536) (k : Fin 1024) (s : ℕ) (hs : s < 367) (hw : (segOf m ht r).val ≤ s)
    (hl : liveN (tLo (am m ht)) (tHi (am m ht)) s) (hlast : oneN (tLast (am m ht)) s)
    (n : ℕ) (hn : n < (cfgA (am m ht)).N) (hsn : s ≤ n) (htl : ∀ k, s ≤ k → k ≤ n → tlN (tTile (am m ht)) k = r.val / 256)
    (X : S256x1024.Idx → EReal) (hX : (rdat (am m ht) (Vm m) d0).Leaves (9 : Fin 10) ⟨n, hn⟩ X) : X (ix2 (ri r) k) = want m ht r k := by
  induction n generalizing X with
  | zero =>
    obtain ⟨Y, -, hA⟩ := hX
    have hA : outRel (am m ht) (Vm m) d0 ⟨0, hn⟩ Y X := hA
    obtain rfl : s = 0 := by omega
    have hst : stores (F := Ideal) (am m ht) ⟨0, hn⟩ := ⟨(isLive_iff _ _ _ _).mpr hl, (isLast_iff _ _ _).mpr hlast⟩
    unfold outRel at hA
    rw [if_pos hst] at hA
    rw [hA]
    exact out_val m ht r k ⟨0, hn⟩ hw (htl 0 le_rfl le_rfl)
  | succ n ih =>
    obtain ⟨Y, hF, hA⟩ := hX
    have hn' : n + 1 < 367 := hn
    have hA : outRel (am m ht) (Vm m) d0 ⟨n + 1, hn⟩ Y X := hA
    unfold outRel at hA
    have e1 : sg (n + 1) = pt (am m ht) ⟨n + 1, hn⟩ := sg_of _ hn'
    by_cases hst : stores (F := Ideal) (am m ht) ⟨n + 1, hn⟩
    · rw [if_pos hst] at hA
      rw [hA]
      have h1 := htl (n + 1) hsn le_rfl
      unfold tlN at h1
      rw [e1] at h1
      exact out_val m ht r k ⟨n + 1, hn⟩ (hw.trans hsn) h1
    · rw [if_neg hst] at hA
      subst hA
      have hne : s ≠ n + 1 := fun e => hst (by
        subst e
        unfold liveN at hl
        unfold oneN at hlast
        rw [e1] at hl hlast
        exact ⟨(isLive_iff _ _ _ _).mpr hl, (isLast_iff _ _ _).mpr hlast⟩)
      have hsn' : s ≤ n := by omega
      have hfl : ¬ ((cfgA (am m ht)).win (9 : Fin 10)).flush ⟨n, Nat.lt_of_succ_lt hn⟩ = true := fun h => by
        rcases (flush9 _ _).mp h with h | h
        · have h : n = 366 := h
          omega
        · exact h ((htl (n + 1) hsn le_rfl).trans (htl n hsn' (by omega)).symm)
      have := ((rdat (am m ht) (Vm m) d0).finds_of_pos (w := (9 : Fin 10)) (t := ⟨n + 1, hn⟩) rfl (Nat.succ_ne_zero n) X).mp hF
      exact ih (Nat.lt_of_succ_lt hn) hsn' (fun k h1 h2 => htl k h1 (by omega)) X (this.resolve_left hfl)

/-- What a point that writes the result's block back writes at a row of its tile. -/
theorem flushed_val (r : Fin 65536) (k : Fin 1024) (u : Fin (cfgA (am m ht)).N) (hf : ((cfgA (am m ht)).win (9 : Fin 10)).flush u = true)
    (htl : (tTile (am m ht) (ix1 (pt (am m ht) u))).toNat = r.val / 256)
    (X : S256x1024.Idx → EReal) (hX : (rdat (am m ht) (Vm m) d0).Leaves (9 : Fin 10) u X) : X (ix2 (ri r) k) = want m ht r k := by
  have T := tb_of m ht
  have hs := seg_facts T r (segOf m ht r) rfl
  have hwlt := (segOf m ht r).isLt
  have ew : sg (segOf m ht r).val = segOf m ht r := sg_of _ hwlt
  have hu : u.val < 367 := u.isLt
  have eu : sg u.val = pt (am m ht) u := sg_of _ hu
  have htu : tlN (tTile (am m ht)) u.val = r.val / 256 := by unfold tlN; rw [eu]; exact htl
  have htw : tlN (tTile (am m ht)) (segOf m ht r).val = r.val / 256 := by unfold tlN; rw [ew]; exact hs.1
  obtain ⟨s, h1, h2, h3, h4, h5⟩ := closing (liveN (tLo (am m ht)) (tHi (am m ht))) (oneN (tLast (am m ht))) (tlN (tTile (am m ht)))
    (last_at T) (366 - (segOf m ht r).val) (segOf m ht r).val (by omega) (by unfold liveN; rw [ew]; exact hs.2.1)
  have hmono := tl_le (tlN (tTile (am m ht))) (tl_mono T)
  have hsu : s ≤ u.val := by
    by_contra hlt
    rcases (flush9 _ _).mp hf with h | h
    · omega
    · have a1 := hmono (u.val + 1) s h2 (by omega)
      have a2 := hmono u.val (u.val + 1) (by omega) (by omega)
      omega
  refine leaves_val m ht r k s h2 h1 h3 h4 u.val u.isLt hsu (fun j hj1 hj2 => ?_) X hX
  have a1 := hmono s j (by omega) hj1
  have a2 := hmono j u.val hu hj2
  omega

end

/-! ## The result's array -/

theorem mem_of_emb {κ : Kind} {sp : Space} {s : Shape} {e : EltTy} (v : View sig κ sp s e) {x : s.Idx} {i} (h : v.emb x = i) : i ∈ v.set := h ▸ v.emb_mem_set x

/-- The result's contents, whole. -/
def wantAll (m : (ℓ : Loc nD τ sig) → Buf (Elt Ideal) ℓ) (ht : TablesOf (F := Ideal) m) : S65536x1024.Idx → EReal := fun j => want m ht (j 0) (j 1)

section

variable (m : (ℓ : Loc nD τ sig) → Buf (Elt Ideal) ℓ) (ht : TablesOf (F := Ideal) m)

theorem kernel_value {r : PUnit × MemSt nD τ sig (Elt Ideal)}
    (h : RDat.FramePost (cfgA (am m ht)) (rdat (am m ht) (Vm m)) (Vm m) r) : r.2.mem ((d0 : Thread nD τ).loc main_v4) = wantAll m ht := by
  obtain ⟨after, hL, hA⟩ := RDat.FramePost.exists_exact h d0
  refine (hA (9 : Fin 10)).trans (funext fun i => Dat.arrAt_forall_of_cover ((rdat (am m ht) (Vm m) d0).withAfter after) (9 : Fin 10)
    (fun (i : S65536x1024.Idx) (x : EReal) => x = wantAll m ht i) ?_ ?_ i)
  · intro t hf y
    obtain ⟨i, k, rfl⟩ : ∃ (i : Fin 256) (k : Fin 1024), y = ix2 i k := ⟨y 0, y 1, Idealize.ShloMosaic.eq_ix2 y⟩
    have hlt := (inRange_of ht).tile (ix1 (pt (am m ht) t))
    have e1 : ri (rowAt (am m ht) (tile_below m ht) t i) = i := Fin.ext (by
      show ((tTile (am m ht) (ix1 (pt (am m ht) t))).toNat * 256 + i.val) % 256 = i.val
      have := i.isLt
      omega)
    have e2 : (tTile (am m ht) (ix1 (pt (am m ht) t))).toNat = (rowAt (am m ht) (tile_below m ht) t i).val / 256 := by
      show _ = ((tTile (am m ht) (ix1 (pt (am m ht) t))).toNat * 256 + i.val) / 256
      have := i.isLt
      omega
    have key := flushed_val m ht (rowAt (am m ht) (tile_below m ht) t i) k t hf e2 (after (9 : Fin 10) t) (hL (9 : Fin 10) t hf)
    rw [e1] at key
    refine Eq.trans ?_ (key.trans (congrArg (wantAll m ht) (emb9_at (am m ht) (tile_below m ht) t i k)).symm)
    rfl
  · intro i
    obtain ⟨r, k, rfl⟩ : ∃ (r : Fin 65536) (k : Fin 1024), i = ix2 r k := ⟨i 0, i 1, Idealize.ShloMosaic.eq_ix2 i⟩
    have T := tb_of m ht
    have hs := seg_facts T r (segOf m ht r) rfl
    have ew : sg (segOf m ht r).val = segOf m ht r := sg_of _ (segOf m ht r).isLt
    have hwlt := (segOf m ht r).isLt
    obtain ⟨n, h1, h2, h3, h4⟩ := final (tlN (tTile (am m ht))) (tl_mono T) (366 - (segOf m ht r).val) (segOf m ht r).val (by omega)
    have e : (tTile (am m ht) (ix1 (pt (am m ht) ⟨n, h2⟩))).toNat = r.val / 256 := by
      unfold tlN at h3
      rw [ew, sg_of n h2] at h3
      exact h3.trans hs.1
    refine ⟨⟨n, h2⟩, (flush9 _ _).mpr h4, mem_of_emb (((cfgA (am m ht)).win (9 : Fin 10)).blk ⟨n, h2⟩).view (x := ix2 (ri r) k) ?_⟩
    refine (emb9_at (am m ht) (tile_below m ht) ⟨n, h2⟩ (ri r) k).trans (congrArg (fun q => ix2 q k) (Fin.ext ?_))
    show (tTile (am m ht) (ix1 (pt (am m ht) ⟨n, h2⟩))).toNat * 256 + r.val % 256 = r.val
    omega

end

end Cert.Proof.Moe

end
-- ==== Proof.MValue.lean ====
/-
  The expert kernel's result is its reference's.
-/
module

public import proofs.«01_k».proof.Proof.MKern

@[expose] public section

set_option maxRecDepth 16384
set_option Elab.async false

noncomputable section

namespace Cert.Proof.Moe

open Cert.Kernel2Ideal Cert.Kernel2Ideal.Gen
open Idealize.ShloMosaic Idealize.SL.Sem
open Idealize.ShloMosaic.TcCoe
open Idealize.ShloMosaic.Pipeline (RDat)

set_option maxHeartbeats 8000000 in
theorem algebraic2 : Cert.algebraic_Kernel2Ideal_Reference2Ideal := by
  intro m g m' g' hpre hagree
  refine ⟨fun c => wantAll m (tables_ideal hpre), (θ_run Cert.Kernel2Ideal.defs _ _).mono (fun _ h c => ?_) (run_main (F := Ideal) m (inRange_of (tables_ideal hpre)) g), ?_⟩
  · obtain rfl := dev_eq c
    exact ⟨kernel_value m (tables_ideal hpre) h.1, args_kept m (inRange_of (tables_ideal hpre)) h.1 d0⟩
  hlo_run
  simp -implicitDefEqProofs only [StableHlo.TRef.toBuf, StableHlo.TRef.ofBuf, cast_cast, cast_eq]
  obtain rfl := dev_eq c
  funext j
  obtain ⟨r, k, rfl⟩ : ∃ (r : Fin 65536) (k : Fin 1024), j = ix2 r k := ⟨j 0, j 1, Idealize.ShloMosaic.eq_ix2 j⟩
  show _ = want m (tables_ideal hpre) r k
  pointwise
  have hA := fun h1 h2 h3 => gather_at (m ((d0 : Thread nD τ).loc main_arg2)) (m ((d0 : Thread nD τ).loc main_arg0)) (tables_ideal hpre).seg_lt h1 h2 h3 r
  have hB := fun h1 h2 h3 => gather_at (m ((d0 : Thread nD τ).loc main_arg3)) (m ((d0 : Thread nD τ).loc main_arg0)) (tables_ideal hpre).seg_lt h1 h2 h3 r
  rw [hA, hB]
  have key := want_eq m (tables_ideal hpre) r k
  simp only [nrm, sil, rowLen, under] at key
  exact key

end Cert.Proof.Moe

end
-- ==== Proof.lean ====
/-
  The claims: the programs' frames and their references', the row gather's result against its reference's at
  both readings, and the expert kernel's against its reference's at the ideal one.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Values
public import proofs.«01_k».proof.Proof.MFrames
public import proofs.«01_k».proof.Proof.MValue
public import Idealize.ShloMosaic.Adequacy
public import Idealize.ShloMosaic.Init
public import Idealize.ShloMosaic.Lib.Claim
public import Idealize.ShloMosaic.Lib.StableHlo.RunHlo

@[expose] public section

noncomputable section

namespace Cert.Proof

open Idealize.ShloMosaic Idealize.SL.Sem Cert.Proof.Gather

/-! ## The side conditions of the plain reference and of the precondition -/

instance referenceFacts₀ : Cert.Reference.Facts₀ where
  bcast_S_S65536 := Cert.ReferenceIdeal.Gen.bcast_S_S65536
  bcast_S65536_S65536x1_0 := Cert.ReferenceIdeal.Gen.bcast_S65536_S65536x1_0
  shapeCasts_S65536x1024_S8x8192x1024 := Cert.ReferenceIdeal.Gen.shapeCasts_S65536x1024_S8x8192x1024
  gather_S65536x1024_S65536x1_S65536x1024_1_0_n_n_0_1_11024_wf :=
    Cert.ReferenceIdeal.Gen.gather_S65536x1024_S65536x1_S65536x1024_1_0_n_n_0_1_11024_wf
instance referenceFacts : Cert.Reference.Facts where
instance preFacts : Cert.Pre_pos_in_rows.Facts where
  bcast_S_S65536 := Cert.ReferenceIdeal.Gen.bcast_S_S65536

/-! ## The runs of the kernel -/

theorem ok_ideal {m : (ℓ : Loc Cert.KernelIdeal.nD Cert.KernelIdeal.τ Cert.KernelIdeal.sig) → Buf (Elt Ideal) ℓ}
    (h : Cert.Pre_KernelIdeal m) : PreOK (F := Ideal) m := fun d => inRange_of_fn (F := Ideal) _ _ (h d)
theorem ok_bits {m : (ℓ : Loc Cert.Kernel.nD Cert.Kernel.τ Cert.Kernel.sig) → Buf (Elt Bits) ℓ}
    (h : Cert.Pre_Kernel m) : PreOK (F := Bits) m := fun d => inRange_of_fn (F := Bits) _ _ (h d)

theorem frame_kernelIdeal : Cert.quiescent_KernelIdeal := fun m g h =>
  (θ_run Cert.KernelIdeal.defs _ _).mono (fun _ r => ⟨fun c => (r.1 c).2, r.2⟩) (run_main (F := Ideal) m g (ok_ideal h))
theorem frame_kernel : Cert.quiescent_Kernel := fun m g h =>
  (θ_run Cert.KernelIdeal.defs _ _).mono (fun _ r => ⟨fun c => (r.1 c).2, r.2⟩) (run_main (F := Bits) m g (ok_bits h))

/-! ## The references' frames -/

theorem frame_referenceIdeal : Cert.quiescent_ReferenceIdeal := by
  intro m g _
  hlo_run
  · exact fun _ => ⟨trivial, trivial⟩
  · exact sem_eq_zero_of_no_sems (by decide) _
theorem frame_reference : Cert.quiescent_Reference := by
  intro m g _
  hlo_run
  · exact fun _ => ⟨trivial, trivial⟩
  · exact sem_eq_zero_of_no_sems (by decide) _

/-! ## The result -/

theorem algebraic : Cert.algebraic_KernelIdeal_ReferenceIdeal := by
  intro m g m' g' hpre hagree
  refine ⟨fun c => Rv m (ok_ideal hpre) c, (θ_run Cert.KernelIdeal.defs _ _).mono (fun _ r c => r.1 c) (run_main (F := Ideal) m g (ok_ideal hpre)), ?_⟩
  hlo_run
  exact congrArg (fun A => shapeCast Cert.KernelIdeal.S8x8192x1024 A Cert.KernelIdeal.Gen.shapeCasts_S65536x1024_S8x8192x1024)
    (gather_OUT (F := Ideal) Cert.ReferenceIdeal.gather_S65536x1024_S65536x1_S65536x1024_1_0_n_n_0_1_11024 rfl rfl rfl rfl rfl _ _ _ _ (ok_ideal hpre c)).symm

theorem bitexact : Cert.bitexact_Kernel_Reference := by
  intro m g m' g' hpre hagree
  refine ⟨fun c => Rv (F := Bits) m (ok_bits hpre) c, (θ_run Cert.KernelIdeal.defs _ _).mono (fun _ r c => r.1 c) (run_main (F := Bits) m g (ok_bits hpre)), ?_⟩
  hlo_run
  exact congrArg (fun A => shapeCast Cert.KernelIdeal.S8x8192x1024 A Cert.KernelIdeal.Gen.shapeCasts_S65536x1024_S8x8192x1024)
    (gather_OUT (F := Bits) Cert.Reference.gather_S65536x1024_S65536x1_S65536x1024_1_0_n_n_0_1_11024 rfl rfl rfl rfl rfl _ _ _ _ (ok_bits hpre c)).symm

theorem claim : Cert.Claim :=
  ⟨Cert.Kernel.Gen.facts, Cert.KernelIdeal.Gen.facts, Cert.ReferenceIdeal.Gen.facts, referenceFacts,
    Cert.Kernel2.Gen.facts, Cert.Kernel2Ideal.Gen.facts, Cert.Reference2Ideal.Gen.facts, preFacts,
    Cert.Pre_tables_of_segments.Gen.facts,
    frame_kernel, frame_kernelIdeal, frame_referenceIdeal, fun m g _ => frame_referenceIdeal m g trivial, frame_reference,
    Moe.frame_kernel2, Moe.frame_kernel2Ideal, Moe.frame_reference2Ideal,
    fun m g _ => Moe.frame_reference2Ideal m g trivial, trivial, algebraic, bitexact, trivial, Moe.algebraic2⟩

end Cert.Proof

end
